-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_weights [hPre_finite_weights : Cert.Pre_finite_weights.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_weights.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).1 = (fun _ => 1#1)
    ∧ (Cert.Pre_finite_weights.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.1 = (fun _ => 1#1)
    ∧ (Cert.Pre_finite_weights.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.1 = (fun _ => 1#1)
    ∧ (Cert.Pre_finite_weights.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_weights [hPre_finite_weights : Cert.Pre_finite_weights.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_weights.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).1 = (fun _ => 1#1)
    ∧ (Cert.Pre_finite_weights.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.1 = (fun _ => 1#1)
    ∧ (Cert.Pre_finite_weights.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.1 = (fun _ => 1#1)
    ∧ (Cert.Pre_finite_weights.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_finite_weights [hKernel3Ideal : Cert.Kernel3Ideal.Facts] [hPre_finite_weights : Cert.Pre_finite_weights.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_weights m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_finite_weights [hReference3Ideal : Cert.Reference3Ideal.Facts] [hPre_finite_weights : Cert.Pre_finite_weights.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_weights m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite_weights [hKernel3Ideal : Cert.Kernel3Ideal.Facts] [hReference3Ideal : Cert.Reference3Ideal.Facts] [hPre_finite_weights : Cert.Pre_finite_weights.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_weights m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v92) = v0 c
          ∧ r.2.mem ((c.tc : Thread Cert.Reference3Ideal.nD Cert.Reference3Ideal.τ).loc Cert.Reference3Ideal.main_v93) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v21) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hPre_finite_weights : Cert.Pre_finite_weights.Facts),
    quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_weights (hKernel3Ideal := hKernel3Ideal) (hPre_finite_weights := hPre_finite_weights)
    ∧ quiescent_Reference3Ideal (hReference3Ideal := hReference3Ideal)
    ∧ quiescent_Reference3Ideal_pre_finite_weights (hReference3Ideal := hReference3Ideal) (hPre_finite_weights := hPre_finite_weights)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_weights (hKernel3Ideal := hKernel3Ideal) (hReference3Ideal := hReference3Ideal) (hPre_finite_weights := hPre_finite_weights)
    ∧ preserves_Kernel4_Kernel4Ideal
    ∧ algebraic_Kernel4Ideal_Reference4Ideal (hKernel4Ideal := hKernel4Ideal) (hReference4Ideal := hReference4Ideal)
    ∧ preserves_Kernel5_Kernel5Ideal
-- ==== Pre_finite_weights.lean ====
abbrev S32768x1024 : Shape := ⟨2, ![32768, 1024]⟩
abbrev S1024 : Shape := ⟨1, ![1024]⟩
abbrev S1024x12288 : Shape := ⟨2, ![1024, 12288]⟩
abbrev S1024x128 : Shape := ⟨2, ![1024, 128]⟩
abbrev S3x1024 : Shape := ⟨2, ![3, 1024]⟩
abbrev S4x2048 : Shape := ⟨2, ![4, 2048]⟩
abbrev S2048 : Shape := ⟨1, ![2048]⟩
abbrev S_ : Shape := ⟨0, ![]⟩

class Facts : Prop where
  bcast_S_S1024 : S_.BroadcastsInDim S1024 (![] : Fin 0 → Fin S1024.rank)
  bitsLt_bf16_f32 : FTy.bits .bf16 < FTy.bits .f32
  bcast_S_S1024x12288 : S_.BroadcastsInDim S1024x12288 (![] : Fin 0 → Fin S1024x12288.rank)
  bcast_S_S4x2048 : S_.BroadcastsInDim S4x2048 (![] : Fin 0 → Fin S4x2048.rank)
  bcast_S_S2048 : S_.BroadcastsInDim S2048 (![] : Fin 0 → Fin S2048.rank)

variable [Facts]

def fn {F : FTy → Type} [FloatOps F] (main_arg0 : FVec F S32768x1024 .f32) (main_arg1 : FVec F S1024 .f32) (main_arg2 : FVec F S1024x12288 .bf16) (main_arg3 : FVec F S1024x128 .bf16) (main_arg4 : FVec F S3x1024 .f32) (main_arg5 : FVec F S4x2048 .f32) (main_arg6 : FVec F S2048 .f32) : IVec S1024 1 × IVec S1024x12288 1 × IVec S4x2048 1 × IVec S2048 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x12288 .f32 := (extf .f32 · bitsLt_bf16_f32) main_arg2
  let main_v4 : FVec F S1024x12288 .f32 := Host.absf main_v3
  let main_cst_0 : FVec F S_ .f32 := constant S_ .f32 0x7F800000#32
  let main_v5 : FVec F S1024x12288 .f32 := broadcastInDim S1024x12288 ![] bcast_S_S1024x12288 main_cst_0
  let main_v6 : IVec S1024x12288 1 := cmpf .olt main_v4 main_v5
  let main_v7 : FVec F S4x2048 .f32 := Host.absf main_arg5
  let main_cst_1 : FVec F S_ .f32 := constant S_ .f32 0x7F800000#32
  let main_v8 : FVec F S4x2048 .f32 := broadcastInDim S4x2048 ![] bcast_S_S4x2048 main_cst_1
  let main_v9 : IVec S4x2048 1 := cmpf .olt main_v7 main_v8
  let main_v10 : FVec F S2048 .f32 := Host.absf main_arg6
  let main_cst_2 : FVec F S_ .f32 := constant S_ .f32 0x7F800000#32
  let main_v11 : FVec F S2048 .f32 := broadcastInDim S2048 ![] bcast_S_S2048 main_cst_2
  let main_v12 : IVec S2048 1 := cmpf .olt main_v10 main_v11
  (main_v2, main_v6, main_v9, main_v12)
-- ==== Kernel2.lean ====
abbrev S32768x1024 : Shape := ⟨2, ![32768, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 8
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x4096, .bf16⟩
  | .hbm, ⟨3, _⟩ => ⟨S4096x1024, .bf16⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S32768x1024 : Shape := ⟨2, ![32768, 1024]⟩
abbrev S1024 : Shape := ⟨1, ![1024]⟩
abbrev S1024x4096 : Shape := ⟨2, ![1024, 4096]⟩
abbrev S4096x1024 : Shape := ⟨2, ![4096, 1024]⟩
abbrev S4x8192x1024 : Shape := ⟨3, ![4, 8192, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x4096 : Shape := ⟨3, ![4, 8192, 4096]⟩

abbrev nBuf : Space → Nat
  | .hbm => 48
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x4096, .bf16⟩
  | .hbm, ⟨3, _⟩ => ⟨S4096x1024, .bf16⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S4x8192x1024, .f32⟩
  | .hbm, ⟨8, _⟩ => ⟨S4x8192x1024, .f32⟩
  | .hbm, ⟨9, _⟩ => ⟨S_, .f32⟩
  | .hbm, ⟨10, _⟩ => ⟨S4x8192, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S4x8192x1, .f32⟩
  | .hbm, ⟨19, _⟩ => ⟨S4x8192x1024, .f32⟩
  | .hbm, ⟨20, _⟩ => ⟨S4x8192x1024, .f32⟩
  | .hbm, ⟨21, _⟩ => ⟨S1x1x1024, .f32⟩
  | .hbm, ⟨22, _⟩ => ⟨S4x8192x1024, .f32⟩
  | .hbm, ⟨23, _⟩ => ⟨S4x8192x1024, .f32⟩
  | .hbm, ⟨24, _⟩ => ⟨S4x8192x4096, .f32⟩
  | .hbm, ⟨25, _⟩ => ⟨S_, .f32⟩
  | .hbm, ⟨26, _⟩ => ⟨S4x8192x4096, .f32⟩
  | .hbm, ⟨27, _⟩ => ⟨S4x8192x4096, .f32⟩
  | .hbm, ⟨28, _⟩ => ⟨S4x8192x4096, .f32⟩
  | .hbm, ⟨29, _⟩ => ⟨S4x8192x1024, .f32⟩
  | .hbm, ⟨30, _⟩ => ⟨S4x8192x1024, .f32⟩
  | .hbm, ⟨31, _⟩ => ⟨S4x8192x1024, .f32⟩
  | .hbm, ⟨32, _⟩ => ⟨S_, .f32⟩
  | .hbm, ⟨33, _⟩ => ⟨S4x8192, .f32⟩
  | .hbm, ⟨34, _⟩ => ⟨S4x8192x1, .f32⟩
  | .hbm, ⟨35, _⟩ => ⟨S_, .f32⟩
  | .hbm, ⟨36, _⟩ => ⟨S4x8192x1, .f32⟩
  | .hbm, ⟨37, _⟩ => ⟨S4x8192x1, .f32⟩
  | .hbm, ⟨38, _⟩ => ⟨S_, .f32⟩
  | .hbm, ⟨39, _⟩ => ⟨S4x8192x1, .f32⟩
  | .hbm, ⟨40, _⟩ => ⟨S4x8192x1, .f32⟩
  | .hbm, ⟨41, _⟩ => ⟨S4x8192x1, .f32⟩
  | .hbm, ⟨42, _⟩ => ⟨S4x8192x1024, .f32⟩
  | .hbm, ⟨43, _⟩ => ⟨S4x8192x1024, .f32⟩
  | .hbm, ⟨44, _⟩ => ⟨S1x1x1024, .f32⟩
  | .hbm, ⟨45, _⟩ => ⟨S4x8192x1024, .f32⟩
  | .hbm, ⟨46, _⟩ => ⟨S4x8192x1024, .f32⟩
  | .hbm, ⟨47, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_cst : Ref sig .tc := ⟨.hbm, 25, rfl⟩
abbrev main_call0_v0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== Kernel3.lean ====
abbrev S32768x1024 : Shape := ⟨2, ![32768, 1024]⟩
abbrev S1024 : Shape := ⟨1, ![1024]⟩
abbrev S1024x12288 : Shape := ⟨2, ![1024, 12288]⟩
abbrev S1024x128 : Shape := ⟨2, ![1024, 128]⟩
abbrev S3x1024 : Shape := ⟨2, ![3, 1024]⟩
abbrev S4x2048 : Shape := ⟨2, ![4, 2048]⟩
abbrev S2048 : Shape := ⟨1, ![2048]⟩
abbrev S1x1024 : Shape := ⟨2, ![1, 1024]⟩
abbrev S1x2048 : Shape := ⟨2, ![1, 2048]⟩
abbrev S32768x10240 : Shape := ⟨2, ![32768, 10240]⟩
abbrev S32768x128 : Shape := ⟨2, ![32768, 128]⟩
abbrev S256x1024 : Shape := ⟨2, ![256, 1024]⟩
abbrev S256x10240 : Shape := ⟨2, ![256, 10240]⟩
abbrev S256x128 : Shape := ⟨2, ![256, 128]⟩
abbrev S3x8x264x128 : Shape := ⟨4, ![3, 8, 264, 128]⟩
abbrev S3x8x8x128 : Shape := ⟨4, ![3, 8, 8, 128]⟩
abbrev S256 : Shape := ⟨1, ![256]⟩
abbrev S256x1 : Shape := ⟨2, ![256, 1]⟩
abbrev S1024x1024 : Shape := ⟨2, ![1024, 1024]⟩
abbrev S1x1x256x128 : Shape := ⟨4, ![1, 1, 256, 128]⟩
abbrev S4x1024 : Shape := ⟨2, ![4, 1024]⟩

abbrev nBuf : Space → Nat
  | .hbm => 11
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x12288, .bf16⟩
  | .hbm, ⟨3, _⟩ => ⟨S1024x128, .bf16⟩
  | .hbm, ⟨4, _⟩ => ⟨S3x1024, .f32⟩
  | .hbm, ⟨5, _⟩ => ⟨S4x2048, .f32⟩
  | .hbm, ⟨6, _⟩ => ⟨S2048, .f32⟩
  | .hbm, ⟨7, _⟩ => ⟨S1x1024, .f32⟩
  | .hbm, ⟨8, _⟩ => ⟨S1x2048, .f32⟩
  | .hbm, ⟨9, _⟩ => ⟨S32768x10240, .bf16⟩
  | .hbm, ⟨10, _⟩ => ⟨S32768x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x12288, .bf16⟩
  | .local _ .vmem, ⟨4, _⟩ => ⟨S1024x128, .bf16⟩
  | .local _ .vmem, ⟨5, _⟩ => ⟨S3x1024, .f32⟩
  | .local _ .vmem, ⟨6, _⟩ => ⟨S4x2048, .f32⟩
  | .local _ .vmem, ⟨7, _⟩ => ⟨S1x2048, .f32⟩
  | .local _ .vmem, ⟨8, _⟩ => ⟨S256x10240, .bf16⟩
  | .local _ .vmem, ⟨9, _⟩ => ⟨S256x10240, .bf16⟩
  | .local _ .vmem, ⟨10, _⟩ => ⟨S256x128, .f32⟩
  | .local _ .vmem, ⟨11, _⟩ => ⟨S256x128, .f32⟩
  | .local _ .vmem, ⟨12, _⟩ => ⟨S3x8x264x128, .f32⟩
  | .local _ .vmem, ⟨13, _⟩ => ⟨S256x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x12288 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x10240 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S32768x1024 : Shape := ⟨2, ![32768, 1024]⟩
abbrev S1024 : Shape := ⟨1, ![1024]⟩
abbrev S1024x12288 : Shape := ⟨2, ![1024, 12288]⟩
abbrev S1024x128 : Shape := ⟨2, ![1024, 128]⟩
abbrev S3x1024 : Shape := ⟨2, ![3, 1024]⟩
abbrev S4x2048 : Shape := ⟨2, ![4, 2048]⟩
abbrev S2048 : Shape := ⟨1, ![2048]⟩
abbrev S4x8192x1024 : Shape := ⟨3, ![4, 8192, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x12288 : Shape := ⟨3, ![4, 8192, 12288]⟩
abbrev S4x8192x128 : Shape := ⟨3, ![4, 8192, 128]⟩
abbrev S4x8192x2048 : Shape := ⟨3, ![4, 8192, 2048]⟩
abbrev S4x8192x3072 : Shape := ⟨3, ![4, 8192, 3072]⟩
abbrev S4x8194x1024 : Shape := ⟨3, ![4, 8194, 1024]⟩
abbrev S1x1024 : Shape := ⟨2, ![1, 1024]⟩
abbrev S4x8195x2048 : Shape := ⟨3, ![4, 8195, 2048]⟩
abbrev S1x2048 : Shape := ⟨2, ![1, 2048]⟩
abbrev S1x1x2048 : Shape := ⟨3, ![1, 1, 2048]⟩
abbrev S4x8192x10240 : Shape := ⟨3, ![4, 8192, 10240]⟩
abbrev S32768x10240 : Shape := ⟨2, ![32768, 10240]⟩
abbrev S32768x128 : Shape := ⟨2, ![32768, 128]⟩

abbrev nBuf : Space → Nat
  | .hbm => 134
  | .vmem => 0
  | .smem => 0
  | _ => 0

abbrev hbmTy0_0 (i : Nat) : BufTy := match i % 128 with
  | 0 => ⟨S32768x1024, .f32⟩
  | 1 => ⟨S1024, .f32⟩
  | 2 => ⟨S1024x12288, .bf16⟩
  | 3 => ⟨S1024x128, .bf16⟩
  | 4 => ⟨S3x1024, .f32⟩
  | 5 => ⟨S4x2048, .f32⟩
  | 6 => ⟨S2048, .f32⟩
  | 7 => ⟨S4x8192x1024, .f32⟩
  | 8 => ⟨S4x8192x1024, .f32⟩
  | 9 => ⟨S_, .f32⟩
  | 10 => ⟨S4x8192, .f32⟩
  | 11 => ⟨S4x8192x1, .f32⟩
  | 12 => ⟨S_, .f32⟩
  | 13 => ⟨S4x8192x1, .f32⟩
  | 14 => ⟨S4x8192x1, .f32⟩
  | 15 => ⟨S_, .f32⟩
  | 16 => ⟨S4x8192x1, .f32⟩
  | 17 => ⟨S4x8192x1, .f32⟩
  | 18 => ⟨S4x8192x1, .f32⟩
  | 19 => ⟨S4x8192x1024, .f32⟩
  | 20 => ⟨S4x8192x1024, .f32⟩
  | 21 => ⟨S1x1x1024, .f32⟩
  | 22 => ⟨S4x8192x1024, .f32⟩
  | 23 => ⟨S4x8192x1024, .f32⟩
  | 24 => ⟨S1024x12288, .f32⟩
  | 25 => ⟨S4x8192x12288, .f32⟩
  | 26 => ⟨S1024x128, .f32⟩
  | 27 => ⟨S4x8192x128, .f32⟩
  | 28 => ⟨S4x8192x1024, .f32⟩
  | 29 => ⟨S4x8192x1024, .f32⟩
  | 30 => ⟨S4x8192x1024, .f32⟩
  | 31 => ⟨S4x8192x1024, .f32⟩
  | 32 => ⟨S4x8192x2048, .f32⟩
  | 33 => ⟨S4x8192x1024, .f32⟩
  | 34 => ⟨S4x8192x1024, .f32⟩
  | 35 => ⟨S4x8192x1024, .f32⟩
  | 36 => ⟨S4x8192x3072, .f32⟩
  | 37 => ⟨S4x8192x1024, .f32⟩
  | 38 => ⟨S_, .i32⟩
  | 39 => ⟨S_, .f32⟩
  | 40 => ⟨S4x8194x1024, .f32⟩
  | 41 => ⟨S4x8192x1024, .f32⟩
  | 42 => ⟨S1x1024, .f32⟩
  | 43 => ⟨S1024, .f32⟩
  | 44 => ⟨S1x1x1024, .f32⟩
  | 45 => ⟨S4x8192x1024, .f32⟩
  | 46 => ⟨S4x8192x1024, .f32⟩
  | 47 => ⟨S4x8192x1024, .f32⟩
  | 48 => ⟨S1x1024, .f32⟩
  | 49 => ⟨S1024, .f32⟩
  | 50 => ⟨S1x1x1024, .f32⟩
  | 51 => ⟨S4x8192x1024, .f32⟩
  | 52 => ⟨S4x8192x1024, .f32⟩
  | 53 => ⟨S4x8192x1024, .f32⟩
  | 54 => ⟨S4x8192x1024, .f32⟩
  | 55 => ⟨S1x1024, .f32⟩
  | 56 => ⟨S1024, .f32⟩
  | 57 => ⟨S1x1x1024, .f32⟩
  | 58 => ⟨S4x8192x1024, .f32⟩
  | 59 => ⟨S4x8192x1024, .f32⟩
  | 60 => ⟨S4x8192x1024, .f32⟩
  | 61 => ⟨S4x8192x1024, .f32⟩
  | 62 => ⟨S4x8192x1024, .f32⟩
  | 63 => ⟨S4x8192x1024, .f32⟩
  | 64 => ⟨S_, .f32⟩
  | 65 => ⟨S4x8192x1024, .f32⟩
  | 66 => ⟨S4x8192x1024, .f32⟩
  | 67 => ⟨S_, .f32⟩
  | 68 => ⟨S4x8192x1024, .f32⟩
  | 69 => ⟨S4x8192x1024, .f32⟩
  | 70 => ⟨S4x8192x1024, .f32⟩
  | 71 => ⟨S_, .i32⟩
  | 72 => ⟨S_, .f32⟩
  | 73 => ⟨S4x8195x2048, .f32⟩
  | 74 => ⟨S4x8192x2048, .f32⟩
  | 75 => ⟨S1x2048, .f32⟩
  | 76 => ⟨S2048, .f32⟩
  | 77 => ⟨S1x1x2048, .f32⟩
  | 78 => ⟨S4x8192x2048, .f32⟩
  | 79 => ⟨S4x8192x2048, .f32⟩
  | 80 => ⟨S4x8192x2048, .f32⟩
  | 81 => ⟨S1x2048, .f32⟩
  | 82 => ⟨S2048, .f32⟩
  | 83 => ⟨S1x1x2048, .f32⟩
  | 84 => ⟨S4x8192x2048, .f32⟩
  | 85 => ⟨S4x8192x2048, .f32⟩
  | 86 => ⟨S4x8192x2048, .f32⟩
  | 87 => ⟨S4x8192x2048, .f32⟩
  | 88 => ⟨S1x2048, .f32⟩
  | 89 => ⟨S2048, .f32⟩
  | 90 => ⟨S1x1x2048, .f32⟩
  | 91 => ⟨S4x8192x2048, .f32⟩
  | 92 => ⟨S4x8192x2048, .f32⟩
  | 93 => ⟨S4x8192x2048, .f32⟩
  | 94 => ⟨S4x8192x2048, .f32⟩
  | 95 => ⟨S1x2048, .f32⟩
  | 96 => ⟨S2048, .f32⟩
  | 97 => ⟨S1x1x2048, .f32⟩
  | 98 => ⟨S4x8192x2048, .f32⟩
  | 99 => ⟨S4x8192x2048, .f32⟩
  | 100 => ⟨S4x8192x2048, .f32⟩
  | 101 => ⟨S1x1x2048, .f32⟩
  | 102 => ⟨S4x8192x2048, .f32⟩
  | 103 => ⟨S4x8192x2048, .f32⟩
  | 104 => ⟨S4x8192x2048, .f32⟩
  | 105 => ⟨S4x8192x2048, .f32⟩
  | 106 => ⟨S_, .f32⟩
  | 107 => ⟨S4x8192x2048, .f32⟩
  | 108 => ⟨S4x8192x2048, .f32⟩
  | 109 => ⟨S_, .f32⟩
  | 110 => ⟨S4x8192x2048, .f32⟩
  | 111 => ⟨S4x8192x2048, .f32⟩
  | 112 => ⟨S4x8192x2048, .f32⟩
  | 113 => ⟨S4x8192x1024, .f32⟩
  | 114 => ⟨S4x8192x1024, .f32⟩
  | 115 => ⟨S_, .f32⟩
  | 116 => ⟨S4x8192x1024, .f32⟩
  | 117 => ⟨S4x8192x1024, .f32⟩
  | 118 => ⟨S_, .f32⟩
  | 119 => ⟨S4x8192x1024, .f32⟩
  | 120 => ⟨S4x8192x1024, .f32⟩
  | 121 => ⟨S4x8192x1024, .f32⟩
  | 122 => ⟨S4x8192x3072, .f32⟩
  | 123 => ⟨S4x8192x3072, .f32⟩
  | 124 => ⟨S_, .f32⟩
  | 125 => ⟨S4x8192x3072, .f32⟩
  | 126 => ⟨S4x8192x3072, .f32⟩
  | 127 => ⟨S_, .f32⟩
  | _ => ⟨S32768x1024, .f32⟩

abbrev hbmTy0_1 (i : Nat) : BufTy := match i % 128 with
  | 0 => ⟨S4x8192x3072, .f32⟩
  | 1 => ⟨S4x8192x3072, .f32⟩
  | 2 => ⟨S4x8192x10240, .f32⟩
  | 3 => ⟨S4x8192x10240, .bf16⟩
  | 4 => ⟨S32768x10240, .bf16⟩
  | 5 => ⟨S32768x128, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c : Ref sig .tc := ⟨.hbm, 38, rfl⟩
abbrev main_call0_v0 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_call1_v0 : Ref sig .tc := ⟨.hbm, 62, rfl⟩
abbrev main_call1_v1 : Ref sig .tc := ⟨.hbm, 63, rfl⟩
abbrev main_call1_cst : Ref sig .tc := ⟨.hbm, 64, rfl⟩
abbrev main_call1_v2 : Ref sig .tc := ⟨.hbm, 65, rfl⟩
abbrev main_call1_v3 : Ref sig .tc := ⟨.hbm, 66, rfl⟩
abbrev main_call1_cst_0 : Ref sig .tc := ⟨.hbm, 67, rfl⟩
abbrev main_call1_v4 : Ref sig .tc := ⟨.hbm, 68, rfl⟩
abbrev main_call1_v5 : Ref sig .tc := ⟨.hbm, 69, rfl⟩
abbrev main_v50 : Ref sig .tc := ⟨.hbm, 70, rfl⟩
abbrev main_c_2 : Ref sig .tc := ⟨.hbm, 71, rfl⟩
abbrev main_call2_v0 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_call3_v0 : Ref sig .tc := ⟨.hbm, 104, rfl⟩
abbrev main_call3_v1 : Ref sig .tc := ⟨.hbm, 105, rfl⟩
abbrev main_call3_cst : Ref sig .tc := ⟨.hbm, 106, rfl⟩
abbrev main_call3_v2 : Ref sig .tc := ⟨.hbm, 107, rfl⟩
abbrev main_call3_v3 : Ref sig .tc := ⟨.hbm, 108, rfl⟩
abbrev main_call3_cst_0 : Ref sig .tc := ⟨.hbm, 109, rfl⟩
abbrev main_call3_v4 : Ref sig .tc := ⟨.hbm, 110, rfl⟩
abbrev main_call3_v5 : Ref sig .tc := ⟨.hbm, 111, rfl⟩
abbrev main_v82 : Ref sig .tc := ⟨.hbm, 112, rfl⟩
abbrev main_call4_v0 : Ref sig .tc := ⟨.hbm, 113, rfl⟩
abbrev main_call4_v1 : Ref sig .tc := ⟨.hbm, 114, rfl⟩
abbrev main_call4_cst : Ref sig .tc := ⟨.hbm, 115, rfl⟩
abbrev main_call4_v2 : Ref sig .tc := ⟨.hbm, 116, rfl⟩
abbrev main_call4_v3 : Ref sig .tc := ⟨.hbm, 117, rfl⟩
abbrev main_call4_cst_0 : Ref sig .tc := ⟨.hbm, 118, rfl⟩
abbrev main_call4_v4 : Ref sig .tc := ⟨.hbm, 119, rfl⟩
abbrev main_call4_v5 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_3 : Ref sig .tc := ⟨.hbm, 124, rfl⟩
abbrev main_v86 : Ref sig .tc := ⟨.hbm, 125, rfl⟩
abbrev main_v87 : Ref sig .tc := ⟨.hbm, 126, rfl⟩
abbrev main_cst_4 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩

abbrev nD : Nat := 1
abbrev τ : Topo := Topo.v7x

variable {F : FTy → Type} [FloatOps F]
-- ==== Kernel4.lean ====
abbrev S32768x1024 : Shape := ⟨2, ![32768, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 8
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x4096, .bf16⟩
  | .hbm, ⟨3, _⟩ => ⟨S4096x1024, .bf16⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S32768x1024 : Shape := ⟨2, ![32768, 1024]⟩
abbrev S1024 : Shape := ⟨1, ![1024]⟩
abbrev S1024x4096 : Shape := ⟨2, ![1024, 4096]⟩
abbrev S4096x1024 : Shape := ⟨2, ![4096, 1024]⟩
abbrev S4x8192x1024 : Shape := ⟨3, ![4, 8192, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x4096 : Shape := ⟨3, ![4, 8192, 4096]⟩

abbrev nBuf : Space → Nat
  | .hbm => 32
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x4096, .bf16⟩
  | .hbm, ⟨3, _⟩ => ⟨S4096x1024, .bf16⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S4x8192x1024, .f32⟩
  | .hbm, ⟨8, _⟩ => ⟨S4x8192x1024, .f32⟩
  | .hbm, ⟨9, _⟩ => ⟨S_, .f32⟩
  | .hbm, ⟨10, _⟩ => ⟨S4x8192, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S4x8192x1, .f32⟩
  | .hbm, ⟨19, _⟩ => ⟨S4x8192x1024, .f32⟩
  | .hbm, ⟨20, _⟩ => ⟨S4x8192x1024, .f32⟩
  | .hbm, ⟨21, _⟩ => ⟨S1x1x1024, .f32⟩
  | .hbm, ⟨22, _⟩ => ⟨S4x8192x1024, .f32⟩
  | .hbm, ⟨23, _⟩ => ⟨S4x8192x1024, .f32⟩
  | .hbm, ⟨24, _⟩ => ⟨S4x8192x4096, .f32⟩
  | .hbm, ⟨25, _⟩ => ⟨S_, .f32⟩
  | .hbm, ⟨26, _⟩ => ⟨S4x8192x4096, .f32⟩
  | .hbm, ⟨27, _⟩ => ⟨S4x8192x4096, .f32⟩
  | .hbm, ⟨28, _⟩ => ⟨S4x8192x4096, .f32⟩
  | .hbm, ⟨29, _⟩ => ⟨S4x8192x1024, .f32⟩
  | .hbm, ⟨30, _⟩ => ⟨S4x8192x1024, .f32⟩
  | .hbm, ⟨31, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_cst : Ref sig .tc := ⟨.hbm, 25, rfl⟩
abbrev main_call0_v0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Kernel5.lean ====
abbrev S32768x1024 : Shape := ⟨2, ![32768, 1024]⟩
abbrev S32768x10240 : Shape := ⟨2, ![32768, 10240]⟩
abbrev S32768x128 : Shape := ⟨2, ![32768, 128]⟩
abbrev S16 : Shape := ⟨1, ![16]⟩
abbrev S1024 : Shape := ⟨1, ![1024]⟩
abbrev S16x512 : Shape := ⟨2, ![16, 512]⟩
abbrev S512 : Shape := ⟨1, ![512]⟩
abbrev S256 : Shape := ⟨1, ![256]⟩
abbrev S1024x1024 : Shape := ⟨2, ![1024, 1024]⟩
abbrev S_ : Shape := ⟨0, ![]⟩
abbrev S128 : Shape := ⟨1, ![128]⟩
abbrev S1x128 : Shape := ⟨2, ![1, 128]⟩
abbrev S16x64 : Shape := ⟨2, ![16, 64]⟩
abbrev S1x1024 : Shape := ⟨2, ![1, 1024]⟩
abbrev S128x512 : Shape := ⟨2, ![128, 512]⟩
abbrev S1x512 : Shape := ⟨2, ![1, 512]⟩
abbrev S1x256 : Shape := ⟨2, ![1, 256]⟩
abbrev S512x1024 : Shape := ⟨2, ![512, 1024]⟩
abbrev S512x2048 : Shape := ⟨2, ![512, 2048]⟩
abbrev S512x512 : Shape := ⟨2, ![512, 512]⟩
abbrev S512x128 : Shape := ⟨2, ![512, 128]⟩
abbrev S4x128x256 : Shape := ⟨3, ![4, 128, 256]⟩
abbrev S4x256x128 : Shape := ⟨3, ![4, 256, 128]⟩
abbrev S128x128 : Shape := ⟨2, ![128, 128]⟩
abbrev S256x1024 : Shape := ⟨2, ![256, 1024]⟩
abbrev S64x64 : Shape := ⟨2, ![64, 64]⟩
abbrev S64x512 : Shape := ⟨2, ![64, 512]⟩
abbrev S128x256 : Shape := ⟨2, ![128, 256]⟩
abbrev S64x128 : Shape := ⟨2, ![64, 128]⟩
abbrev S64x256 : Shape := ⟨2, ![64, 256]⟩
abbrev S1x256x128 : Shape := ⟨3, ![1, 256, 128]⟩
abbrev S256x128 : Shape := ⟨2, ![256, 128]⟩
abbrev S256x256 : Shape := ⟨2, ![256, 256]⟩
abbrev S1x128x256 : Shape := ⟨3, ![1, 128, 256]⟩
abbrev S128x1 : Shape := ⟨2, ![128, 1]⟩
abbrev S512x256 : Shape := ⟨2, ![512, 256]⟩
abbrev S64 : Shape := ⟨1, ![64]⟩
abbrev S64x1 : Shape := ⟨2, ![64, 1]⟩

abbrev nBuf : Space → Nat
  | .hbm => 32
  | .vmem => 42
  | .smem => 0
  | _ => 0

abbrev bufTy : (tb : Table) → Fin (tcTables nBuf tb) → BufTy
  | .hbm, ⟨0, _⟩ => ⟨S32768x1024, .f32⟩
  | .hbm, ⟨1, _⟩ => ⟨S32768x10240, .bf16⟩
  | .hbm, ⟨2, _⟩ => ⟨S32768x128, .f32⟩
  | .hbm, ⟨3, _⟩ => ⟨S16, .f32⟩
  | .hbm, ⟨4, _⟩ => ⟨S16, .f32⟩
  | .hbm, ⟨5, _⟩ => ⟨S16, .f32⟩
  | .hbm, ⟨6, _⟩ => ⟨S1024, .f32⟩
  | .hbm, ⟨7, _⟩ => ⟨S16x512, .f32⟩
  | .hbm, ⟨8, _⟩ => ⟨S512, .f32⟩
  | .hbm, ⟨9, _⟩ => ⟨S256, .f32⟩
  | .hbm, ⟨10, _⟩ => ⟨S1024x1024, .bf16⟩
  | .hbm, ⟨11, _⟩ => ⟨S1024x1024, .bf16⟩
  | .hbm, ⟨12, _⟩ => ⟨S1024x1024, .bf16⟩
  | .hbm, ⟨13, _⟩ => ⟨S1024x1024, .bf16⟩
  | .hbm, ⟨14, _⟩ => ⟨S_, .i32⟩
  | .hbm, ⟨15, _⟩ => ⟨S_, .f32⟩
  | .hbm, ⟨16, _⟩ => ⟨S128, .f32⟩
  | .hbm, ⟨17, _⟩ => ⟨S1x128, .f32⟩
  | .hbm, ⟨18, _⟩ => ⟨S_, .i32⟩
  | .hbm, ⟨19, _⟩ => ⟨S_, .f32⟩
  | .hbm, ⟨20, _⟩ => ⟨S128, .f32⟩
  | .hbm, ⟨21, _⟩ => ⟨S1x128, .f32⟩
  | .hbm, ⟨22, _⟩ => ⟨S16x64, .f32⟩
  | .hbm, ⟨23, _⟩ => ⟨S1024, .f32⟩
  | .hbm, ⟨24, _⟩ => ⟨S1x1024, .f32⟩
  | .hbm, ⟨25, _⟩ => ⟨S_, .i32⟩
  | .hbm, ⟨26, _⟩ => ⟨S_, .f32⟩
  | .hbm, ⟨27, _⟩ => ⟨S128x512, .f32⟩
  | .hbm, ⟨28, _⟩ => ⟨S1x1024, .f32⟩
  | .hbm, ⟨29, _⟩ => ⟨S1x512, .f32⟩
  | .hbm, ⟨30, _⟩ => ⟨S1x256, .f32⟩
  | .hbm, ⟨31, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x2048, .bf16⟩
  | .local _ .vmem, ⟨7, _⟩ => ⟨S512x2048, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x128, .f32⟩
  | .local _ .vmem, ⟨23, _⟩ => ⟨S512x128, .f32⟩
  | .local _ .vmem, ⟨24, _⟩ => ⟨S1x128, .f32⟩
  | .local _ .vmem, ⟨25, _⟩ => ⟨S1x128, .f32⟩
  | .local _ .vmem, ⟨26, _⟩ => ⟨S1x1024, .f32⟩
  | .local _ .vmem, ⟨27, _⟩ => ⟨S1x1024, .f32⟩
  | .local _ .vmem, ⟨28, _⟩ => ⟨S128x512, .f32⟩
  | .local _ .vmem, ⟨29, _⟩ => ⟨S1x512, .f32⟩
  | .local _ .vmem, ⟨30, _⟩ => ⟨S1x256, .f32⟩
  | .local _ .vmem, ⟨31, _⟩ => ⟨S1024x1024, .bf16⟩
  | .local _ .vmem, ⟨32, _⟩ => ⟨S1024x1024, .bf16⟩
  | .local _ .vmem, ⟨33, _⟩ => ⟨S1024x1024, .bf16⟩
  | .local _ .vmem, ⟨34, _⟩ => ⟨S1024x1024, .bf16⟩
  | .local _ .vmem, ⟨35, _⟩ => ⟨S512x1024, .f32⟩
  | .local _ .vmem, ⟨36, _⟩ => ⟨S512x1024, .f32⟩
  | .local _ .vmem, ⟨37, _⟩ => ⟨S4x128x256, .f32⟩
  | .local _ .vmem, ⟨38, _⟩ => ⟨S4x256x128, .f32⟩
  | .local _ .vmem, ⟨39, _⟩ => ⟨S512x1024, .bf16⟩
  | .local _ .vmem, ⟨40, _⟩ => ⟨S512x1024, .bf16⟩
  | .local _ .vmem, ⟨41, _⟩ => ⟨S512x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_call0_v0 : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_call1_v0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_1 : Ref sig .tc := ⟨.hbm, 25, rfl⟩
abbrev main_call2_v0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg18_0 : Ref sig .tc := ⟨.vmem, 30, rfl⟩
abbrev cc0_stg19_0 : Ref sig .tc := ⟨.vmem, 31, rfl⟩
abbrev cc0_stg20_0 : Ref sig .tc := ⟨.vmem, 32, rfl⟩
abbrev cc0_stg21_0 : Ref sig .tc := ⟨.vmem, 33, rfl⟩
abbrev cc0_stg22_0 : Ref sig .tc := ⟨.vmem, 34, rfl⟩
abbrev cc0_stg23_0 : Ref sig .tc := ⟨.vmem, 35, rfl⟩
abbrev cc0_stg23_1 : Ref sig .tc := ⟨.vmem, 36, rfl⟩
abbrev cc0_scratch0 : Ref sig .tc := ⟨.vmem, 37, rfl⟩
abbrev cc0_scratch1 : Ref sig .tc := ⟨.vmem, 38, rfl⟩
abbrev cc0_scratch2 : Ref sig .tc := ⟨.vmem, 39, rfl⟩
abbrev cc0_scratch3 : Ref sig .tc := ⟨.vmem, 40, rfl⟩
abbrev cc0_scratch4 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem15_0 : DmaSem sig := 27
abbrev cc0_sem16_0 : DmaSem sig := 28
abbrev cc0_sem17_0 : DmaSem sig := 29
abbrev cc0_sem18_0 : DmaSem sig := 30
abbrev cc0_sem19_0 : DmaSem sig := 31
abbrev cc0_sem20_0 : DmaSem sig := 32
abbrev cc0_sem21_0 : DmaSem sig := 33
abbrev cc0_sem22_0 : DmaSem sig := 34
abbrev cc0_sem23_0 : DmaSem sig := 35
abbrev cc0_sem23_1 : DmaSem sig := 36

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c0_i32_43 : BitVec 32 := 0#32
  let c4_i32 : BitVec 32 := 4#32
  let v121 : BitVec 32 := Scalar.addi c0_i32_43 c4_i32
  let c1_i32_44 : BitVec 32 := 1#32
  ⟨c0_i32_43, v121, c1_i32_44⟩
def k0_mult1 (k0_t1 : Fin k0_t1_loop.trips) : BitVec 32 :=
  let c0_i32_43 : BitVec 32 := 0#32
  let c1_i32_44 : BitVec 32 := 1#32
  let arg31 : BitVec 32 := Scf.iv c0_i32_43 c1_i32_44 k0_t1
  let c128_i32_74 : BitVec 32 := 128#32
  let v148 : BitVec 32 := Scalar.muli arg31 c128_i32_74
  v148
def k0_off1 (k0_t1 : Fin k0_t1_loop.trips) : Fin 2 → Nat :=
  let c0_i32_43 : BitVec 32 := 0#32
  let c1_i32_44 : BitVec 32 := 1#32
  let arg31 : BitVec 32 := Scf.iv c0_i32_43 c1_i32_44 k0_t1
  let c128_i32_74 : BitVec 32 := 128#32
  let v148 : BitVec 32 := Scalar.muli arg31 c128_i32_74
  let v149 : BitVec 32 := v148
  let v150 : Index := Scalar.indexCast v149
  let c0_75 : Index := 0#32
  ![v150.toNat, 0]
def k0_mult2 (k0_t1 : Fin k0_t1_loop.trips) : BitVec 32 :=
  let c0_i32_43 : BitVec 32 := 0#32
  let c1_i32_44 : BitVec 32 := 1#32
  let arg31 : BitVec 32 := Scf.iv c0_i32_43 c1_i32_44 k0_t1
  let c128_i32_74 : BitVec 32 := 128#32
  let v148 : BitVec 32 := Scalar.muli arg31 c128_i32_74
  let v149 : BitVec 32 := v148
  let c0_i32_84 : BitVec 32 := 0#32
  let v190 : BitVec 32 := Scalar.addi v149 c0_i32_84
  v190
def k0_off2 (k0_t1 : Fin k0_t1_loop.trips) (c0_i32_84 : BitVec 32) : Fin 2 → Nat :=
  let c0_i32_43 : BitVec 32 := 0#32
  let c1_i32_44 : BitVec 32 := 1#32
  let arg31 : BitVec 32 := Scf.iv c0_i32_43 c1_i32_44 k0_t1
  let c128_i32_74 : BitVec 32 := 128#32
  let v148 : BitVec 32 := Scalar.muli arg31 c128_i32_74
  let v149 : BitVec 32 := v148
  let v190 : BitVec 32 := Scalar.addi v149 c0_i32_84
  let v191 : BitVec 32 := v190
  let v192 : Index := Scalar.indexCast v191
  let c0_85 : Index := 0#32
  ![v192.toNat, 0]
def k0_off3 (k0_t1 : Fin k0_t1_loop.trips) (c0_i32_84 : BitVec 32) : Fin 2 → Nat :=
  let c0_i32_43 : BitVec 32 := 0#32
  let c1_i32_44 : BitVec 32 := 1#32
  let arg31 : BitVec 32 := Scf.iv c0_i32_43 c1_i32_44 k0_t1
  let c128_i32_74 : BitVec 32 := 128#32
  let v148 : BitVec 32 := Scalar.muli arg31 c128_i32_74
  let v149 : BitVec 32 := v148
  let v190 : BitVec 32 := Scalar.addi v149 c0_i32_84
  let v191 : BitVec 32 := v190
  let v246 : Index := Scalar.indexCast v191
  let c0_93 : Index := 0#32
  ![v246.toNat, 0]
def k0_off4 (k0_t1 : Fin k0_t1_loop.trips) : Fin 2 → Nat :=
  let c0_i32_43 : BitVec 32 := 0#32
  let c1_i32_44 : BitVec 32 := 1#32
  let arg31 : BitVec 32 := Scf.iv c0_i32_43 c1_i32_44 k0_t1
  let c128_i32_74 : BitVec 32 := 128#32
  let v148 : BitVec 32 := Scalar.muli arg31 c128_i32_74
  let v149 : BitVec 32 := v148
  let v271 : Index := Scalar.indexCast v149
  let c0_107 : Index := 0#32
  ![v271.toNat, 0]
def k0_off5 (k0_t1 : Fin k0_t1_loop.trips) : Fin 2 → Nat :=
  let c0_i32_43 : BitVec 32 := 0#32
  let c1_i32_44 : BitVec 32 := 1#32
  let arg31 : BitVec 32 := Scf.iv c0_i32_43 c1_i32_44 k0_t1
  let c128_i32_74 : BitVec 32 := 128#32
  let v148 : BitVec 32 := Scalar.muli arg31 c128_i32_74
  let v149 : BitVec 32 := v148
  let v274 : Index := Scalar.indexCast v149
  let c1024 : Index := 1024#32
  ![v274.toNat, 1024]
def k0_off6 (k0_t1 : Fin k0_t1_loop.trips) : Fin 2 → Nat :=
  let c0_i32_43 : BitVec 32 := 0#32
  let c1_i32_44 : BitVec 32 := 1#32
  let arg31 : BitVec 32 := Scf.iv c0_i32_43 c1_i32_44 k0_t1
  let c128_i32_74 : BitVec 32 := 128#32
  let v148 : BitVec 32 := Scalar.muli arg31 c128_i32_74
  let v149 : BitVec 32 := v148
  let v276 : Index := Scalar.indexCast v149
  let c1536 : Index := 1536#32
  ![v276.toNat, 1536]
def k0_off7 (k0_t1 : Fin k0_t1_loop.trips) (c0_i32_84 : BitVec 32) : Fin 2 → Nat :=
  let c0_i32_43 : BitVec 32 := 0#32
  let c1_i32_44 : BitVec 32 := 1#32
  let arg31 : BitVec 32 := Scf.iv c0_i32_43 c1_i32_44 k0_t1
  let c128_i32_74 : BitVec 32 := 128#32
  let v148 : BitVec 32 := Scalar.muli arg31 c128_i32_74
  let v149 : BitVec 32 := v148
  let v190 : BitVec 32 := Scalar.addi v149 c0_i32_84
  let v191 : BitVec 32 := v190
  let v496 : Index := Scalar.indexCast v191
  let c256 : Index := 256#32
  ![v496.toNat, 256]
def k0_off8 (k0_t1 : Fin k0_t1_loop.trips) : Fin 2 → Nat :=
  let c0_i32_43 : BitVec 32 := 0#32
  let c1_i32_44 : BitVec 32 := 1#32
  let arg31 : BitVec 32 := Scf.iv c0_i32_43 c1_i32_44 k0_t1
  let c128_i32_74 : BitVec 32 := 128#32
  let v148 : BitVec 32 := Scalar.muli arg31 c128_i32_74
  let v149 : BitVec 32 := v148
  let v518 : Index := Scalar.indexCast v149
  let c0_171 : Index := 0#32
  ![v518.toNat, 0]
def k0_off9 (k0_t1 : Fin k0_t1_loop.trips) : Fin 2 → Nat :=
  let c0_i32_43 : BitVec 32 := 0#32
  let c1_i32_44 : BitVec 32 := 1#32
  let arg31 : BitVec 32 := Scf.iv c0_i32_43 c1_i32_44 k0_t1
  let c128_i32_74 : BitVec 32 := 128#32
  let v148 : BitVec 32 := Scalar.muli arg31 c128_i32_74
  let v149 : BitVec 32 := v148
  let v544 : Index := Scalar.indexCast v149
  let c256_178 : Index := 256#32
  ![v544.toNat, 256]
def k0_off10 (k0_t1 : Fin k0_t1_loop.trips) : Fin 2 → Nat :=
  let c0_i32_43 : BitVec 32 := 0#32
  let c1_i32_44 : BitVec 32 := 1#32
  let arg31 : BitVec 32 := Scf.iv c0_i32_43 c1_i32_44 k0_t1
  let c128_i32_74 : BitVec 32 := 128#32
  let v148 : BitVec 32 := Scalar.muli arg31 c128_i32_74
  let v149 : BitVec 32 := v148
  let v547 : Index := Scalar.indexCast v149
  let c1152 : Index := 1152#32
  ![v547.toNat, 1152]
def k0_off11 (k0_t1 : Fin k0_t1_loop.trips) : Fin 2 → Nat :=
  let c0_i32_43 : BitVec 32 := 0#32
  let c1_i32_44 : BitVec 32 := 1#32
  let arg31 : BitVec 32 := Scf.iv c0_i32_43 c1_i32_44 k0_t1
  let c128_i32_74 : BitVec 32 := 128#32
  let v148 : BitVec 32 := Scalar.muli arg31 c128_i32_74
  let v149 : BitVec 32 := v148
  let v549 : Index := Scalar.indexCast v149
  let c1664 : Index := 1664#32
  ![v549.toNat, 1664]
def k0_off12 (k0_t1 : Fin k0_t1_loop.trips) (c0_i32_84 : BitVec 32) : Fin 2 → Nat :=
  let c0_i32_43 : BitVec 32 := 0#32
  let c1_i32_44 : BitVec 32 := 1#32
  let arg31 : BitVec 32 := Scf.iv c0_i32_43 c1_i32_44 k0_t1
  let c128_i32_74 : BitVec 32 := 128#32
  let v148 : BitVec 32 := Scalar.muli arg31 c128_i32_74
  let v149 : BitVec 32 := v148
  let v190 : BitVec 32 := Scalar.addi v149 c0_i32_84
  let v191 : BitVec 32 := v190
  let v769 : Index := Scalar.indexCast v191
  let c512 : Index := 512#32
  ![v769.toNat, 512]
def k0_off13 (k0_t1 : Fin k0_t1_loop.trips) : Fin 2 → Nat :=
  let c0_i32_43 : BitVec 32 := 0#32
  let c1_i32_44 : BitVec 32 := 1#32
  let arg31 : BitVec 32 := Scf.iv c0_i32_43 c1_i32_44 k0_t1
  let c128_i32_74 : BitVec 32 := 128#32
  let v148 : BitVec 32 := Scalar.muli arg31 c128_i32_74
  let v149 : BitVec 32 := v148
  let v791 : Index := Scalar.indexCast v149
  let c256_244 : Index := 256#32
  ![v791.toNat, 256]
def k0_off14 (k0_t1 : Fin k0_t1_loop.trips) : Fin 2 → Nat :=
  let c0_i32_43 : BitVec 32 := 0#32
  let c1_i32_44 : BitVec 32 := 1#32
  let arg31 : BitVec 32 := Scf.iv c0_i32_43 c1_i32_44 k0_t1
  let c128_i32_74 : BitVec 32 := 128#32
  let v148 : BitVec 32 := Scalar.muli arg31 c128_i32_74
  let v149 : BitVec 32 := v148
  let v817 : Index := Scalar.indexCast v149
  let c512_251 : Index := 512#32
  ![v817.toNat, 512]
def k0_off15 (k0_t1 : Fin k0_t1_loop.trips) : Fin 2 → Nat :=
  let c0_i32_43 : BitVec 32 := 0#32
  let c1_i32_44 : BitVec 32 := 1#32
  let arg31 : BitVec 32 := Scf.iv c0_i32_43 c1_i32_44 k0_t1
  let c128_i32_74 : BitVec 32 := 128#32
  let v148 : BitVec 32 := Scalar.muli arg31 c128_i32_74
  let v149 : BitVec 32 := v148
  let v820 : Index := Scalar.indexCast v149
  let c1280 : Index := 1280#32
  ![v820.toNat, 1280]
def k0_off16 (k0_t1 : Fin k0_t1_loop.trips) : Fin 2 → Nat :=
  let c0_i32_43 : BitVec 32 := 0#32
  let c1_i32_44 : BitVec 32 := 1#32
  let arg31 : BitVec 32 := Scf.iv c0_i32_43 c1_i32_44 k0_t1
  let c128_i32_74 : BitVec 32 := 128#32
  let v148 : BitVec 32 := Scalar.muli arg31 c128_i32_74
  let v149 : BitVec 32 := v148
  let v822 : Index := Scalar.indexCast v149
  let c1792 : Index := 1792#32
  ![v822.toNat, 1792]
def k0_off17 (k0_t1 : Fin k0_t1_loop.trips) (c0_i32_84 : BitVec 32) : Fin 2 → Nat :=
  let c0_i32_43 : BitVec 32 := 0#32
  let c1_i32_44 : BitVec 32 := 1#32
  let arg31 : BitVec 32 := Scf.iv c0_i32_43 c1_i32_44 k0_t1
  let c128_i32_74 : BitVec 32 := 128#32
  let v148 : BitVec 32 := Scalar.muli arg31 c128_i32_74
  let v149 : BitVec 32 := v148
  let v190 : BitVec 32 := Scalar.addi v149 c0_i32_84
  let v191 : BitVec 32 := v190
  let v1042 : Index := Scalar.indexCast v191
  let c768 : Index := 768#32
  ![v1042.toNat, 768]
def k0_off18 (k0_t1 : Fin k0_t1_loop.trips) : Fin 2 → Nat :=
  let c0_i32_43 : BitVec 32 := 0#32
  let c1_i32_44 : BitVec 32 := 1#32
  let arg31 : BitVec 32 := Scf.iv c0_i32_43 c1_i32_44 k0_t1
  let c128_i32_74 : BitVec 32 := 128#32
  let v148 : BitVec 32 := Scalar.muli arg31 c128_i32_74
  let v149 : BitVec 32 := v148
  let v1064 : Index := Scalar.indexCast v149
  let c512_317 : Index := 512#32
  ![v1064.toNat, 512]
def k0_off19 (k0_t1 : Fin k0_t1_loop.trips) : Fin 2 → Nat :=
  let c0_i32_43 : BitVec 32 := 0#32
  let c1_i32_44 : BitVec 32 := 1#32
  let arg31 : BitVec 32 := Scf.iv c0_i32_43 c1_i32_44 k0_t1
  let c128_i32_74 : BitVec 32 := 128#32
  let v148 : BitVec 32 := Scalar.muli arg31 c128_i32_74
  let v149 : BitVec 32 := v148
  let v1086 : Index := Scalar.indexCast v149
  let c768_322 : Index := 768#32
  ![v1086.toNat, 768]
def k0_off20 (k0_t1 : Fin k0_t1_loop.trips) : Fin 2 → Nat :=
  let c0_i32_43 : BitVec 32 := 0#32
  let c1_i32_44 : BitVec 32 := 1#32
  let arg31 : BitVec 32 := Scf.iv c0_i32_43 c1_i32_44 k0_t1
  let c128_i32_74 : BitVec 32 := 128#32
  let v148 : BitVec 32 := Scalar.muli arg31 c128_i32_74
  let v149 : BitVec 32 := v148
  let v1089 : Index := Scalar.indexCast v149
  let c1408 : Index := 1408#32
  ![v1089.toNat, 1408]
def k0_off21 (k0_t1 : Fin k0_t1_loop.trips) : Fin 2 → Nat :=
  let c0_i32_43 : BitVec 32 := 0#32
  let c1_i32_44 : BitVec 32 := 1#32
  let arg31 : BitVec 32 := Scf.iv c0_i32_43 c1_i32_44 k0_t1
  let c128_i32_74 : BitVec 32 := 128#32
  let v148 : BitVec 32 := Scalar.muli arg31 c128_i32_74
  let v149 : BitVec 32 := v148
  let v1091 : Index := Scalar.indexCast v149
  let c1920 : Index := 1920#32
  ![v1091.toNat, 1920]
def k0_mult3 (k0_t1 : Fin k0_t1_loop.trips) : BitVec 32 :=
  let c0_i32_43 : BitVec 32 := 0#32
  let c1_i32_44 : BitVec 32 := 1#32
  let arg31 : BitVec 32 := Scf.iv c0_i32_43 c1_i32_44 k0_t1
  let c128_i32_74 : BitVec 32 := 128#32
  let v148 : BitVec 32 := Scalar.muli arg31 c128_i32_74
  let v149 : BitVec 32 := v148
  let c64_i32_380 : BitVec 32 := 64#32
  let v1310 : BitVec 32 := Scalar.addi v149 c64_i32_380
  v1310
def k0_off22 (k0_t1 : Fin k0_t1_loop.trips) : Fin 2 → Nat :=
  let c0_i32_43 : BitVec 32 := 0#32
  let c1_i32_44 : BitVec 32 := 1#32
  let arg31 : BitVec 32 := Scf.iv c0_i32_43 c1_i32_44 k0_t1
  let c128_i32_74 : BitVec 32 := 128#32
  let v148 : BitVec 32 := Scalar.muli arg31 c128_i32_74
  let v149 : BitVec 32 := v148
  let v1331 : Index := Scalar.indexCast v149
  let c768_385 : Index := 768#32
  ![v1331.toNat, 768]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c8_i32 : BitVec 32 := 8#32
  let c0_i32 : BitVec 32 := 0#32
  ![v1.toNat, c8_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c9_i32 : BitVec 32 := 9#32
  let c0_i32 : BitVec 32 := 0#32
  ![v1.toNat, c9_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c5_i32 : BitVec 32 := 5#32
  let c0_i32 : BitVec 32 := 0#32
  ![v1.toNat, c5_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c6_i32 : BitVec 32 := 6#32
  let c0_i32 : BitVec 32 := 0#32
  ![v1.toNat, c6_i32.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c7_i32 : BitVec 32 := 7#32
  let c0_i32 : BitVec 32 := 0#32
  ![v1.toNat, c7_i32.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c8_i32 : BitVec 32 := 8#32
  let c0_i32 : BitVec 32 := 0#32
  ![v1.toNat, c8_i32.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c9_i32 : BitVec 32 := 9#32
  let c0_i32 : BitVec 32 := 0#32
  ![v1.toNat, c9_i32.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S128x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1024x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S1024x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S1024x1024 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S1024x1024 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 2 → Memref sig .tc .vmem S512x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]
-- ==== Proof.MixRunIdeal.lean ====
/- That the layer's mixer call runs to its end on any staging memrefs, leaving its inputs as they were. The body is run in
   three parts (what comes before the loop over the chunks, the loop, the merge of the branches), each from any contents of the
   scratch buffers and of the output to any. -/
module

public import proofs.«01_k».proof.Proof.Gen.Kernel5Ideal
public import proofs.«01_k».proof.Proof.Gen.Kernel5Ideal.Skeleton
public import proofs.«01_k».proof.Proof.Gen.Kernel5Ideal.Loops
public import proofs.«01_k».proof.Proof.Gen.Kernel5Ideal.Launch
public import proofs.«01_k».proof.Proof.Gen.Kernel5Ideal.Points
public import proofs.«01_k».proof.Proof.Gen.Kernel5Ideal.Frame
public import Idealize.ShloMosaic.Lib.Pipeline.FrameBody
public import Idealize.ShloMosaic.Lib.Tactic
public import Idealize.ShloMosaic.Lib.Claim

@[expose] public section

set_option maxRecDepth 16384

noncomputable section

namespace Cert.Kernel5Ideal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel5Ideal.Gen

variable {F : FTy → Type} [FloatOps F]

local notation "𝕄" => MT nD τ sig Unit (Elt F) ℕ (UR sig nD τ) ℕ

/-! ## The body in three parts -/

/-- A triple, with what its end is turned into held beside its start. -/
theorem wp_wand_of {c : Dev nD} {E : Set ℕ} {α : Type} {p : Prog (TpuEff nD τ sig (Elt F) Λ₀ .tc) α} {P : sProp 𝕄} {Q Q' : α → sProp 𝕄}
    (h : P ⊢ wp frame (wpE (defs₀ (F := F)) Variants.none (c : Thread nD τ) none) E p Q) :
    iprop(P ∗ (∀ a, Q a -∗ Q' a)) ⊢ wp frame (wpE (defs₀ (F := F)) Variants.none (c : Thread nD τ) none) E p Q' :=
  (sep_mono h .rfl).trans (wp_wand_r _ _ _)

/-- The inputs' memrefs at given contents, the output's and the scratch memrefs at any. -/
def cells (c : Dev nD) (arg2 : Memref sig .tc .vmem S512x1024 .f32) (arg3 : Memref sig .tc .vmem S512x1024 .bf16) (arg4 : Memref sig .tc .vmem S512x1024 .bf16) (arg5 : Memref sig .tc .vmem S512x2048 .bf16) (arg6 : Memref sig .tc .vmem S512x512 .bf16) (arg7 : Memref sig .tc .vmem S512x512 .bf16) (arg8 : Memref sig .tc .vmem S512x1024 .bf16) (arg9 : Memref sig .tc .vmem S512x1024 .bf16) (arg10 : Memref sig .tc .vmem S512x1024 .bf16) (arg11 : Memref sig .tc .vmem S512x1024 .bf16) (arg12 : Memref sig .tc .vmem S512x1024 .bf16) (arg13 : Memref sig .tc .vmem S512x128 .f32) (arg14 : Memref sig .tc .vmem S1x128 .f32) (arg15 : Memref sig .tc .vmem S1x128 .f32) (arg16 : Memref sig .tc .vmem S1x1024 .f32) (arg17 : Memref sig .tc .vmem S1x1024 .f32) (arg18 : Memref sig .tc .vmem S128x512 .f32) (arg19 : Memref sig .tc .vmem S1x512 .f32) (arg20 : Memref sig .tc .vmem S1x256 .f32) (arg21 : Memref sig .tc .vmem S1024x1024 .bf16) (arg22 : Memref sig .tc .vmem S1024x1024 .bf16) (arg23 : Memref sig .tc .vmem S1024x1024 .bf16) (arg24 : Memref sig .tc .vmem S1024x1024 .bf16) (arg25 : Memref sig .tc .vmem S512x1024 .f32) (arg26 : Memref sig .tc .vmem S4x128x256 .f32) (arg27 : Memref sig .tc .vmem S4x256x128 .f32) (arg28 : Memref sig .tc .vmem S512x1024 .bf16) (arg29 : Memref sig .tc .vmem S512x1024 .bf16) (arg30 : Memref sig .tc .vmem S512x512 .f32)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (X20 : BufTy.Contents (Elt F) arg20.view.ty) (X21 : BufTy.Contents (Elt F) arg21.view.ty) (X22 : BufTy.Contents (Elt F) arg22.view.ty) (X23 : BufTy.Contents (Elt F) arg23.view.ty) (X24 : BufTy.Contents (Elt F) arg24.view.ty) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17) ∗ (arg18.view.loc (c : Thread nD τ) ↦[arg18.view.set]{fullShare} X18) ∗ (arg19.view.loc (c : Thread nD τ) ↦[arg19.view.set]{fullShare} X19) ∗ (arg20.view.loc (c : Thread nD τ) ↦[arg20.view.set]{fullShare} X20) ∗ (arg21.view.loc (c : Thread nD τ) ↦[arg21.view.set]{fullShare} X21) ∗ (arg22.view.loc (c : Thread nD τ) ↦[arg22.view.set]{fullShare} X22) ∗ (arg23.view.loc (c : Thread nD τ) ↦[arg23.view.set]{fullShare} X23) ∗ (arg24.view.loc (c : Thread nD τ) ↦[arg24.view.set]{fullShare} X24) ∗ (∃ f, (arg25.view.loc (c : Thread nD τ) ↦[arg25.view.set]{fullShare} f)) ∗ (∃ f, (arg26.view.loc (c : Thread nD τ) ↦[arg26.view.set]{fullShare} f)) ∗ (∃ f, (arg27.view.loc (c : Thread nD τ) ↦[arg27.view.set]{fullShare} f)) ∗ (∃ f, (arg28.view.loc (c : Thread nD τ) ↦[arg28.view.set]{fullShare} f)) ∗ (∃ f, (arg29.view.loc (c : Thread nD τ) ↦[arg29.view.set]{fullShare} f)) ∗ (∃ f, (arg30.view.loc (c : Thread nD τ) ↦[arg30.view.set]{fullShare} f)))

set_option maxHeartbeats 2000000 in
/-- Up to the loop: the states zeroed at the first block of a sequence, the gates' logarithms stored. -/
theorem run_head (c : Dev nD) (E : Set ℕ) (i : grid0.Coords) (arg2 : Memref sig .tc .vmem S512x1024 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x2048 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S512x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S128x512 .f32) (harg18 : arg18.IsWhole) (arg19 : Memref sig .tc .vmem S1x512 .f32) (harg19 : arg19.IsWhole) (arg20 : Memref sig .tc .vmem S1x256 .f32) (harg20 : arg20.IsWhole) (arg21 : Memref sig .tc .vmem S1024x1024 .bf16) (harg21 : arg21.IsWhole) (arg22 : Memref sig .tc .vmem S1024x1024 .bf16) (harg22 : arg22.IsWhole) (arg23 : Memref sig .tc .vmem S1024x1024 .bf16) (harg23 : arg23.IsWhole) (arg24 : Memref sig .tc .vmem S1024x1024 .bf16) (harg24 : arg24.IsWhole) (arg25 : Memref sig .tc .vmem S512x1024 .f32) (harg25 : arg25.IsWhole) (arg26 : Memref sig .tc .vmem S4x128x256 .f32) (harg26 : arg26.IsWhole) (arg27 : Memref sig .tc .vmem S4x256x128 .f32) (harg27 : arg27.IsWhole) (arg28 : Memref sig .tc .vmem S512x1024 .bf16) (harg28 : arg28.IsWhole) (arg29 : Memref sig .tc .vmem S512x1024 .bf16) (harg29 : arg29.IsWhole) (arg30 : Memref sig .tc .vmem S512x512 .f32) (harg30 : arg30.IsWhole)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (X20 : BufTy.Contents (Elt F) arg20.view.ty) (X21 : BufTy.Contents (Elt F) arg21.view.ty) (X22 : BufTy.Contents (Elt F) arg22.view.ty) (X23 : BufTy.Contents (Elt F) arg23.view.ty) (X24 : BufTy.Contents (Elt F) arg24.view.ty) :
    cells c arg2 arg3 arg4 arg5 arg6 arg7 arg8 arg9 arg10 arg11 arg12 arg13 arg14 arg15 arg16 arg17 arg18 arg19 arg20 arg21 arg22 arg23 arg24 arg25 arg26 arg27 arg28 arg29 arg30 X2 X3 X4 X5 X6 X7 X8 X9 X10 X11 X12 X13 X14 X15 X16 X17 X18 X19 X20 X21 X22 X23 X24
      ⊢ wp frame (wpE (defs₀ (F := F)) Variants.none (c : Thread nD τ) none) E (k0_part32_skel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30)
        (fun _ => cells c arg2 arg3 arg4 arg5 arg6 arg7 arg8 arg9 arg10 arg11 arg12 arg13 arg14 arg15 arg16 arg17 arg18 arg19 arg20 arg21 arg22 arg23 arg24 arg25 arg26 arg27 arg28 arg29 arg30 X2 X3 X4 X5 X6 X7 X8 X9 X10 X11 X12 X13 X14 X15 X16 X17 X18 X19 X20 X21 X22 X23 X24) := by
  unfold cells
  iintro ⟨H2, H3, H4, H5, H6, H7, H8, H9, H10, H11, H12, H13, H14, H15, H16, H17, H18, H19, H20, H21, H22, H23, H24, ⟨%f25, H25⟩, ⟨%f26, H26⟩, ⟨%f27, H27⟩, ⟨%f28, H28⟩, ⟨%f29, H29⟩, ⟨%f30, H30⟩⟩
  unfold k0_part32_skel
  by_cases hc : (Scalar.cmpi .ne (Scalar.extui (Scalar.cmpi .eq (BitVec.ofNat 32 (i 1).val) 0#32)) 0#32) = 1#1
  · sl_exec (disch := first | sl_exact hc)
    sl_step
    sl_close
  · sl_exec (disch := first | sl_exact hc)
    sl_step
    sl_close

set_option maxHeartbeats 2000000 in
/-- The loop over the chunks. -/
theorem run_loop (c : Dev nD) (E : Set ℕ) (i : grid0.Coords) (arg2 : Memref sig .tc .vmem S512x1024 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x2048 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S512x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S128x512 .f32) (harg18 : arg18.IsWhole) (arg19 : Memref sig .tc .vmem S1x512 .f32) (harg19 : arg19.IsWhole) (arg20 : Memref sig .tc .vmem S1x256 .f32) (harg20 : arg20.IsWhole) (arg21 : Memref sig .tc .vmem S1024x1024 .bf16) (harg21 : arg21.IsWhole) (arg22 : Memref sig .tc .vmem S1024x1024 .bf16) (harg22 : arg22.IsWhole) (arg23 : Memref sig .tc .vmem S1024x1024 .bf16) (harg23 : arg23.IsWhole) (arg24 : Memref sig .tc .vmem S1024x1024 .bf16) (harg24 : arg24.IsWhole) (arg25 : Memref sig .tc .vmem S512x1024 .f32) (harg25 : arg25.IsWhole) (arg26 : Memref sig .tc .vmem S4x128x256 .f32) (harg26 : arg26.IsWhole) (arg27 : Memref sig .tc .vmem S4x256x128 .f32) (harg27 : arg27.IsWhole) (arg28 : Memref sig .tc .vmem S512x1024 .bf16) (harg28 : arg28.IsWhole) (arg29 : Memref sig .tc .vmem S512x1024 .bf16) (harg29 : arg29.IsWhole) (arg30 : Memref sig .tc .vmem S512x512 .f32) (harg30 : arg30.IsWhole)
    (v38 : IVec S128x128 1) (v42 : FVec F S128x128 .bf16) (v47 : FVec F S128x128 .bf16) (v64 : IVec S256x1024 32) (v67 : IVec S256x1024 32) (v81 : IVec S256x1024 1) (v83 : IVec S256x1024 32) (c0_i32_25 : BitVec 32)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (X20 : BufTy.Contents (Elt F) arg20.view.ty) (X21 : BufTy.Contents (Elt F) arg21.view.ty) (X22 : BufTy.Contents (Elt F) arg22.view.ty) (X23 : BufTy.Contents (Elt F) arg23.view.ty) (X24 : BufTy.Contents (Elt F) arg24.view.ty) :
    cells c arg2 arg3 arg4 arg5 arg6 arg7 arg8 arg9 arg10 arg11 arg12 arg13 arg14 arg15 arg16 arg17 arg18 arg19 arg20 arg21 arg22 arg23 arg24 arg25 arg26 arg27 arg28 arg29 arg30 X2 X3 X4 X5 X6 X7 X8 X9 X10 X11 X12 X13 X14 X15 X16 X17 X18 X19 X20 X21 X22 X23 X24
      ⊢ wp frame (wpE (defs₀ (F := F)) Variants.none (c : Thread nD τ) none) E (k0_part34_skel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v38 v42 v47 v64 v67 v81 v83 c0_i32_25)
        (fun _ => cells c arg2 arg3 arg4 arg5 arg6 arg7 arg8 arg9 arg10 arg11 arg12 arg13 arg14 arg15 arg16 arg17 arg18 arg19 arg20 arg21 arg22 arg23 arg24 arg25 arg26 arg27 arg28 arg29 arg30 X2 X3 X4 X5 X6 X7 X8 X9 X10 X11 X12 X13 X14 X15 X16 X17 X18 X19 X20 X21 X22 X23 X24) := by
  unfold cells
  iintro ⟨H2, H3, H4, H5, H6, H7, H8, H9, H10, H11, H12, H13, H14, H15, H16, H17, H18, H19, H20, H21, H22, H23, H24, ⟨%f25, H25⟩, ⟨%f26, H26⟩, ⟨%f27, H27⟩, ⟨%f28, H28⟩, ⟨%f29, H29⟩, ⟨%f30, H30⟩⟩
  unfold k0_part34_skel
  sl_exec
  sl_step
  sl_close

set_option maxHeartbeats 4000000 in
/-- The whole body, part by part; the merge after the loop is run here. -/
theorem run_body (c : Dev nD) (E : Set ℕ) (i : grid0.Coords) (arg2 : Memref sig .tc .vmem S512x1024 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x2048 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S512x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S128x512 .f32) (harg18 : arg18.IsWhole) (arg19 : Memref sig .tc .vmem S1x512 .f32) (harg19 : arg19.IsWhole) (arg20 : Memref sig .tc .vmem S1x256 .f32) (harg20 : arg20.IsWhole) (arg21 : Memref sig .tc .vmem S1024x1024 .bf16) (harg21 : arg21.IsWhole) (arg22 : Memref sig .tc .vmem S1024x1024 .bf16) (harg22 : arg22.IsWhole) (arg23 : Memref sig .tc .vmem S1024x1024 .bf16) (harg23 : arg23.IsWhole) (arg24 : Memref sig .tc .vmem S1024x1024 .bf16) (harg24 : arg24.IsWhole) (arg25 : Memref sig .tc .vmem S512x1024 .f32) (harg25 : arg25.IsWhole) (arg26 : Memref sig .tc .vmem S4x128x256 .f32) (harg26 : arg26.IsWhole) (arg27 : Memref sig .tc .vmem S4x256x128 .f32) (harg27 : arg27.IsWhole) (arg28 : Memref sig .tc .vmem S512x1024 .bf16) (harg28 : arg28.IsWhole) (arg29 : Memref sig .tc .vmem S512x1024 .bf16) (harg29 : arg29.IsWhole) (arg30 : Memref sig .tc .vmem S512x512 .f32) (harg30 : arg30.IsWhole)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (X20 : BufTy.Contents (Elt F) arg20.view.ty) (X21 : BufTy.Contents (Elt F) arg21.view.ty) (X22 : BufTy.Contents (Elt F) arg22.view.ty) (X23 : BufTy.Contents (Elt F) arg23.view.ty) (X24 : BufTy.Contents (Elt F) arg24.view.ty) :
    cells c arg2 arg3 arg4 arg5 arg6 arg7 arg8 arg9 arg10 arg11 arg12 arg13 arg14 arg15 arg16 arg17 arg18 arg19 arg20 arg21 arg22 arg23 arg24 arg25 arg26 arg27 arg28 arg29 arg30 X2 X3 X4 X5 X6 X7 X8 X9 X10 X11 X12 X13 X14 X15 X16 X17 X18 X19 X20 X21 X22 X23 X24
      ⊢ wp frame (wpE (defs₀ (F := F)) Variants.none (c : Thread nD τ) none) E (cc0_mixer (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30)
        (fun _ => cells c arg2 arg3 arg4 arg5 arg6 arg7 arg8 arg9 arg10 arg11 arg12 arg13 arg14 arg15 arg16 arg17 arg18 arg19 arg20 arg21 arg22 arg23 arg24 arg25 arg26 arg27 arg28 arg29 arg30 X2 X3 X4 X5 X6 X7 X8 X9 X10 X11 X12 X13 X14 X15 X16 X17 X18 X19 X20 X21 X22 X23 X24) := by
  simp only [cc0_mixer_eq_skeleton]; unfold cc0_mixer_skel
  simp only [k0_part32_eq_skeleton, k0_part33_eq_skeleton, k0_part34_eq_skeleton]
  rw [wp_bind]
  refine (run_head c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 X2 X3 X4 X5 X6 X7 X8 X9 X10 X11 X12 X13 X14 X15 X16 X17 X18 X19 X20 X21 X22 X23 X24).trans (wp_mono _ _ _ fun r => ?_)
  obtain ⟨v36, v37, v38, cst_13⟩ := r
  dsimp only
  unfold k0_part33_skel
  rw [wp_bind]
  refine BIBase.Entails.trans ?_ (le_wp_ret _ _ _ _ _)
  dsimp only
  rw [wp_bind]
  refine (run_loop c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 _ _ _ _ _ _ _ _ X2 X3 X4 X5 X6 X7 X8 X9 X10 X11 X12 X13 X14 X15 X16 X17 X18 X19 X20 X21 X22 X23 X24).trans (wp_mono _ _ _ fun _ => ?_)
  unfold cells
  iintro ⟨H2, H3, H4, H5, H6, H7, H8, H9, H10, H11, H12, H13, H14, H15, H16, H17, H18, H19, H20, H21, H22, H23, H24, ⟨%f25, H25⟩, ⟨%f26, H26⟩, ⟨%f27, H27⟩, ⟨%f28, H28⟩, ⟨%f29, H29⟩, ⟨%f30, H30⟩⟩
  sl_exec
  sl_step
  sl_close

end Cert.Kernel5Ideal.Mix

end
-- ==== Proof.MixFrameIdeal.lean ====
/- The frame of the layer's mixer call: it runs from any memory, leaves its arguments as they were and every counter at zero. What it
   leaves in its output is not named here. -/
module

public import proofs.«01_k».proof.Proof.MixRunIdeal
public import Idealize.ShloMosaic.Lib.Pipeline.FrameBody
public import Idealize.ShloMosaic.Lib.Tactic
public import Idealize.ShloMosaic.Lib.Claim

@[expose] public section

set_option maxRecDepth 16384

noncomputable section

namespace Cert.Kernel5Ideal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body on whole memrefs: the inputs' contents stay, the output and the scratch go from any contents to any. -/
theorem body_any (c : Dev nD) (E : Set ℕ) (i : grid0.Coords) (arg2 : Memref sig .tc .vmem S512x1024 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x2048 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S512x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S128x512 .f32) (harg18 : arg18.IsWhole) (arg19 : Memref sig .tc .vmem S1x512 .f32) (harg19 : arg19.IsWhole) (arg20 : Memref sig .tc .vmem S1x256 .f32) (harg20 : arg20.IsWhole) (arg21 : Memref sig .tc .vmem S1024x1024 .bf16) (harg21 : arg21.IsWhole) (arg22 : Memref sig .tc .vmem S1024x1024 .bf16) (harg22 : arg22.IsWhole) (arg23 : Memref sig .tc .vmem S1024x1024 .bf16) (harg23 : arg23.IsWhole) (arg24 : Memref sig .tc .vmem S1024x1024 .bf16) (harg24 : arg24.IsWhole) (arg25 : Memref sig .tc .vmem S512x1024 .f32) (harg25 : arg25.IsWhole) (arg26 : Memref sig .tc .vmem S4x128x256 .f32) (harg26 : arg26.IsWhole) (arg27 : Memref sig .tc .vmem S4x256x128 .f32) (harg27 : arg27.IsWhole) (arg28 : Memref sig .tc .vmem S512x1024 .bf16) (harg28 : arg28.IsWhole) (arg29 : Memref sig .tc .vmem S512x1024 .bf16) (harg29 : arg29.IsWhole) (arg30 : Memref sig .tc .vmem S512x512 .f32) (harg30 : arg30.IsWhole)
    (x0 : Vec F S512x1024 .f32) (x1 : Vec F S512x1024 .bf16) (x2 : Vec F S512x1024 .bf16) (x3 : Vec F S512x2048 .bf16) (x4 : Vec F S512x512 .bf16) (x5 : Vec F S512x512 .bf16) (x6 : Vec F S512x1024 .bf16) (x7 : Vec F S512x1024 .bf16) (x8 : Vec F S512x1024 .bf16) (x9 : Vec F S512x1024 .bf16) (x10 : Vec F S512x1024 .bf16) (x11 : Vec F S512x128 .f32) (x12 : Vec F S1x128 .f32) (x13 : Vec F S1x128 .f32) (x14 : Vec F S1x1024 .f32) (x15 : Vec F S1x1024 .f32) (x16 : Vec F S128x512 .f32) (x17 : Vec F S1x512 .f32) (x18 : Vec F S1x256 .f32) (x19 : Vec F S1024x1024 .bf16) (x20 : Vec F S1024x1024 .bf16) (x21 : Vec F S1024x1024 .bf16) (x22 : Vec F S1024x1024 .bf16) :
    (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d)) : sProp 𝕄)
      ⊢ wp frame (wpE (defs₀ (F := F)) Variants.none (c : Thread nD τ) none) E (cc0_mixer (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30)
        (fun _ => iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d))) := by
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩⟩
  iapply (wp_wand_of (run_body c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 f2 f3 f4 f5 f6 f7 f8 f9 f10 f11 f12 f13 f14 f15 f16 f17 f18 f19 f20 f21 f22 f23 f24))
  unfold cells
  isplitl [H2 H3 H4 H5 H6 H7 H8 H9 H10 H11 H12 H13 H14 H15 H16 H17 H18 H19 H20 H21 H22 H23 H24 H25 H26 H27 H28 H29 H30]
  ·
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexists _; iexact H25
    isplitl [H26]; · iexists _; iexact H26
    isplitl [H27]; · iexists _; iexact H27
    isplitl [H28]; · iexists _; iexact H28
    isplitl [H29]; · iexists _; iexact H29
    iexists _; iexact H30
  iintro %_
  iintro ⟨H2, H3, H4, H5, H6, H7, H8, H9, H10, H11, H12, H13, H14, H15, H16, H17, H18, H19, H20, H21, H22, H23, H24, ⟨%g25, H25⟩, ⟨%g26, H26⟩, ⟨%g27, H27⟩, ⟨%g28, H28⟩, ⟨%g29, H29⟩, ⟨%g30, H30⟩⟩
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists f8; isplitr; · ipureintro; exact hf8
    iexact H8
  isplitl [H9]
  · iexists f9; isplitr; · ipureintro; exact hf9
    iexact H9
  isplitl [H10]
  · iexists f10; isplitr; · ipureintro; exact hf10
    iexact H10
  isplitl [H11]
  · iexists f11; isplitr; · ipureintro; exact hf11
    iexact H11
  isplitl [H12]
  · iexists f12; isplitr; · ipureintro; exact hf12
    iexact H12
  isplitl [H13]
  · iexists f13; isplitr; · ipureintro; exact hf13
    iexact H13
  isplitl [H14]
  · iexists f14; isplitr; · ipureintro; exact hf14
    iexact H14
  isplitl [H15]
  · iexists f15; isplitr; · ipureintro; exact hf15
    iexact H15
  isplitl [H16]
  · iexists f16; isplitr; · ipureintro; exact hf16
    iexact H16
  isplitl [H17]
  · iexists f17; isplitr; · ipureintro; exact hf17
    iexact H17
  isplitl [H18]
  · iexists f18; isplitr; · ipureintro; exact hf18
    iexact H18
  isplitl [H19]
  · iexists f19; isplitr; · ipureintro; exact hf19
    iexact H19
  isplitl [H20]
  · iexists f20; isplitr; · ipureintro; exact hf20
    iexact H20
  isplitl [H21]
  · iexists f21; isplitr; · ipureintro; exact hf21
    iexact H21
  isplitl [H22]
  · iexists f22; isplitr; · ipureintro; exact hf22
    iexact H22
  isplitl [H23]
  · iexists f23; isplitr; · ipureintro; exact hf23
    iexact H23
  isplitl [H24]
  · iexists f24; isplitr; · ipureintro; exact hf24
    iexact H24
  isplitl [H25]
  · iexists _, _; isplitr; swap; · iexact H25
    ipureintro; rfl
  isplitl [H26]
  · iexists _, _; isplitr; swap; · iexact H26
    ipureintro; rfl
  isplitl [H27]
  · iexists _, _; isplitr; swap; · iexact H27
    ipureintro; rfl
  isplitl [H28]
  · iexists _, _; isplitr; swap; · iexact H28
    ipureintro; rfl
  isplitl [H29]
  · iexists _, _; isplitr; swap; · iexact H29
    ipureintro; rfl
  iexists _, _; isplitr; swap; · iexact H30
  ipureintro; rfl

/-! ## The memrefs a point is run on -/

abbrev ms0 (t : Fin cfg0.N) : Memref sig .tc .vmem S512x1024 .f32 := win0_0.stage (cfg0.slots t 0)
abbrev ms1 (t : Fin cfg0.N) : Memref sig .tc .vmem S512x1024 .bf16 := win0_1.stage (cfg0.slots t 1)
abbrev ms2 (t : Fin cfg0.N) : Memref sig .tc .vmem S512x1024 .bf16 := win0_2.stage (cfg0.slots t 2)
abbrev ms3 (t : Fin cfg0.N) : Memref sig .tc .vmem S512x2048 .bf16 := win0_3.stage (cfg0.slots t 3)
abbrev ms4 (t : Fin cfg0.N) : Memref sig .tc .vmem S512x512 .bf16 := win0_4.stage (cfg0.slots t 4)
abbrev ms5 (t : Fin cfg0.N) : Memref sig .tc .vmem S512x512 .bf16 := win0_5.stage (cfg0.slots t 5)
abbrev ms6 (t : Fin cfg0.N) : Memref sig .tc .vmem S512x1024 .bf16 := win0_6.stage (cfg0.slots t 6)
abbrev ms7 (t : Fin cfg0.N) : Memref sig .tc .vmem S512x1024 .bf16 := win0_7.stage (cfg0.slots t 7)
abbrev ms8 (t : Fin cfg0.N) : Memref sig .tc .vmem S512x1024 .bf16 := win0_8.stage (cfg0.slots t 8)
abbrev ms9 (t : Fin cfg0.N) : Memref sig .tc .vmem S512x1024 .bf16 := win0_9.stage (cfg0.slots t 9)
abbrev ms10 (t : Fin cfg0.N) : Memref sig .tc .vmem S512x1024 .bf16 := win0_10.stage (cfg0.slots t 10)
abbrev ms11 (t : Fin cfg0.N) : Memref sig .tc .vmem S512x128 .f32 := win0_11.stage (cfg0.slots t 11)
abbrev ms12 (t : Fin cfg0.N) : Memref sig .tc .vmem S1x128 .f32 := win0_12.stage (cfg0.slots t 12)
abbrev ms13 (t : Fin cfg0.N) : Memref sig .tc .vmem S1x128 .f32 := win0_13.stage (cfg0.slots t 13)
abbrev ms14 (t : Fin cfg0.N) : Memref sig .tc .vmem S1x1024 .f32 := win0_14.stage (cfg0.slots t 14)
abbrev ms15 (t : Fin cfg0.N) : Memref sig .tc .vmem S1x1024 .f32 := win0_15.stage (cfg0.slots t 15)
abbrev ms16 (t : Fin cfg0.N) : Memref sig .tc .vmem S128x512 .f32 := win0_16.stage (cfg0.slots t 16)
abbrev ms17 (t : Fin cfg0.N) : Memref sig .tc .vmem S1x512 .f32 := win0_17.stage (cfg0.slots t 17)
abbrev ms18 (t : Fin cfg0.N) : Memref sig .tc .vmem S1x256 .f32 := win0_18.stage (cfg0.slots t 18)
abbrev ms19 (t : Fin cfg0.N) : Memref sig .tc .vmem S1024x1024 .bf16 := win0_19.stage (cfg0.slots t 19)
abbrev ms20 (t : Fin cfg0.N) : Memref sig .tc .vmem S1024x1024 .bf16 := win0_20.stage (cfg0.slots t 20)
abbrev ms21 (t : Fin cfg0.N) : Memref sig .tc .vmem S1024x1024 .bf16 := win0_21.stage (cfg0.slots t 21)
abbrev ms22 (t : Fin cfg0.N) : Memref sig .tc .vmem S1024x1024 .bf16 := win0_22.stage (cfg0.slots t 22)
abbrev ms23 (t : Fin cfg0.N) : Memref sig .tc .vmem S512x1024 .f32 := win0_23.stage (cfg0.slots t 23)
abbrev sc0 : Memref sig .tc .vmem S4x128x256 .f32 := Memref.whole cc0_scratch0
abbrev sc1 : Memref sig .tc .vmem S4x256x128 .f32 := Memref.whole cc0_scratch1
abbrev sc2 : Memref sig .tc .vmem S512x1024 .bf16 := Memref.whole cc0_scratch2
abbrev sc3 : Memref sig .tc .vmem S512x1024 .bf16 := Memref.whole cc0_scratch3
abbrev sc4 : Memref sig .tc .vmem S512x512 .f32 := Memref.whole cc0_scratch4

/-- The scratch memrefs and the generator's register, at anything. -/
theorem any_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d)) ∗ (∃ r, prngReg c r)) := by
  unfold Pipeline.ΦA; rw [scopedRest0_eq]; simp only [sc0, sc1, sc2, sc3, sc4, owns_whole]; rfl

/-! ## The pipeline's data -/

/-- The output window's contents are not named. -/
def forgets : Fin 24 → Bool := fun w => w.val == 23

/-- After each point an input's memref holds its block; the scratch is at anything throughout. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, h⟩ => Pipeline.Dat.unnamed (cfg := cfg0) ⟨23, h⟩ t
    | ⟨_ + 24, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) : (dats m 0 c).after 18 t = iblk m c 18 t := by dsimp only [dats]
theorem after_19 (c : Dev nD) (t : Fin cfg0.N) : (dats m 0 c).after 19 t = iblk m c 19 t := by dsimp only [dats]
theorem after_20 (c : Dev nD) (t : Fin cfg0.N) : (dats m 0 c).after 20 t = iblk m c 20 t := by dsimp only [dats]
theorem after_21 (c : Dev nD) (t : Fin cfg0.N) : (dats m 0 c).after 21 t = iblk m c 21 t := by dsimp only [dats]
theorem after_22 (c : Dev nD) (t : Fin cfg0.N) : (dats m 0 c).after 22 t = iblk m c 22 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d
theorem before_15 (c : Dev nD) (t : Fin cfg0.N) (d) : (dats m 0 c).before 15 t d = iblk m c 15 t :=
  before0_15_of m (dats m 0 c) (A_eq m c 15) (after_15 m c) t d
theorem before_16 (c : Dev nD) (t : Fin cfg0.N) (d) : (dats m 0 c).before 16 t d = iblk m c 16 t :=
  before0_16_of m (dats m 0 c) (A_eq m c 16) (after_16 m c) t d
theorem before_17 (c : Dev nD) (t : Fin cfg0.N) (d) : (dats m 0 c).before 17 t d = iblk m c 17 t :=
  before0_17_of m (dats m 0 c) (A_eq m c 17) (after_17 m c) t d
theorem before_18 (c : Dev nD) (t : Fin cfg0.N) (d) : (dats m 0 c).before 18 t d = iblk m c 18 t :=
  before0_18_of m (dats m 0 c) (A_eq m c 18) (after_18 m c) t d
theorem before_19 (c : Dev nD) (t : Fin cfg0.N) (d) : (dats m 0 c).before 19 t d = iblk m c 19 t :=
  before0_19_of m (dats m 0 c) (A_eq m c 19) (after_19 m c) t d
theorem before_20 (c : Dev nD) (t : Fin cfg0.N) (d) : (dats m 0 c).before 20 t d = iblk m c 20 t :=
  before0_20_of m (dats m 0 c) (A_eq m c 20) (after_20 m c) t d
theorem before_21 (c : Dev nD) (t : Fin cfg0.N) (d) : (dats m 0 c).before 21 t d = iblk m c 21 t :=
  before0_21_of m (dats m 0 c) (A_eq m c 21) (after_21 m c) t d
theorem before_22 (c : Dev nD) (t : Fin cfg0.N) (d) : (dats m 0 c).before 22 t d = iblk m c 22 t :=
  before0_22_of m (dats m 0 c) (A_eq m c 22) (after_22 m c) t d

/-- What a point's body is given. -/
def given (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d))
    ∗ (∃ d, owns (c : Thread nD τ) (ms16 t) fullShare ((dats m 0 c).before 16 t d))
    ∗ (∃ d, owns (c : Thread nD τ) (ms17 t) fullShare ((dats m 0 c).before 17 t d))
    ∗ (∃ d, owns (c : Thread nD τ) (ms18 t) fullShare ((dats m 0 c).before 18 t d))
    ∗ (∃ d, owns (c : Thread nD τ) (ms19 t) fullShare ((dats m 0 c).before 19 t d))
    ∗ (∃ d, owns (c : Thread nD τ) (ms20 t) fullShare ((dats m 0 c).before 20 t d))
    ∗ (∃ d, owns (c : Thread nD τ) (ms21 t) fullShare ((dats m 0 c).before 21 t d))
    ∗ (∃ d, owns (c : Thread nD τ) (ms22 t) fullShare ((dats m 0 c).before 22 t d))
    ∗ (∃ d, owns (c : Thread nD τ) (ms23 t) fullShare d))

/-- What it gives back. -/
def back (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ owns (c : Thread nD τ) (ms12 t) fullShare ((dats m 0 c).after 12 t)
    ∗ owns (c : Thread nD τ) (ms13 t) fullShare ((dats m 0 c).after 13 t)
    ∗ owns (c : Thread nD τ) (ms14 t) fullShare ((dats m 0 c).after 14 t)
    ∗ owns (c : Thread nD τ) (ms15 t) fullShare ((dats m 0 c).after 15 t)
    ∗ owns (c : Thread nD τ) (ms16 t) fullShare ((dats m 0 c).after 16 t)
    ∗ owns (c : Thread nD τ) (ms17 t) fullShare ((dats m 0 c).after 17 t)
    ∗ owns (c : Thread nD τ) (ms18 t) fullShare ((dats m 0 c).after 18 t)
    ∗ owns (c : Thread nD τ) (ms19 t) fullShare ((dats m 0 c).after 19 t)
    ∗ owns (c : Thread nD τ) (ms20 t) fullShare ((dats m 0 c).after 20 t)
    ∗ owns (c : Thread nD τ) (ms21 t) fullShare ((dats m 0 c).after 21 t)
    ∗ owns (c : Thread nD τ) (ms22 t) fullShare ((dats m 0 c).after 22 t)
    ∗ (∃ d, owns (c : Thread nD τ) (ms23 t) fullShare d))

set_option maxHeartbeats 4000000 in
theorem sound_body (c : Dev nD) (t : Fin cfg0.N) :
    given m c t ⊢ wp frame (wpE (defs₀ (F := F)) Variants.none c none) Set.univ (bodyAt0 t) (fun _ => back m c t) := by
  unfold given back bodyAt0
  simp only [before_0, before_1, before_2, before_3, before_4, before_5, before_6, before_7, before_8, before_9, before_10, before_11, before_12, before_13, before_14, before_15, before_16, before_17, before_18, before_19, before_20, before_21, before_22]
  rw [show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20, after_21, after_22]
  rw [show (dats m 0 c).Φ t.succ = Pipeline.ΦA spec0 c from rfl, show (dats m 0 c).Φ t.castSucc = Pipeline.ΦA spec0 c from rfl, any_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, H23⟩
  iapply (wp_wand_of (body_any c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)))
  isplitl [H0 H1 H2 H3 H4 H5 H6 H7 H8 H9 H10 H11 H12 H13 H14 H15 H16 H17 H18 H19 H20 H21 H22 H23 HS0 HS1 HS2 HS3 HS4]
  ·
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [HS0]; · iexact HS0
    isplitl [HS1]; · iexact HS1
    isplitl [HS2]; · iexact HS2
    isplitl [HS3]; · iexact HS3
    iexact HS4
  iintro %_
  iintro ⟨H0, H1, H2, H3, H4, H5, H6, H7, H8, H9, H10, H11, H12, H13, H14, H15, H16, H17, H18, H19, H20, H21, H22, H23, HS0, HS1, HS2, HS3, HS4⟩
  isplitl [HS0 HS1 HS2 HS3 HS4 Hg]
  · isplitr [Hg]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iexact H23

/-- The table's row at a point is the body on that point's memrefs. -/
theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ forgets := fun t => by
  rw [bigSep_W0, bigSep_W0, row]
  exact triple_restated (sound_body m c t) rfl .rfl fun _ => .rfl

/-! ## The run and the frame -/

set_option backward.isDefEq.respectTransparency.types false in
theorem run_all : θ_run defs (onTc (τ := τ) (main (F := F))) (s₀ m ρ)
    (fun r => (Pipeline.RDat.FramePost (cfgs 0) (fun c => (dats m 0 c).toRForget forgets) (V m)) r ∧ r.2.sem = fun _ => 0) :=
  Pipeline.θ_run_frame_track_forget_shared (Q' := _) cfgs (dats m) (0 : Fin 1) launch₀0 defs₀ Variants.none forgets m ρ main
    (hbody := fun c => (obligation m c).loose) (hq := fun _ _ _ => rfl)
    (howed := fun _ _ => rfl) (V := V m) (hmain := hmain m Variants.none) (hA := A_eq m) (hin := fun _ => .rfl) (hout := fun _ => .rfl)

set_option maxHeartbeats 2000000 in
theorem end_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(Pipeline.RDat.FramePost.arr_in h c 0 rfl).trans ((hA c 0).trans (V_main_arg0 m c)),
      (Pipeline.RDat.FramePost.arr_in h c 10 rfl).trans ((hA c 10).trans (V_main_arg1 m c)),
      (Pipeline.RDat.FramePost.arr_in h c 11 rfl).trans ((hA c 11).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      (Pipeline.RDat.FramePost.arr_in h c 19 rfl).trans ((hA c 19).trans (V_main_arg10 m c)),
      (Pipeline.RDat.FramePost.arr_in h c 20 rfl).trans ((hA c 20).trans (V_main_arg11 m c)),
      (Pipeline.RDat.FramePost.arr_in h c 21 rfl).trans ((hA c 21).trans (V_main_arg12 m c)),
      (Pipeline.RDat.FramePost.arr_in h c 22 rfl).trans ((hA c 22).trans (V_main_arg13 m c))⟩) h

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  end_of m ρ (fun c => (dats m 0 c).toRForget forgets) (A_eq m) ((θ_run defs _ _).mono (fun _ h => h.1) (run_all m ρ))

theorem frame_holds : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ) ((θ_run defs _ _).mono (fun _ h => h.2) (run_all m ρ))

end Cert.Kernel5Ideal.Mix

end
-- ==== Proof.MlpBody.lean ====
/- Hand-written: the MLP call's body at the extended reals, one row at a time (`pay1_apply`, `out_apply`): the row the
   body leaves is the row normalised, passed through the squared-positive-part layer of 4096 hidden units, added to
   itself and normalised again. The body sums the hidden units in four runs of 1024; `sum_runs` joins them. -/
module

public import proofs.«01_k».proof.Proof.Gen.Kernel2Ideal.Value
public import Idealize.ShloMosaic.Lib.Pointwise

@[expose] public section

noncomputable section

namespace Cert.Proof.Mlp

open Cert.Kernel2Ideal Cert.Kernel2Ideal.Gen Idealize.ShloMosaic

/-- A row scaled by the inverse root of its mean square. -/
def rowRms (x : Fin 1024 → EReal) (j : Fin 1024) : EReal :=
  x j * Ideal.rsqrt (Ideal.div (∑ k : Fin 1024, x k * x k) (Ideal.ofBits .f32 0x44800000#32) + Ideal.ofBits .f32 0x358637BD#32)

/-- One hidden unit: the squared positive part of the normalised row against one column of the first matrix. -/
def act (x w : Fin 1024 → EReal) (u : Fin 1024 → EReal) : EReal :=
  max (∑ k : Fin 1024, rowRms x k * w k * u k) 0 * max (∑ k : Fin 1024, rowRms x k * w k * u k) 0

/-- A row plus its image under the layer. -/
def ffn (x w : Fin 1024 → EReal) (up : Fin 1024 → Fin 4096 → EReal) (down : Fin 4096 → Fin 1024 → EReal) (j : Fin 1024) : EReal :=
  x j + ∑ f : Fin 4096, act x w (fun k => up k f) * down f j

/-- Column `f` of run `b` of the 4096 hidden units. -/
def hid (b : Fin 4) (f : Fin 1024) : Fin 4096 := ⟨1024 * b.val + f.val, by omega⟩

/-- A sum over the 4096 hidden units, one run of 1024 after another. -/
theorem sum_runs (g : Fin 4096 → EReal) : ∑ f : Fin 4096, g f
    = (∑ f : Fin 1024, g (hid 0 f)) + (∑ f : Fin 1024, g (hid 1 f)) + (∑ f : Fin 1024, g (hid 2 f)) + ∑ f : Fin 1024, g (hid 3 f) := by
  have h : ∑ f : Fin 4096, g f = ∑ p : Fin 4 × Fin 1024, g (hid p.1 p.2) :=
    (Fintype.sum_equiv (finProdFinEquiv (m := 4) (n := 1024)) _ _ (fun p => congrArg g (Fin.ext (by
      show 1024 * p.1.val + p.2.val = p.2.val + 1024 * p.1.val; omega)))).symm
  rw [h, Fintype.sum_prod_type, Fin.sum_univ_four]

theorem pay2_apply (x : Vec Ideal S1024x1024 .f32) (w : Vec Ideal S1x1024 .f32) (r c : Fin 1024) :
    k0_pay2 x w (ix2 r c) = rowRms (fun k => x (ix2 r k)) c * w (ix2 0 c) := by
  pointwise [k0_pay2]
  rfl

theorem pay3_apply (x : Vec Ideal S1024x1024 .f32) (w : Vec Ideal S1x1024 .f32) (u0 d0 u1 d1 : Vec Ideal S1024x1024 .bf16) (r c : Fin 1024) :
    k0_pay3 x w u0 d0 u1 d1 (ix2 r c) = x (ix2 r c)
      + (∑ f : Fin 1024, act (fun k => x (ix2 r k)) (fun k => w (ix2 0 k)) (fun k => u0 (ix2 k f)) * d0 (ix2 f c))
      + (∑ f : Fin 1024, act (fun k => x (ix2 r k)) (fun k => w (ix2 0 k)) (fun k => u1 (ix2 k f)) * d1 (ix2 f c)) := by
  pointwise [k0_pay3]
  simp only [pay2_apply, act]

theorem pay1_apply (h : FVec Ideal S1024x1024 .bf16) (s : FVec Ideal S1024x1024 .f32) (u2 d2 u3 d3 : Vec Ideal S1024x1024 .bf16)
    (w : Vec Ideal S1x1024 .f32) (r c : Fin 1024) :
    k0_pay1 h s u2 (constant S1024x1024 .f32 0x00000000#32) d2 u3 d3 w (ix2 r c)
      = rowRms (fun j => s (ix2 r j)
        + (∑ f : Fin 1024, max (∑ k : Fin 1024, h (ix2 r k) * u2 (ix2 k f)) 0 * max (∑ k : Fin 1024, h (ix2 r k) * u2 (ix2 k f)) 0 * d2 (ix2 f j))
        + (∑ f : Fin 1024, max (∑ k : Fin 1024, h (ix2 r k) * u3 (ix2 k f)) 0 * max (∑ k : Fin 1024, h (ix2 r k) * u3 (ix2 k f)) 0 * d3 (ix2 f j))) c
        * w (ix2 0 c) := by
  pointwise [k0_pay1]
  rfl

theorem hz : (![0, 0] : Fin 2 → Nat) = fun _ => 0 := funext fun a => by fin_cases a <;> rfl

/-- What the body leaves at row `r`, column `c` of its block, from the blocks it is given. -/
theorem out_apply (x0 : Vec Ideal S1024x1024 .f32) (x1 : Vec Ideal S1x1024 .f32) (x2 : Vec Ideal S1024x4096 .bf16)
    (x3 : Vec Ideal S4096x1024 .bf16) (x4 : Vec Ideal S1x1024 .f32) (r c : Fin 1024) :
    out0_5 x0 x1 x2 x3 x4 (ix2 r c)
      = rowRms (ffn (fun k => x0 (ix2 r k)) (fun k => x1 (ix2 0 k)) (fun k f => x2 (ix2 k f)) (fun f j => x3 (ix2 f j))) c
        * x4 (ix2 0 c) := by
  unfold out0_5
  rw [View.canon_unit_zero hz, pay1_apply]
  simp only [pay2_apply, pay3_apply]
  have h0 : ∀ f : Fin 1024, hid 0 f = ⟨f.val, by omega⟩ := fun f => Fin.ext (by show 1024 * 0 + f.val = f.val; omega)
  pointwise
  refine congrArg (fun g => rowRms g c * x4 (ix2 0 c)) (funext fun j => ?_)
  refine Eq.trans ?_ (congrArg (x0 (ix2 r j) + ·) (sum_runs _)).symm
  simp only [← add_assoc, h0]
  rfl

end Cert.Proof.Mlp

end
-- ==== Proof.MlpRef.lean ====
/- Hand-written: the MLP reference at the extended reals, read at one row (`ref_apply`). -/
module

public import proofs.«01_k».proof.Proof.MlpBody
public import proofs.«01_k».proof.Proof.Gen.Reference2Ideal.Read

@[expose] public section

noncomputable section

namespace Cert.Proof.Mlp

open Cert.Reference2Ideal Cert.Reference2Ideal.Gen Cert.Reference2Ideal.Read Idealize.ShloMosaic

variable (x0 : Vec Ideal S32768x1024 .f32) (x1 : Vec Ideal S1024 .f32) (x2 : Vec Ideal S1024x4096 .bf16)
    (x3 : Vec Ideal S4096x1024 .bf16) (x4 : Vec Ideal S1024 .f32)

/-- Token `s` of sequence `b` among the 32768 rows. -/
def row (b : Fin 4) (s : Fin 8192) : Fin 32768 := ⟨b.val * 8192 + s.val, by omega⟩

/-- The result array as one function of the argument arrays. -/
def G : Vec Ideal S32768x1024 .f32 := fun i =>
  rowRms (ffn (fun k => x0 (ix2 (i 0) k)) (fun k => x1 (ix1 k)) (fun k f => x2 (ix2 k f)) (fun f j => x3 (ix2 f j))) (i 1)
    * x4 (ix1 (i 1))

theorem v2_at (b : Fin 4) (s : Fin 8192) (k : Fin 1024) :
    val_main_v2 (F := Ideal) x0 (ix3 b s k) = x0 (ix2 (row b s) k) := by
  pointwise [val_main_v2]
  rfl

theorem v15_at (b : Fin 4) (s : Fin 8192) (k : Fin 1024) :
    val_main_v15 (F := Ideal) x0 x1 (ix3 b s k) = rowRms (fun k => x0 (ix2 (row b s) k)) k * x1 (ix1 k) := by
  pointwise [val_main_v15, val_main_v14, val_main_v13, val_main_v12, val_main_v11, val_main_v10, val_main_v9, val_main_v8,
    val_main_v7, val_main_v6, val_main_v5, val_main_v4, val_main_v3, val_main_cst, val_main_cst_0, val_main_cst_1]
  simp only [v2_at]
  rfl

theorem v20_at (b : Fin 4) (s : Fin 8192) (k : Fin 1024) :
    val_main_v20 (F := Ideal) x0 x1 x2 x3 (ix3 b s k)
      = ffn (fun k => x0 (ix2 (row b s) k)) (fun k => x1 (ix1 k)) (fun k f => x2 (ix2 k f)) (fun f j => x3 (ix2 f j)) k := by
  pointwise [val_main_v20, val_main_v19, val_main_v18, val_main_v17, val_main_v16, val_main_v1, val_main_v0,
    val_main_call0_v0, val_main_call0_cst]
  simp only [v2_at, v15_at]
  rfl

theorem v33_at (b : Fin 4) (s : Fin 8192) (k : Fin 1024) :
    val_main_v33 (F := Ideal) x0 x1 x2 x3 x4 (ix3 b s k)
      = rowRms (ffn (fun k => x0 (ix2 (row b s) k)) (fun k => x1 (ix1 k)) (fun k f => x2 (ix2 k f)) (fun f j => x3 (ix2 f j))) k
        * x4 (ix1 k) := by
  pointwise [val_main_v33, val_main_v32, val_main_v31, val_main_v30, val_main_v29, val_main_v28, val_main_v27, val_main_v26,
    val_main_v25, val_main_v24, val_main_v23, val_main_v22, val_main_v21, val_main_cst_2, val_main_cst_3, val_main_cst_4]
  simp only [v20_at]
  rfl

/-- The reference's result is `G` of its arguments. -/
theorem ref_eq : val_main_v34 (F := Ideal) x0 x1 x2 x3 x4 = G x0 x1 x2 x3 x4 := by
  funext i
  obtain ⟨r, c, rfl⟩ : ∃ (r : Fin 32768) (c : Fin 1024), i = ix2 r c := ⟨i 0, i 1, (ix2_eta i).symm⟩
  have hr : row ⟨r.val / 8192, by omega⟩ ⟨r.val % 8192, by omega⟩ = r := Fin.ext (by show r.val / 8192 * 8192 + r.val % 8192 = r.val; omega)
  rw [val_main_v34_apply]
  have hi : idx_main_v34 (ix2 r c) = ix3 ⟨r.val / 8192, by omega⟩ ⟨r.val % 8192, by omega⟩ c := by
    funext a
    apply Fin.ext
    have h0 : ((ix2 r c : S32768x1024.Idx) 0).val = r.val := rfl
    have h1 : ((ix2 r c : S32768x1024.Idx) 1).val = c.val := rfl
    match a with
    | ⟨0, _⟩ => show _ = r.val / 8192; simp [idx_main_v34]; omega
    | ⟨1, _⟩ => show _ = r.val % 8192; simp [idx_main_v34]; omega
    | ⟨2, _⟩ => show _ = c.val; simp [idx_main_v34]
  rw [hi, v33_at, hr]
  rfl

end Cert.Proof.Mlp

end
-- ==== Proof.Mlp.lean ====
/- Hand-written: the MLP call's result array is `G` of its arguments (`final`), and so is the reference's
   (`algebraic`). Grid point `t` writes rows `1024 t` to `1024 t + 1023`; the matrices and the two weight rows are whole
   at every point. -/
module

public import proofs.«01_k».proof.Defs
public import proofs.«01_k».proof.Proof.MlpRef
public import proofs.«01_k».proof.Proof.Gen.Reference2Ideal.Run
public import Idealize.ShloMosaic.Lib.StableHlo.Run
public import Idealize.ShloMosaic.Lib.Quiescent

@[expose] public section

noncomputable section

namespace Cert.Proof.Mlp

open Cert.Kernel2Ideal Cert.Kernel2Ideal.Gen Cert.Kernel2Ideal.Value Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The first weight row as the region finds it: the argument laid out as one row. -/
theorem V_v0 (c : Dev nD) (k : Fin 1024) : V m c main_v0 (ix2 0 k) = m ((c : Thread nD τ).loc main_arg1) (ix1 k) := by
  have h : V m c main_v0 = broadcastInDim S1x1024 ![1] bcast_S1024_S1x1024_1 (m ((c : Thread nD τ).loc main_arg1)) := by
    show StableHlo.after hostOps0 _ (Proc.devRef .tc main_v0) = _
    after_results
  rw [h]
  pointwise

/-- The second likewise. -/
theorem V_v1 (c : Dev nD) (k : Fin 1024) : V m c main_v1 (ix2 0 k) = m ((c : Thread nD τ).loc main_arg4) (ix1 k) := by
  have h : V m c main_v1 = broadcastInDim S1x1024 ![1] bcast_S1024_S1x1024_1 (m ((c : Thread nD τ).loc main_arg4)) := by
    show StableHlo.after hostOps0 _ (Proc.devRef .tc main_v1) = _
    after_results
  rw [h]
  pointwise

theorem idx0 : ∀ t : Fin cfg0.N, win0_0.index t 0 = t.val ∧ win0_0.index t 1 = 0 := (by decide +kernel : ∀ t : Fin grid0.N, _)
theorem idx1 : ∀ t : Fin cfg0.N, win0_1.index t 0 = 0 ∧ win0_1.index t 1 = 0 := (by decide +kernel : ∀ t : Fin grid0.N, _)
theorem idx2 : ∀ t : Fin cfg0.N, win0_2.index t 0 = 0 ∧ win0_2.index t 1 = 0 := (by decide +kernel : ∀ t : Fin grid0.N, _)
theorem idx3 : ∀ t : Fin cfg0.N, win0_3.index t 0 = 0 ∧ win0_3.index t 1 = 0 := (by decide +kernel : ∀ t : Fin grid0.N, _)
theorem idx4 : ∀ t : Fin cfg0.N, win0_4.index t 0 = 0 ∧ win0_4.index t 1 = 0 := (by decide +kernel : ∀ t : Fin grid0.N, _)
theorem idx5 : ∀ t : Fin cfg0.N, win0_5.index t 0 = t.val ∧ win0_5.index t 1 = 0 := (by decide +kernel : ∀ t : Fin grid0.N, _)

/-- Row `r` of point `t`'s block, in the array. -/
def arow (t : Fin cfg0.N) (r : Fin 1024) : Fin 32768 :=
  ⟨1024 * t.val + r.val, by have := t.isLt; have hN : cfg0.N = 32 := N_0; omega⟩

theorem emb0 (t : Fin cfg0.N) (r k : Fin 1024) : ((cfg0.win 0).blk t).view.emb (ix2 r k) = ix2 (arow t r) k := by
  obtain ⟨e0, e1⟩ := idx0 t
  funext a; apply Fin.ext
  match a with
  | ⟨0, _⟩ => show win0_0.index t 0 * 1024 + 1 * r.val = 1024 * t.val + r.val; omega
  | ⟨1, _⟩ => show win0_0.index t 1 * 1024 + 1 * k.val = k.val; omega

theorem emb5 (t : Fin cfg0.N) (r k : Fin 1024) : ((cfg0.win 5).blk t).view.emb (ix2 r k) = ix2 (arow t r) k := by
  obtain ⟨e0, e1⟩ := idx5 t
  funext a; apply Fin.ext
  match a with
  | ⟨0, _⟩ => show win0_5.index t 0 * 1024 + 1 * r.val = 1024 * t.val + r.val; omega
  | ⟨1, _⟩ => show win0_5.index t 1 * 1024 + 1 * k.val = k.val; omega

theorem iblk0 (c : Dev nD) (t : Fin cfg0.N) (r k : Fin 1024) :
    iblk m c 0 t (ix2 r k) = m ((c : Thread nD τ).loc main_arg0) (ix2 (arow t r) k) := by
  show V m c main_arg0 (((cfg0.win 0).blk t).view.emb (ix2 r k)) = _
  rw [emb0, V_main_arg0]

theorem iblk1 (c : Dev nD) (t : Fin cfg0.N) (k : Fin 1024) :
    iblk m c 1 t (ix2 0 k) = m ((c : Thread nD τ).loc main_arg1) (ix1 k) := by
  show V m c main_v0 (((cfg0.win 1).blk t).view.emb (ix2 0 k)) = _
  rw [show ((cfg0.win 1).blk t).view.emb (ix2 0 k) = ix2 0 k from by
    obtain ⟨e0, e1⟩ := idx1 t
    funext a; apply Fin.ext
    match a with
    | ⟨0, _⟩ => show win0_1.index t 0 * 1 + 1 * 0 = 0; omega
    | ⟨1, _⟩ => show win0_1.index t 1 * 1024 + 1 * k.val = k.val; omega]
  exact V_v0 m c k

theorem iblk4 (c : Dev nD) (t : Fin cfg0.N) (k : Fin 1024) :
    iblk m c 4 t (ix2 0 k) = m ((c : Thread nD τ).loc main_arg4) (ix1 k) := by
  show V m c main_v1 (((cfg0.win 4).blk t).view.emb (ix2 0 k)) = _
  rw [show ((cfg0.win 4).blk t).view.emb (ix2 0 k) = ix2 0 k from by
    obtain ⟨e0, e1⟩ := idx4 t
    funext a; apply Fin.ext
    match a with
    | ⟨0, _⟩ => show win0_4.index t 0 * 1 + 1 * 0 = 0; omega
    | ⟨1, _⟩ => show win0_4.index t 1 * 1024 + 1 * k.val = k.val; omega]
  exact V_v1 m c k

theorem iblk2 (c : Dev nD) (t : Fin cfg0.N) (k : Fin 1024) (f : Fin 4096) :
    iblk m c 2 t (ix2 k f) = m ((c : Thread nD τ).loc main_arg2) (ix2 k f) := by
  show V m c main_arg2 (((cfg0.win 2).blk t).view.emb (ix2 k f)) = _
  rw [show ((cfg0.win 2).blk t).view.emb (ix2 k f) = ix2 k f from by
    obtain ⟨e0, e1⟩ := idx2 t
    funext a; apply Fin.ext
    match a with
    | ⟨0, _⟩ => show win0_2.index t 0 * 1024 + 1 * k.val = k.val; omega
    | ⟨1, _⟩ => show win0_2.index t 1 * 4096 + 1 * f.val = f.val; omega, V_main_arg2]

theorem iblk3 (c : Dev nD) (t : Fin cfg0.N) (f : Fin 4096) (k : Fin 1024) :
    iblk m c 3 t (ix2 f k) = m ((c : Thread nD τ).loc main_arg3) (ix2 f k) := by
  show V m c main_arg3 (((cfg0.win 3).blk t).view.emb (ix2 f k)) = _
  rw [show ((cfg0.win 3).blk t).view.emb (ix2 f k) = ix2 f k from by
    obtain ⟨e0, e1⟩ := idx3 t
    funext a; apply Fin.ext
    match a with
    | ⟨0, _⟩ => show win0_3.index t 0 * 4096 + 1 * f.val = f.val; omega
    | ⟨1, _⟩ => show win0_3.index t 1 * 1024 + 1 * k.val = k.val; omega, V_main_arg3]

/-- The result array the claims speak of. -/
abbrev res (c : Dev nD) : Vec Ideal S32768x1024 .f32 :=
  G (m ((c : Thread nD τ).loc main_arg0)) (m ((c : Thread nD τ).loc main_arg1)) (m ((c : Thread nD τ).loc main_arg2))
    (m ((c : Thread nD τ).loc main_arg3)) (m ((c : Thread nD τ).loc main_arg4))

/-- What point `t` writes back is its block of `res`. -/
theorem flushed_eq (c : Dev nD) (t : Fin cfg0.N) :
    (dats m 0 c).flushed 5 t = ((cfg0.win 5).blk t).view.read (Elt Ideal) (res m c) := by
  rw [flushed5]
  funext j
  obtain ⟨r, k, rfl⟩ : ∃ r k : Fin 1024, j = ix2 r k := ⟨j 0, j 1, (ix2_eta j).symm⟩
  show out0_5 (iblk m c 0 t) (iblk m c 1 t) (iblk m c 2 t) (iblk m c 3 t) (iblk m c 4 t) (ix2 r k)
    = res m c (((cfg0.win 5).blk t).view.emb (ix2 r k))
  rw [emb5, out_apply]
  simp only [iblk0, iblk1, iblk2, iblk3, iblk4]
  rfl

/-- Every index of the result array is in the block of the point that owns its row. -/
theorem covered (i : S32768x1024.Idx) :
    ∃ t : Fin cfg0.N, (cfg0.win 5).flush t = true ∧ i ∈ ((cfg0.win 5).blk t).view.set := by
  have h0 : (i 0).val < 32768 := (i 0).isLt
  have hN : cfg0.N = 32 := N_0
  let t : Fin cfg0.N := ⟨(i 0).val / 1024, by omega⟩
  refine ⟨t, flush0_5 t, ?_⟩
  have h : ix2 (arow t ⟨(i 0).val % 1024, by omega⟩) (i 1) ∈ ((cfg0.win 5).blk t).view.set :=
    emb5 t ⟨(i 0).val % 1024, by omega⟩ (i 1) ▸ ((cfg0.win 5).blk t).view.emb_mem_set (ix2 ⟨(i 0).val % 1024, by omega⟩ (i 1))
  have e : ix2 (arow t ⟨(i 0).val % 1024, by omega⟩) (i 1) = i := by
    conv_rhs => rw [← ix2_eta i]
    rw [show arow t ⟨(i 0).val % 1024, by omega⟩ = i 0 from Fin.ext (by
      show 1024 * ((i 0).val / 1024) + (i 0).val % 1024 = (i 0).val; omega)]
    rfl
  rwa [e] at h

theorem final (c : Dev nD) : (dats m 0 c).arrAt 5 cfg0.N = res m c :=
  (dats m 0 c).arrAt_eq_of_cover 5 (res m c) (fun t _ => flushed_eq m c t) covered

/-- The reference's frame: its arguments end as launched, and it has no semaphore. -/
theorem ref_frame : Cert.quiescent_Reference2Ideal := fun m ρ _ =>
  (θ_run _ _ _).mono (fun r h => ⟨fun c => (h c).2, Idealize.ShloMosaic.sem_eq_zero_of_no_sems (by decide) r.2⟩)
    (Cert.Reference2Ideal.Value.run m ρ)

/-- The kernel and the reference end with the same array, at the extended reals. -/
theorem algebraic : Cert.algebraic_Kernel2Ideal_Reference2Ideal := fun m ρ m' ρ' _ hagree =>
  ⟨fun c => res m c,
    (θ_run _ _ _).mono (fun _ h c => ⟨(h c).1.trans (final m c), (h c).2⟩) (Cert.Kernel2Ideal.Value.run_blocks m ρ),
    (θ_run _ _ _).mono (fun _ h c => ⟨(h c).1.trans (by
      obtain ⟨h0, h1, h2, h3, h4⟩ := hagree c
      rw [Cert.Reference2Ideal.Read.val_main_v34_eq, h0, h1, h2, h3, h4]
      exact ref_eq _ _ _ _ _), (h c).2⟩) (Cert.Reference2Ideal.Value.run m' ρ')⟩

end Cert.Proof.Mlp

end
-- ==== Proof.FirstBody.lean ====
/- Hand-written: the first layer's MLP call, which ends with the residual sum and no second normalisation: its body at the
   extended reals (`out_apply`) and its reference (`ref_eq`), both in the row functions of `Proof.MlpBody`. -/
module

public import proofs.«01_k».proof.Proof.MlpRef
public import proofs.«01_k».proof.Proof.Gen.Kernel4Ideal.Value
public import proofs.«01_k».proof.Proof.Gen.Reference4Ideal.Read

@[expose] public section

noncomputable section

namespace Cert.Proof.First

open Idealize.ShloMosaic Cert.Proof.Mlp

/-- The result array as one function of the argument arrays; the last weight row is not read. -/
def G (x0 : Vec Ideal Cert.Kernel4Ideal.S32768x1024 .f32) (x1 : Vec Ideal Cert.Kernel4Ideal.S1024 .f32)
    (x2 : Vec Ideal Cert.Kernel4Ideal.S1024x4096 .bf16) (x3 : Vec Ideal Cert.Kernel4Ideal.S4096x1024 .bf16) :
    Vec Ideal Cert.Kernel4Ideal.S32768x1024 .f32 := fun i =>
  ffn (fun k => x0 (ix2 (i 0) k)) (fun k => x1 (ix1 k)) (fun k f => x2 (ix2 k f)) (fun f j => x3 (ix2 f j)) (i 1)

section Kernel

open Cert.Kernel4Ideal Cert.Kernel4Ideal.Gen

theorem pay2_apply (x : Vec Ideal S1024x1024 .f32) (w : Vec Ideal S1x1024 .f32) (r c : Fin 1024) :
    k0_pay2 x w (ix2 r c) = rowRms (fun k => x (ix2 r k)) c * w (ix2 0 c) := by
  pointwise [k0_pay2]
  rfl

theorem pay3_apply (x : Vec Ideal S1024x1024 .f32) (w : Vec Ideal S1x1024 .f32) (u0 d0 u1 d1 : Vec Ideal S1024x1024 .bf16) (r c : Fin 1024) :
    k0_pay3 x w u0 d0 u1 d1 (ix2 r c) = x (ix2 r c)
      + (∑ f : Fin 1024, act (fun k => x (ix2 r k)) (fun k => w (ix2 0 k)) (fun k => u0 (ix2 k f)) * d0 (ix2 f c))
      + (∑ f : Fin 1024, act (fun k => x (ix2 r k)) (fun k => w (ix2 0 k)) (fun k => u1 (ix2 k f)) * d1 (ix2 f c)) := by
  pointwise [k0_pay3]
  simp only [pay2_apply, act]

theorem pay1_apply (h : FVec Ideal S1024x1024 .bf16) (s : FVec Ideal S1024x1024 .f32) (u2 d2 u3 d3 : Vec Ideal S1024x1024 .bf16)
    (r c : Fin 1024) :
    k0_pay1 h s u2 (constant S1024x1024 .f32 0x00000000#32) d2 u3 d3 (ix2 r c)
      = s (ix2 r c)
        + (∑ f : Fin 1024, max (∑ k : Fin 1024, h (ix2 r k) * u2 (ix2 k f)) 0 * max (∑ k : Fin 1024, h (ix2 r k) * u2 (ix2 k f)) 0 * d2 (ix2 f c))
        + (∑ f : Fin 1024, max (∑ k : Fin 1024, h (ix2 r k) * u3 (ix2 k f)) 0 * max (∑ k : Fin 1024, h (ix2 r k) * u3 (ix2 k f)) 0 * d3 (ix2 f c)) := by
  pointwise [k0_pay1]

/-- What the body leaves at row `r`, column `c` of its block, from the blocks it is given. -/
theorem out_apply (x0 : Vec Ideal S1024x1024 .f32) (x1 : Vec Ideal S1x1024 .f32) (x2 : Vec Ideal S1024x4096 .bf16)
    (x3 : Vec Ideal S4096x1024 .bf16) (x4 : Vec Ideal S1x1024 .f32) (r c : Fin 1024) :
    out0_5 x0 x1 x2 x3 x4 (ix2 r c)
      = ffn (fun k => x0 (ix2 r k)) (fun k => x1 (ix2 0 k)) (fun k f => x2 (ix2 k f)) (fun f j => x3 (ix2 f j)) c := by
  unfold out0_5
  rw [View.canon_unit_zero hz, pay1_apply]
  simp only [pay2_apply, pay3_apply]
  have h0 : ∀ f : Fin 1024, hid 0 f = ⟨f.val, by omega⟩ := fun f => Fin.ext (by show 1024 * 0 + f.val = f.val; omega)
  pointwise
  refine Eq.trans ?_ (congrArg (x0 (ix2 r c) + ·) (sum_runs _)).symm
  simp only [← add_assoc, h0]
  rfl

end Kernel

section Reference

open Cert.Reference4Ideal Cert.Reference4Ideal.Gen Cert.Reference4Ideal.Read

variable (x0 : Vec Ideal S32768x1024 .f32) (x1 : Vec Ideal S1024 .f32) (x2 : Vec Ideal S1024x4096 .bf16)
    (x3 : Vec Ideal S4096x1024 .bf16)

theorem v2_at (b : Fin 4) (s : Fin 8192) (k : Fin 1024) :
    val_main_v2 (F := Ideal) x0 (ix3 b s k) = x0 (ix2 (row b s) k) := by
  pointwise [val_main_v2]
  rfl

theorem v15_at (b : Fin 4) (s : Fin 8192) (k : Fin 1024) :
    val_main_v15 (F := Ideal) x0 x1 (ix3 b s k) = rowRms (fun k => x0 (ix2 (row b s) k)) k * x1 (ix1 k) := by
  pointwise [val_main_v15, val_main_v14, val_main_v13, val_main_v12, val_main_v11, val_main_v10, val_main_v9, val_main_v8,
    val_main_v7, val_main_v6, val_main_v5, val_main_v4, val_main_v3, val_main_cst, val_main_cst_0, val_main_cst_1]
  simp only [v2_at]
  rfl

theorem v20_at (b : Fin 4) (s : Fin 8192) (k : Fin 1024) :
    val_main_v20 (F := Ideal) x0 x1 x2 x3 (ix3 b s k)
      = ffn (fun k => x0 (ix2 (row b s) k)) (fun k => x1 (ix1 k)) (fun k f => x2 (ix2 k f)) (fun f j => x3 (ix2 f j)) k := by
  pointwise [val_main_v20, val_main_v19, val_main_v18, val_main_v17, val_main_v16, val_main_v1, val_main_v0,
    val_main_call0_v0, val_main_call0_cst]
  simp only [v2_at, v15_at]
  rfl

/-- The reference's result is `G` of its arguments. -/
theorem ref_eq : val_main_v21 (F := Ideal) x0 x1 x2 x3 = G x0 x1 x2 x3 := by
  funext i
  obtain ⟨r, c, rfl⟩ : ∃ (r : Fin 32768) (c : Fin 1024), i = ix2 r c := ⟨i 0, i 1, (ix2_eta i).symm⟩
  have hr : row ⟨r.val / 8192, by omega⟩ ⟨r.val % 8192, by omega⟩ = r := Fin.ext (by show r.val / 8192 * 8192 + r.val % 8192 = r.val; omega)
  rw [val_main_v21_apply]
  have hi : idx_main_v21 (ix2 r c) = ix3 ⟨r.val / 8192, by omega⟩ ⟨r.val % 8192, by omega⟩ c := by
    funext a
    apply Fin.ext
    have h0 : ((ix2 r c : S32768x1024.Idx) 0).val = r.val := rfl
    have h1 : ((ix2 r c : S32768x1024.Idx) 1).val = c.val := rfl
    match a with
    | ⟨0, _⟩ => show _ = r.val / 8192; simp [idx_main_v21]; omega
    | ⟨1, _⟩ => show _ = r.val % 8192; simp [idx_main_v21]; omega
    | ⟨2, _⟩ => show _ = c.val; simp [idx_main_v21]
  rw [hi, v20_at, hr]
  rfl

end Reference

end Cert.Proof.First

end
-- ==== Proof.First.lean ====
/- Hand-written: the first layer's MLP call's result array is `G` of its arguments (`final`), and so is the reference's
   (`algebraic`). Grid point `t` writes rows `1024 t` to `1024 t + 1023`; the matrices and the two weight rows are whole
   at every point. -/
module

public import proofs.«01_k».proof.Defs
public import proofs.«01_k».proof.Proof.FirstBody
public import proofs.«01_k».proof.Proof.Gen.Reference4Ideal.Run
public import Idealize.ShloMosaic.Lib.StableHlo.Run
public import Idealize.ShloMosaic.Lib.Quiescent

@[expose] public section

noncomputable section

namespace Cert.Proof.First

open Cert.Kernel4Ideal Cert.Kernel4Ideal.Gen Cert.Kernel4Ideal.Value Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The first weight row as the region finds it: the argument laid out as one row. -/
theorem V_v0 (c : Dev nD) (k : Fin 1024) : V m c main_v0 (ix2 0 k) = m ((c : Thread nD τ).loc main_arg1) (ix1 k) := by
  have h : V m c main_v0 = broadcastInDim S1x1024 ![1] bcast_S1024_S1x1024_1 (m ((c : Thread nD τ).loc main_arg1)) := by
    show StableHlo.after hostOps0 _ (Proc.devRef .tc main_v0) = _
    after_results
  rw [h]
  pointwise

theorem idx0 : ∀ t : Fin cfg0.N, win0_0.index t 0 = t.val ∧ win0_0.index t 1 = 0 := (by decide +kernel : ∀ t : Fin grid0.N, _)
theorem idx1 : ∀ t : Fin cfg0.N, win0_1.index t 0 = 0 ∧ win0_1.index t 1 = 0 := (by decide +kernel : ∀ t : Fin grid0.N, _)
theorem idx2 : ∀ t : Fin cfg0.N, win0_2.index t 0 = 0 ∧ win0_2.index t 1 = 0 := (by decide +kernel : ∀ t : Fin grid0.N, _)
theorem idx3 : ∀ t : Fin cfg0.N, win0_3.index t 0 = 0 ∧ win0_3.index t 1 = 0 := (by decide +kernel : ∀ t : Fin grid0.N, _)
theorem idx5 : ∀ t : Fin cfg0.N, win0_5.index t 0 = t.val ∧ win0_5.index t 1 = 0 := (by decide +kernel : ∀ t : Fin grid0.N, _)

/-- Row `r` of point `t`'s block, in the array. -/
def arow (t : Fin cfg0.N) (r : Fin 1024) : Fin 32768 :=
  ⟨1024 * t.val + r.val, by have := t.isLt; have hN : cfg0.N = 32 := N_0; omega⟩

theorem emb0 (t : Fin cfg0.N) (r k : Fin 1024) : ((cfg0.win 0).blk t).view.emb (ix2 r k) = ix2 (arow t r) k := by
  obtain ⟨e0, e1⟩ := idx0 t
  funext a; apply Fin.ext
  match a with
  | ⟨0, _⟩ => show win0_0.index t 0 * 1024 + 1 * r.val = 1024 * t.val + r.val; omega
  | ⟨1, _⟩ => show win0_0.index t 1 * 1024 + 1 * k.val = k.val; omega

theorem emb5 (t : Fin cfg0.N) (r k : Fin 1024) : ((cfg0.win 5).blk t).view.emb (ix2 r k) = ix2 (arow t r) k := by
  obtain ⟨e0, e1⟩ := idx5 t
  funext a; apply Fin.ext
  match a with
  | ⟨0, _⟩ => show win0_5.index t 0 * 1024 + 1 * r.val = 1024 * t.val + r.val; omega
  | ⟨1, _⟩ => show win0_5.index t 1 * 1024 + 1 * k.val = k.val; omega

theorem iblk0 (c : Dev nD) (t : Fin cfg0.N) (r k : Fin 1024) :
    iblk m c 0 t (ix2 r k) = m ((c : Thread nD τ).loc main_arg0) (ix2 (arow t r) k) := by
  show V m c main_arg0 (((cfg0.win 0).blk t).view.emb (ix2 r k)) = _
  rw [emb0, V_main_arg0]

theorem iblk1 (c : Dev nD) (t : Fin cfg0.N) (k : Fin 1024) :
    iblk m c 1 t (ix2 0 k) = m ((c : Thread nD τ).loc main_arg1) (ix1 k) := by
  show V m c main_v0 (((cfg0.win 1).blk t).view.emb (ix2 0 k)) = _
  rw [show ((cfg0.win 1).blk t).view.emb (ix2 0 k) = ix2 0 k from by
    obtain ⟨e0, e1⟩ := idx1 t
    funext a; apply Fin.ext
    match a with
    | ⟨0, _⟩ => show win0_1.index t 0 * 1 + 1 * 0 = 0; omega
    | ⟨1, _⟩ => show win0_1.index t 1 * 1024 + 1 * k.val = k.val; omega]
  exact V_v0 m c k

theorem iblk2 (c : Dev nD) (t : Fin cfg0.N) (k : Fin 1024) (f : Fin 4096) :
    iblk m c 2 t (ix2 k f) = m ((c : Thread nD τ).loc main_arg2) (ix2 k f) := by
  show V m c main_arg2 (((cfg0.win 2).blk t).view.emb (ix2 k f)) = _
  rw [show ((cfg0.win 2).blk t).view.emb (ix2 k f) = ix2 k f from by
    obtain ⟨e0, e1⟩ := idx2 t
    funext a; apply Fin.ext
    match a with
    | ⟨0, _⟩ => show win0_2.index t 0 * 1024 + 1 * k.val = k.val; omega
    | ⟨1, _⟩ => show win0_2.index t 1 * 4096 + 1 * f.val = f.val; omega, V_main_arg2]

theorem iblk3 (c : Dev nD) (t : Fin cfg0.N) (f : Fin 4096) (k : Fin 1024) :
    iblk m c 3 t (ix2 f k) = m ((c : Thread nD τ).loc main_arg3) (ix2 f k) := by
  show V m c main_arg3 (((cfg0.win 3).blk t).view.emb (ix2 f k)) = _
  rw [show ((cfg0.win 3).blk t).view.emb (ix2 f k) = ix2 f k from by
    obtain ⟨e0, e1⟩ := idx3 t
    funext a; apply Fin.ext
    match a with
    | ⟨0, _⟩ => show win0_3.index t 0 * 4096 + 1 * f.val = f.val; omega
    | ⟨1, _⟩ => show win0_3.index t 1 * 1024 + 1 * k.val = k.val; omega, V_main_arg3]

/-- The result array the claims speak of. -/
abbrev res (c : Dev nD) : Vec Ideal S32768x1024 .f32 :=
  G (m ((c : Thread nD τ).loc main_arg0)) (m ((c : Thread nD τ).loc main_arg1)) (m ((c : Thread nD τ).loc main_arg2))
    (m ((c : Thread nD τ).loc main_arg3))

/-- What point `t` writes back is its block of `res`. -/
theorem flushed_eq (c : Dev nD) (t : Fin cfg0.N) :
    (dats m 0 c).flushed 5 t = ((cfg0.win 5).blk t).view.read (Elt Ideal) (res m c) := by
  rw [flushed5]
  funext j
  obtain ⟨r, k, rfl⟩ : ∃ r k : Fin 1024, j = ix2 r k := ⟨j 0, j 1, (ix2_eta j).symm⟩
  show out0_5 (iblk m c 0 t) (iblk m c 1 t) (iblk m c 2 t) (iblk m c 3 t) (iblk m c 4 t) (ix2 r k)
    = res m c (((cfg0.win 5).blk t).view.emb (ix2 r k))
  rw [emb5, out_apply]
  simp only [iblk0, iblk1, iblk2, iblk3]
  rfl

/-- Every index of the result array is in the block of the point that owns its row. -/
theorem covered (i : S32768x1024.Idx) :
    ∃ t : Fin cfg0.N, (cfg0.win 5).flush t = true ∧ i ∈ ((cfg0.win 5).blk t).view.set := by
  have h0 : (i 0).val < 32768 := (i 0).isLt
  have hN : cfg0.N = 32 := N_0
  let t : Fin cfg0.N := ⟨(i 0).val / 1024, by omega⟩
  refine ⟨t, flush0_5 t, ?_⟩
  have h : ix2 (arow t ⟨(i 0).val % 1024, by omega⟩) (i 1) ∈ ((cfg0.win 5).blk t).view.set :=
    emb5 t ⟨(i 0).val % 1024, by omega⟩ (i 1) ▸ ((cfg0.win 5).blk t).view.emb_mem_set (ix2 ⟨(i 0).val % 1024, by omega⟩ (i 1))
  have e : ix2 (arow t ⟨(i 0).val % 1024, by omega⟩) (i 1) = i := by
    conv_rhs => rw [← ix2_eta i]
    rw [show arow t ⟨(i 0).val % 1024, by omega⟩ = i 0 from Fin.ext (by
      show 1024 * ((i 0).val / 1024) + (i 0).val % 1024 = (i 0).val; omega)]
    rfl
  rwa [e] at h

theorem final (c : Dev nD) : (dats m 0 c).arrAt 5 cfg0.N = res m c :=
  (dats m 0 c).arrAt_eq_of_cover 5 (res m c) (fun t _ => flushed_eq m c t) covered

/-- The reference's frame: its arguments end as launched, and it has no semaphore. -/
theorem ref_frame : Cert.quiescent_Reference4Ideal := fun m ρ _ =>
  (θ_run _ _ _).mono (fun r h => ⟨fun c => (h c).2, Idealize.ShloMosaic.sem_eq_zero_of_no_sems (by decide) r.2⟩)
    (Cert.Reference4Ideal.Value.run m ρ)

/-- The kernel and the reference end with the same array, at the extended reals. -/
theorem algebraic : Cert.algebraic_Kernel4Ideal_Reference4Ideal := fun m ρ m' ρ' _ hagree =>
  ⟨fun c => res m c,
    (θ_run _ _ _).mono (fun _ h c => ⟨(h c).1.trans (final m c), (h c).2⟩) (Cert.Kernel4Ideal.Value.run_blocks m ρ),
    (θ_run _ _ _).mono (fun _ h c => ⟨(h c).1.trans (by
      obtain ⟨h0, h1, h2, h3, _⟩ := hagree c
      rw [Cert.Reference4Ideal.Read.val_main_v21_eq, h0, h1, h2, h3]
      exact ref_eq _ _ _ _), (h c).2⟩) (Cert.Reference4Ideal.Value.run m' ρ')⟩

end Cert.Proof.First

end
-- ==== Proof.ProjBody.lean ====
/- Hand-written: the arithmetic of the projection call's body at the extended reals, one entry at a time. -/
module

public import proofs.«01_k».proof.Proof.Gen.Kernel3Ideal.Value
public import proofs.«01_k».proof.Proof.MlpBody
public import Idealize.ShloMosaic.Lib.Pointwise
public import Idealize.ShloMosaic.Lib.Pipeline.ValueKit

@[expose] public section

noncomputable section

namespace Cert.Proof.Proj

open Cert.Kernel3Ideal Cert.Kernel3Ideal.Gen Idealize.ShloMosaic

/-- One half, as the body's literal has it. -/
abbrev half : EReal := Ideal.ofBits .f32 0x3F000000#32

/-- The gate function by the hyperbolic tangent of half its argument. -/
def siluT (v : EReal) : EReal := half * v * Ideal.tanh (half * v) + half * v

/-- The logistic function by the hyperbolic tangent of half its argument. -/
def sigT (v : EReal) : EReal := half * Ideal.tanh (half * v) + half

/-- An entry of a product of a row block with a column block of weights. -/
def mm (h : Vec Ideal S256x1024 .bf16) (w : Vec Ideal S1024x1024 .bf16) (r : Fin 256) (k : Fin 1024) : EReal :=
  ∑ j : Fin 1024, h (ix2 r j) * w (ix2 j k)

theorem pay4_apply (x : Vec Ideal S256x1024 .f32) (w : Vec Ideal S1x1024 .f32) (r : Fin 256) (k : Fin 1024) :
    k0_pay4 x w (ix2 r k) = Mlp.rowRms (fun j => x (ix2 r j)) k * w (ix2 0 k) := by
  pointwise [k0_pay4]
  rfl

theorem pay5_apply (h : Vec Ideal S256x1024 .bf16) (w : Vec Ideal S1024x128 .bf16) (r : Fin 256) (k : Fin 128) :
    k0_pay5 h w (ix2 r k) = ∑ j : Fin 1024, h (ix2 r j) * w (ix2 j k) := by
  pointwise [k0_pay5]

theorem pay6_apply (h : Vec Ideal S256x1024 .bf16) (w w' : Vec Ideal S1024x1024 .bf16) (r : Fin 256) (k : Fin 1024) :
    k0_pay6 h w h w' (ix2 r k) = mm h w' r k * mm h w r k := by
  pointwise [k0_pay6]
  rfl

theorem pay33_apply (h : Vec Ideal S256x1024 .bf16) (w : Vec Ideal S1024x1024 .bf16) (r : Fin 256) (k : Fin 1024) :
    k0_pay33 h w (ix2 r k) = mm h w r k := by
  pointwise [k0_pay33]
  rfl

theorem pay62_apply (h : Vec Ideal S256x1024 .bf16) (w : Vec Ideal S1024x1024 .bf16) (r : Fin 256) (k : Fin 1024) :
    k0_pay62 h w (ix2 r k) = mm h w r k := by
  pointwise [k0_pay62]
  rfl

theorem pay31_apply (h : Vec Ideal S256x1024 .bf16) (w : Vec Ideal S1024x1024 .bf16) (r : Fin 256) (k : Fin 1024) :
    k0_pay31 h w (ix2 r k) = siluT (mm h w r k) := by
  pointwise [k0_pay31]
  rfl

theorem pay96_apply (h : Vec Ideal S256x1024 .bf16) (w : Vec Ideal S1024x1024 .bf16) (r : Fin 256) (k : Fin 1024) :
    k0_pay96 h w (ix2 r k) = mm h w r k := by
  pointwise [k0_pay96]
  rfl

theorem pay97_apply (h : Vec Ideal S256x1024 .bf16) (w : Vec Ideal S1024x1024 .bf16) (r : Fin 256) (k : Fin 1024) :
    k0_pay97 h w (ix2 r k) = mm h w r k := by
  pointwise [k0_pay97]
  rfl

theorem pay98_apply (h : Vec Ideal S256x1024 .bf16) (w : Vec Ideal S1024x1024 .bf16) (r : Fin 256) (k : Fin 1024) :
    k0_pay98 h w (ix2 r k) = siluT (mm h w r k) := by
  pointwise [k0_pay98]
  rfl

theorem pay99_apply (h : Vec Ideal S256x1024 .bf16) (w : Vec Ideal S1024x1024 .bf16) (r : Fin 256) (k : Fin 1024) :
    k0_pay99 h w (ix2 r k) = sigT (mm h w r k) := by
  pointwise [k0_pay99]
  rfl

theorem pay100_apply (h : Vec Ideal S256x1024 .bf16) (w : Vec Ideal S1024x1024 .bf16) (r : Fin 256) (k : Fin 1024) :
    k0_pay100 h w (ix2 r k) = sigT (mm h w r k) := by
  pointwise [k0_pay100]
  rfl

theorem pay1_apply (h : Vec Ideal S256x1024 .bf16) (w : Vec Ideal S1024x1024 .bf16) (r : Fin 256) (k : Fin 1024) :
    k0_pay1 (k0_pay101 h w) k0_pay102 (ix2 r k) = sigT (mm h w r k) := by
  pointwise [k0_pay1, k0_pay101, k0_pay102]
  rfl

/-- Lane `l` of slab `s` is a column. -/
abbrev lane (s : Fin 8) (l : Fin 128) : Fin 1024 := ⟨128 * s.val + l.val, by omega⟩

/-- Eight slabs of 128 lanes, each a block of columns of `f`, side by side are `f`. -/
theorem cat8 (f : Fin 256 → Fin 1024 → EReal) (v0 v1 v2 v3 v4 v5 v6 v7 : FVec Ideal S256x128 .f32)
    (h : Shape.Concatenates [S256x128, S256x128, S256x128, S256x128, S256x128, S256x128, S256x128, S256x128] S256x1024 1)
    (h0 : ∀ r l, v0 (ix2 r l) = f r (lane 0 l)) (h1 : ∀ r l, v1 (ix2 r l) = f r (lane 1 l))
    (h2 : ∀ r l, v2 (ix2 r l) = f r (lane 2 l)) (h3 : ∀ r l, v3 (ix2 r l) = f r (lane 3 l))
    (h4 : ∀ r l, v4 (ix2 r l) = f r (lane 4 l)) (h5 : ∀ r l, v5 (ix2 r l) = f r (lane 5 l))
    (h6 : ∀ r l, v6 (ix2 r l) = f r (lane 6 l)) (h7 : ∀ r l, v7 (ix2 r l) = f r (lane 7 l)) (r : Fin 256) (k : Fin 1024) :
    concatenate S256x1024 1 [⟨S256x128, v0⟩, ⟨S256x128, v1⟩, ⟨S256x128, v2⟩, ⟨S256x128, v3⟩, ⟨S256x128, v4⟩, ⟨S256x128, v5⟩,
      ⟨S256x128, v6⟩, ⟨S256x128, v7⟩] h (ix2 r k) = f r k := by
  have hn : k.val / 128 < 8 := by omega
  refine (concatenate_ofFn_apply (t := S256x1024) 1 (N := 8) ![v0, v1, v2, v3, v4, v5, v6, v7] h rfl 128 rfl (ix2 r k)
    ⟨k.val / 128, hn⟩ rfl (ix2 r ⟨k.val % 128, Nat.mod_lt _ (by decide)⟩) rfl ?_).trans ?_
  · intro b hb
    match b with
    | ⟨0, _⟩ => rfl
    | ⟨1, _⟩ => exact absurd rfl hb
  · have key : ∀ s : Fin 8, ∀ l, (![v0, v1, v2, v3, v4, v5, v6, v7] : Fin 8 → FVec Ideal S256x128 .f32) s (ix2 r l) = f r (lane s l) := by
      intro s l
      match s with
      | 0 => exact h0 r l
      | 1 => exact h1 r l
      | 2 => exact h2 r l
      | 3 => exact h3 r l
      | 4 => exact h4 r l
      | 5 => exact h5 r l
      | 6 => exact h6 r l
      | 7 => exact h7 r l
    rw [key]
    exact congrArg (f r) (Fin.ext (by show 128 * (k.val / 128) + k.val % 128 = k.val; omega))

/-- Dropping two leading unit axes. -/
theorem drop2 (v : Vec Ideal S1x1x256x128 .f32) (r : Fin 256) (l : Fin 128) :
    shapeCast S256x128 v shapeCasts_S1x1x256x128_S256x128 (ix2 r l) = v (ix4 0 0 r l) := by
  pointwise

end Cert.Proof.Proj

end
-- ==== Proof.ProjRef.lean ====
/- Hand-written: the projection reference at the extended reals, read at one row and one column (`ref0_eq`, `ref1_eq`). -/
module

public import proofs.«01_k».proof.Proof.MlpRef
public import proofs.«01_k».proof.Proof.ProjBody
public import proofs.«01_k».proof.Proof.Gen.Reference3Ideal.Read

@[expose] public section

noncomputable section

namespace Cert.Proof.Proj

open Cert.Reference3Ideal Cert.Reference3Ideal.Gen Cert.Reference3Ideal.Read Idealize.ShloMosaic
open Cert.Proof.Mlp (rowRms row)

/-- The logistic function as the reference spells it. -/
def sigL (v : EReal) : EReal := Ideal.logistic v

/-- The gate function by the logistic function. -/
def siluL (v : EReal) : EReal := v * Ideal.logistic v

section defs
variable (x0 : S32768x1024.Idx → EReal) (x1 : S1024.Idx → EReal) (x2 : S1024x12288.Idx → EReal) (x3 : S1024x128.Idx → EReal)
  (x4 : S3x1024.Idx → EReal) (x5 : S4x2048.Idx → EReal) (x6 : S2048.Idx → EReal)

/-- A row normalised and weighted. -/
def nrm (R : Fin 32768) (j : Fin 1024) : EReal := rowRms (fun k => x0 (ix2 R k)) j * x1 (ix1 j)

/-- A normalised row against one column of the wide matrix. -/
def pr (R : Fin 32768) (n : Fin 12288) : EReal := ∑ j : Fin 1024, nrm x0 x1 R j * x2 (ix2 j n)

/-- What the three convolutions run over. -/
def srcs (a : Fin 3) (R : Fin 32768) (k : Fin 1024) : EReal :=
  match a with
  | 0 => pr x0 x1 x2 R ⟨2048 + k.val, by omega⟩ * pr x0 x1 x2 R ⟨k.val, by omega⟩
  | 1 => pr x0 x1 x2 R ⟨4096 + k.val, by omega⟩
  | 2 => pr x0 x1 x2 R ⟨5120 + k.val, by omega⟩

/-- A sequence `d` tokens earlier, zero before its first token. -/
def sh (b : Fin 4) (s : Fin 8192) (d : ℕ) (f : Fin 32768 → EReal) : EReal :=
  if h : d ≤ s.val then f (row b ⟨s.val - d, by omega⟩) else 0

/-- The three-wide causal convolution. -/
def cv3 (b : Fin 4) (s : Fin 8192) (f : Fin 32768 → EReal) (c : Fin 1024) : EReal :=
  sh b s 2 f * x4 (ix2 0 c) + sh b s 1 f * x4 (ix2 1 c) + sh b s 0 f * x4 (ix2 2 c)

/-- The four-wide causal convolution with its bias. -/
def cv4 (b : Fin 4) (s : Fin 8192) (f : Fin 32768 → EReal) (c : Fin 2048) : EReal :=
  sh b s 3 f * x5 (ix2 0 c) + sh b s 2 f * x5 (ix2 1 c) + sh b s 1 f * x5 (ix2 2 c) + sh b s 0 f * x5 (ix2 3 c) + x6 (ix1 c)

variable (sl sg : EReal → EReal)

/-- The first result as ten blocks of 1024 columns, with the gate function `sl` and the logistic function `sg`. -/
def Rblk (b : Fin 4) (s : Fin 8192) (n : Fin 10) (k : Fin 1024) : EReal :=
  match n with
  | 0 => pr x0 x1 x2 (row b s) ⟨1024 + k.val, by omega⟩ * cv3 x4 b s (fun R => srcs x0 x1 x2 0 R k) k
  | 1 => sl (pr x0 x1 x2 (row b s) ⟨3072 + k.val, by omega⟩)
  | 2 => sl (cv4 x5 x6 b s (fun R => srcs x0 x1 x2 1 R k) ⟨k.val, by omega⟩)
  | 3 => sl (cv4 x5 x6 b s (fun R => srcs x0 x1 x2 2 R k) ⟨1024 + k.val, by omega⟩)
  | 4 => pr x0 x1 x2 (row b s) ⟨6144 + k.val, by omega⟩
  | 5 => pr x0 x1 x2 (row b s) ⟨7168 + k.val, by omega⟩
  | 6 => sl (pr x0 x1 x2 (row b s) ⟨8192 + k.val, by omega⟩)
  | 7 => sg (pr x0 x1 x2 (row b s) ⟨9216 + k.val, by omega⟩)
  | 8 => sg (pr x0 x1 x2 (row b s) ⟨10240 + k.val, by omega⟩)
  | 9 => sg (pr x0 x1 x2 (row b s) ⟨11264 + k.val, by omega⟩)

/-- The first result array. -/
def G7 : S32768x10240.Idx → EReal := fun i =>
  Rblk x0 x1 x2 x4 x5 x6 sl sg ⟨(i 0).val / 8192, by have : (i 0).val < 32768 := (i 0).isLt; omega⟩
    ⟨(i 0).val % 8192, Nat.mod_lt _ (by decide)⟩
    ⟨(i 1).val / 1024, by have : (i 1).val < 10240 := (i 1).isLt; omega⟩ ⟨(i 1).val % 1024, Nat.mod_lt _ (by decide)⟩

/-- The second result array. -/
def G8 : S32768x128.Idx → EReal := fun i => ∑ j : Fin 1024, nrm x0 x1 (i 0) j * x3 (ix2 j (i 1))

end defs

variable (x0 : Vec Ideal S32768x1024 .f32) (x1 : Vec Ideal S1024 .f32) (x2 : Vec Ideal S1024x12288 .bf16)
    (x3 : Vec Ideal S1024x128 .bf16) (x4 : Vec Ideal S3x1024 .f32) (x5 : Vec Ideal S4x2048 .f32) (x6 : Vec Ideal S2048 .f32)

theorem sitofp_zero : FloatOps.sitofp (F := Ideal) FTy.f32 (0#32 : BitVec 32) = (0 : EReal) := by
  show ((((0#32 : BitVec 32).toInt : ℝ)) : EReal) = 0
  simp

theorem v0_at (b : Fin 4) (s : Fin 8192) (k : Fin 1024) :
    val_main_v0 (F := Ideal) x0 (ix3 b s k) = x0 (ix2 (row b s) k) := by
  pointwise [val_main_v0]
  rfl

theorem v13_at (b : Fin 4) (s : Fin 8192) (k : Fin 1024) :
    val_main_v13 (F := Ideal) x0 x1 (ix3 b s k) = nrm x0 x1 (row b s) k := by
  pointwise [val_main_v13, val_main_v12, val_main_v11, val_main_v10, val_main_v9, val_main_v8,
    val_main_v7, val_main_v6, val_main_v5, val_main_v4, val_main_v3, val_main_v2, val_main_v1, val_main_cst, val_main_cst_0, val_main_cst_1]
  simp only [v0_at]
  rfl

theorem v15_at (b : Fin 4) (s : Fin 8192) (n : Fin 12288) :
    val_main_v15 (F := Ideal) x0 x1 x2 (ix3 b s n) = pr x0 x1 x2 (row b s) n := by
  pointwise [val_main_v15, val_main_v14]
  simp only [v13_at]
  rfl

theorem v17_at (b : Fin 4) (s : Fin 8192) (n : Fin 128) :
    val_main_v17 (F := Ideal) x0 x1 x3 (ix3 b s n) = ∑ j : Fin 1024, nrm x0 x1 (row b s) j * x3 (ix2 j n) := by
  pointwise [val_main_v17, val_main_v16]
  simp only [v13_at]

theorem v27_at (b : Fin 4) (s : Fin 8192) (k : Fin 1024) :
    val_main_v27 (F := Ideal) x0 x1 x2 (ix3 b s k) = srcs x0 x1 x2 0 (row b s) k := by
  pointwise [val_main_v27, val_main_v20, val_main_v18]
  simp only [v15_at]
  rfl

theorem v28_at (b : Fin 4) (s : Fin 8192) (d : ℕ) (p : Fin 8194) (hp : p.val + d = s.val + 2) (k : Fin 1024) :
    val_main_v28 (F := Ideal) x0 x1 x2 (ix3 b p k) = sh b s d (fun R => srcs x0 x1 x2 0 R k) := by
  pointwise [val_main_v28]
  unfold sh
  by_cases h : d ≤ s.val
  · rw [dif_pos ⟨by omega, by omega⟩, dif_pos h, v27_at]
    have : p.val - 2 = s.val - d := by omega
    simp only [this]
  · rw [dif_neg (by omega), dif_neg h]
    exact sitofp_zero

theorem v22_at (b : Fin 4) (s : Fin 8192) (c : Fin 2048) :
    val_main_v22 (F := Ideal) x0 x1 x2 (ix3 b s c) = pr x0 x1 x2 (row b s) ⟨4096 + c.val, by omega⟩ := by
  pointwise [val_main_v22]
  rw [v15_at]

theorem v51_at (b : Fin 4) (s : Fin 8192) (d : ℕ) (p : Fin 8195) (hp : p.val + d = s.val + 3) (c : Fin 2048) :
    val_main_v51 (F := Ideal) x0 x1 x2 (ix3 b p c) = sh b s d (fun R => pr x0 x1 x2 R ⟨4096 + c.val, by omega⟩) := by
  pointwise [val_main_v51]
  unfold sh
  by_cases h : d ≤ s.val
  · rw [dif_pos ⟨by omega, by omega⟩, dif_pos h, v22_at]
    have : p.val - 3 = s.val - d := by omega
    simp only [this]
  · rw [dif_neg (by omega), dif_neg h]
    exact sitofp_zero

theorem v49_at (b : Fin 4) (s : Fin 8192) (k : Fin 1024) :
    val_main_v49 (F := Ideal) x0 x1 x2 x4 (ix3 b s k)
      = pr x0 x1 x2 (row b s) ⟨1024 + k.val, by omega⟩ * cv3 x4 b s (fun R => srcs x0 x1 x2 0 R k) k := by
  pointwise [val_main_v49, val_main_v48, val_main_v47, val_main_v46, val_main_v45, val_main_v44, val_main_v43, val_main_v42, val_main_v41,
    val_main_v40, val_main_v39, val_main_v38, val_main_v37, val_main_v36, val_main_v35, val_main_v34, val_main_v33, val_main_v32,
    val_main_v31, val_main_v30, val_main_v29, val_main_v19]
  rw [v15_at, v28_at x0 x1 x2 b s 2 _ (by show s.val + 2 = s.val + 2; rfl), v28_at x0 x1 x2 b s 1 _ (by show 1 + s.val + 1 = s.val + 2; omega),
    v28_at x0 x1 x2 b s 0 _ (by show 2 + s.val + 0 = s.val + 2; omega)]
  rfl

theorem v50_at (b : Fin 4) (s : Fin 8192) (k : Fin 1024) :
    val_main_v50 (F := Ideal) x0 x1 x2 (ix3 b s k) = siluL (pr x0 x1 x2 (row b s) ⟨3072 + k.val, by omega⟩) := by
  pointwise [val_main_v50, val_main_call1_v5, val_main_call1_v4, val_main_call1_cst_0, val_main_call1_v3, val_main_call1_v2,
    val_main_call1_cst, val_main_call1_v1, val_main_call1_v0, val_main_v21]
  simp only [v15_at, Ideal.ofBits_one_f32]
  rfl

theorem v83_at (b : Fin 4) (s : Fin 8192) (k : Fin 1024) :
    val_main_v83 (F := Ideal) x0 x1 x2 (ix3 b s k) = siluL (pr x0 x1 x2 (row b s) ⟨8192 + k.val, by omega⟩) := by
  pointwise [val_main_v83, val_main_call4_v5, val_main_call4_v4, val_main_call4_cst_0, val_main_call4_v3, val_main_call4_v2,
    val_main_call4_cst, val_main_call4_v1, val_main_call4_v0, val_main_v25]
  simp only [v15_at, Ideal.ofBits_one_f32]
  rfl

theorem v89_at (b : Fin 4) (s : Fin 8192) (c : Fin 3072) :
    val_main_v89 (F := Ideal) x0 x1 x2 (ix3 b s c) = sigL (pr x0 x1 x2 (row b s) ⟨9216 + c.val, by omega⟩) := by
  pointwise [val_main_v89, val_main_v88, val_main_cst_4, val_main_v87, val_main_v86, val_main_cst_3, val_main_v85, val_main_v84, val_main_v26]
  simp only [v15_at, Ideal.ofBits_one_f32]
  rfl

theorem v81_at (b : Fin 4) (s : Fin 8192) (c : Fin 2048) :
    val_main_v81 (F := Ideal) x0 x1 x2 x5 x6 (ix3 b s c)
      = cv4 x5 x6 b s (fun R => pr x0 x1 x2 R ⟨4096 + c.val, by omega⟩) c := by
  pointwise [val_main_v81, val_main_v80, val_main_v79, val_main_v78, val_main_v77, val_main_v76, val_main_v75, val_main_v74, val_main_v73,
    val_main_v72, val_main_v71, val_main_v70, val_main_v69, val_main_v68, val_main_v67, val_main_v66, val_main_v65, val_main_v64,
    val_main_v63, val_main_v62, val_main_v61, val_main_v60, val_main_v59, val_main_v58, val_main_v57, val_main_v56, val_main_v55,
    val_main_v54, val_main_v53, val_main_v52]
  rw [v51_at x0 x1 x2 b s 3 _ (by show s.val + 3 = s.val + 3; rfl), v51_at x0 x1 x2 b s 2 _ (by show 1 + s.val + 2 = s.val + 3; omega),
    v51_at x0 x1 x2 b s 1 _ (by show 2 + s.val + 1 = s.val + 3; omega), v51_at x0 x1 x2 b s 0 _ (by show 3 + s.val + 0 = s.val + 3; omega)]
  rfl

theorem v82_at (b : Fin 4) (s : Fin 8192) (c : Fin 2048) :
    val_main_v82 (F := Ideal) x0 x1 x2 x5 x6 (ix3 b s c)
      = siluL (cv4 x5 x6 b s (fun R => pr x0 x1 x2 R ⟨4096 + c.val, by omega⟩) c) := by
  pointwise [val_main_v82, val_main_call3_v5, val_main_call3_v4, val_main_call3_cst_0, val_main_call3_v3, val_main_call3_v2,
    val_main_call3_cst, val_main_call3_v1, val_main_call3_v0]
  simp only [v81_at, Ideal.ofBits_one_f32]
  rfl

/-- Column `c` of the first result is entry `c % 1024` of block `c / 1024`. -/
theorem v91_at (b : Fin 4) (s : Fin 8192) (n : Fin 10) (k : Fin 1024) (c : Fin 10240) (hc : c.val = 1024 * n.val + k.val) :
    val_main_v91 (F := Ideal) x0 x1 x2 x4 x5 x6 (ix3 b s c) = Rblk x0 x1 x2 x4 x5 x6 siluL sigL b s n k := by
  pointwise [val_main_v91, val_main_v90, val_main_v24, val_main_v23]
  match n, hc with
  | 0, hc =>
    have hc : c.val = 0 + k.val := hc
    have e : c.val = k.val := by omega
    rw [dif_pos (by omega), v49_at]
    simp only [e]
    rfl
  | 1, hc =>
    have hc : c.val = 1024 + k.val := hc
    have e : c.val - 1024 = k.val := by omega
    rw [dif_neg (by omega), dif_pos (by omega), v50_at]
    simp only [e]
    rfl
  | 2, hc =>
    have hc : c.val = 2048 + k.val := hc
    have e : c.val - 1024 - 1024 = k.val := by omega
    rw [dif_neg (by omega), dif_neg (by omega), dif_pos (by omega), v82_at]
    simp only [e]
    rfl
  | 3, hc =>
    have hc : c.val = 3072 + k.val := hc
    have e : c.val - 1024 - 1024 = 1024 + k.val := by omega
    rw [dif_neg (by omega), dif_neg (by omega), dif_pos (by omega), v82_at]
    simp only [e]
    have e2 : ∀ R, srcs x0 x1 x2 2 R k = pr x0 x1 x2 R ⟨4096 + (1024 + k.val), by omega⟩ := fun R => by
      exact congrArg (pr x0 x1 x2 R) (Fin.ext (by show 5120 + k.val = 4096 + (1024 + k.val); omega))
    show _ = siluL (cv4 x5 x6 b s (fun R => srcs x0 x1 x2 2 R k) _)
    simp only [e2]
  | 4, hc =>
    have hc : c.val = 4096 + k.val := hc
    have e : c.val - 1024 - 1024 - 2048 = k.val := by omega
    rw [dif_neg (by omega), dif_neg (by omega), dif_neg (by omega), dif_pos (by omega), v15_at]
    simp only [e]
    rfl
  | 5, hc =>
    have hc : c.val = 5120 + k.val := hc
    have e : c.val - 1024 - 1024 - 2048 - 1024 = k.val := by omega
    rw [dif_neg (by omega), dif_neg (by omega), dif_neg (by omega), dif_neg (by omega), dif_pos (by omega), v15_at]
    simp only [e]
    rfl
  | 6, hc =>
    have hc : c.val = 6144 + k.val := hc
    have e : c.val - 1024 - 1024 - 2048 - 1024 - 1024 = k.val := by omega
    rw [dif_neg (by omega), dif_neg (by omega), dif_neg (by omega), dif_neg (by omega), dif_neg (by omega), dif_pos (by omega), v83_at]
    simp only [e]
    rfl
  | 7, hc =>
    have hc : c.val = 7168 + k.val := hc
    have e : c.val - 1024 - 1024 - 2048 - 1024 - 1024 - 1024 = k.val := by omega
    rw [dif_neg (by omega), dif_neg (by omega), dif_neg (by omega), dif_neg (by omega), dif_neg (by omega), dif_neg (by omega), v89_at]
    simp only [e]
    rfl
  | 8, hc =>
    have hc : c.val = 8192 + k.val := hc
    have e : c.val - 1024 - 1024 - 2048 - 1024 - 1024 - 1024 = 1024 + k.val := by omega
    rw [dif_neg (by omega), dif_neg (by omega), dif_neg (by omega), dif_neg (by omega), dif_neg (by omega), dif_neg (by omega), v89_at]
    simp only [e]
    exact congrArg (fun n => sigL (pr x0 x1 x2 (row b s) n)) (Fin.ext (by show 9216 + (1024 + k.val) = 10240 + k.val; omega))
  | 9, hc =>
    have hc : c.val = 9216 + k.val := hc
    have e : c.val - 1024 - 1024 - 2048 - 1024 - 1024 - 1024 = 2048 + k.val := by omega
    rw [dif_neg (by omega), dif_neg (by omega), dif_neg (by omega), dif_neg (by omega), dif_neg (by omega), dif_neg (by omega), v89_at]
    simp only [e]
    exact congrArg (fun n => sigL (pr x0 x1 x2 (row b s) n)) (Fin.ext (by show 9216 + (2048 + k.val) = 11264 + k.val; omega))

theorem row_div_mod (r : Fin 32768) : row ⟨r.val / 8192, by omega⟩ ⟨r.val % 8192, by omega⟩ = r :=
  Fin.ext (by show r.val / 8192 * 8192 + r.val % 8192 = r.val; omega)

/-- The reference's first result. -/
theorem ref0_eq : val_main_v92 (F := Ideal) x0 x1 x2 x4 x5 x6 = G7 x0 x1 x2 x4 x5 x6 siluL sigL := by
  funext i
  obtain ⟨r, c, rfl⟩ : ∃ (r : Fin 32768) (c : Fin 10240), i = ix2 r c := ⟨i 0, i 1, (ix2_eta i).symm⟩
  rw [val_main_v92_apply]
  have hi : idx_main_v92 (ix2 r c) = ix3 ⟨r.val / 8192, by omega⟩ ⟨r.val % 8192, by omega⟩ c := by
    funext a
    apply Fin.ext
    have h0 : ((ix2 r c : S32768x10240.Idx) 0).val = r.val := rfl
    have h1 : ((ix2 r c : S32768x10240.Idx) 1).val = c.val := rfl
    match a with
    | ⟨0, _⟩ => show _ = r.val / 8192; simp [idx_main_v92]; omega
    | ⟨1, _⟩ => show _ = r.val % 8192; simp [idx_main_v92]; omega
    | ⟨2, _⟩ => show _ = c.val; simp [idx_main_v92]
  rw [hi]
  exact v91_at x0 x1 x2 x4 x5 x6 _ _ ⟨c.val / 1024, by omega⟩ ⟨c.val % 1024, by omega⟩ c (by
    show c.val = 1024 * (c.val / 1024) + c.val % 1024; omega)

/-- The reference's second result. -/
theorem ref1_eq : val_main_v93 (F := Ideal) x0 x1 x3 = G8 x0 x1 x3 := by
  funext i
  obtain ⟨r, c, rfl⟩ : ∃ (r : Fin 32768) (c : Fin 128), i = ix2 r c := ⟨i 0, i 1, (ix2_eta i).symm⟩
  rw [val_main_v93_apply]
  have hi : idx_main_v93 (ix2 r c) = ix3 ⟨r.val / 8192, by omega⟩ ⟨r.val % 8192, by omega⟩ c := by
    funext a
    apply Fin.ext
    have h0 : ((ix2 r c : S32768x128.Idx) 0).val = r.val := rfl
    have h1 : ((ix2 r c : S32768x128.Idx) 1).val = c.val := rfl
    match a with
    | ⟨0, _⟩ => show _ = r.val / 8192; simp [idx_main_v93]; omega
    | ⟨1, _⟩ => show _ = r.val % 8192; simp [idx_main_v93]; omega
    | ⟨2, _⟩ => show _ = c.val; simp [idx_main_v93]
  rw [hi, v17_at, row_div_mod]
  rfl

end Cert.Proof.Proj

end
-- ==== Proof.ProjFin.lean ====
/- Hand-written: with finite weights every argument of a gate is a real number, whatever the activations are, and at a real number the two
   spellings of the gates agree (`Rblk_eq`). -/
module

public import proofs.«01_k».proof.Proof.ProjRef

@[expose] public section

noncomputable section

namespace Cert.Proof.Proj

open Idealize.ShloMosaic
open Cert.Reference3Ideal (S32768x1024 S1024 S1024x12288 S1024x128 S3x1024 S4x2048 S2048)
open Cert.Proof.Mlp (rowRms row)

/-- A real number among the extended reals. -/
def Re (v : EReal) : Prop := ∃ r : ℝ, v = (r : EReal)

theorem Re.of_ne {v : EReal} (h1 : v ≠ ⊥) (h2 : v ≠ ⊤) : Re v := by
  induction v using EReal.rec with
  | bot => exact absurd rfl h1
  | top => exact absurd rfl h2
  | coe r => exact ⟨r, rfl⟩

theorem Re.zero : Re 0 := ⟨0, rfl⟩

theorem Re.add {a b : EReal} (ha : Re a) (hb : Re b) : Re (a + b) := by
  obtain ⟨r, rfl⟩ := ha
  obtain ⟨q, rfl⟩ := hb
  exact ⟨r + q, (EReal.coe_add r q).symm⟩

theorem Re.mul {a b : EReal} (ha : Re a) (hb : Re b) : Re (a * b) := by
  obtain ⟨r, rfl⟩ := ha
  obtain ⟨q, rfl⟩ := hb
  exact ⟨r * q, (EReal.coe_mul r q).symm⟩

theorem Re.sum {ι : Type} (S : Finset ι) (f : ι → EReal) (h : ∀ i, Re (f i)) : Re (∑ i ∈ S, f i) := by
  classical
  induction S using Finset.induction_on with
  | empty => rw [Finset.sum_empty]; exact Re.zero
  | insert a S ha ih => rw [Finset.sum_insert ha]; exact (h a).add ih

theorem lit_half : Ideal.ofBits .f32 0x3F000000#32 = (((1 : ℝ) / 2 : ℝ) : EReal) := by
  simp [Ideal.ofBits, Ideal.ieee, -EReal.coe_mul]; norm_num

theorem lit_1024 : Ideal.ofBits .f32 0x44800000#32 = ((1024 : ℝ) : EReal) := by
  simp [Ideal.ofBits, Ideal.ieee, -EReal.coe_mul]; norm_num

theorem lit_eps : ∃ e : ℝ, 0 < e ∧ Ideal.ofBits .f32 0x358637BD#32 = (e : EReal) := by
  refine ⟨_, ?_, by simp [Ideal.ofBits, Ideal.ieee, -EReal.coe_mul]; rfl⟩
  positivity

theorem sq_nonneg' (v : EReal) : 0 ≤ v * v := by
  induction v using EReal.rec with
  | bot => simp
  | top => simp
  | coe r => rw [← EReal.coe_mul]; exact_mod_cast mul_self_nonneg r

theorem coe_sum' {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A row scaled by the inverse root of its mean square is real whatever the row is: where an entry is infinite the scale is zero. -/
theorem Re.rowRms (x : Fin 1024 → EReal) (j : Fin 1024) : Re (rowRms x j) := by
  unfold Mlp.rowRms
  obtain ⟨e, he, hE⟩ := lit_eps
  rw [hE, lit_1024, Ideal.div_coe (by norm_num)]
  by_cases h : ∀ k, Re (x k)
  · choose q hq using h
    have hs : ∑ k : Fin 1024, x k * x k = ((∑ k : Fin 1024, q k * q k : ℝ) : EReal) := by
      simp only [hq, ← EReal.coe_mul]
      exact (coe_sum' _ _).symm
    have h0 : (0 : ℝ) ≤ ∑ k : Fin 1024, q k * q k := Finset.sum_nonneg fun k _ => mul_self_nonneg (q k)
    have hp : (0 : ℝ) < (∑ k : Fin 1024, q k * q k) * (1 / 1024) + e := by positivity
    rw [hs, ← EReal.coe_mul, ← EReal.coe_add, Ideal.rsqrt_coe, if_neg (not_lt.mpr hp.le), if_neg hp.ne']
    exact Re.mul ⟨q j, hq j⟩ ⟨_, rfl⟩
  · have hs : ∑ k : Fin 1024, x k * x k = ⊤ := by
      obtain ⟨k, hk⟩ := not_forall.mp h
      have hk2 : x k * x k = ⊤ := by
        by_cases h1 : x k = ⊥
        · rw [h1]; simp
        by_cases h2 : x k = ⊤
        · rw [h2]; simp
        exact absurd (Re.of_ne h1 h2) hk
      refine top_le_iff.mp ?_
      rw [← hk2]
      exact Finset.single_le_sum (f := fun k => x k * x k) (fun k _ => sq_nonneg' (x k)) (Finset.mem_univ k)
    rw [hs, EReal.top_mul_coe_of_pos (by norm_num), EReal.top_add_coe, Ideal.rsqrt_top, mul_zero]
    exact Re.zero

theorem sig_real (r : ℝ) : 1 / 2 * Real.tanh (1 / 2 * r) + 1 / 2 = (1 + Real.exp (-r))⁻¹ := by
  have h1 : Real.exp (1 / 2 * r) ≠ 0 := (Real.exp_pos _).ne'
  have h2 : Real.exp (-r) = (Real.exp (1 / 2 * r))⁻¹ * (Real.exp (1 / 2 * r))⁻¹ := by
    rw [← Real.exp_neg, ← Real.exp_add]
    congr 1
    ring
  rw [Real.tanh_eq_sinh_div_cosh, Real.sinh_eq, Real.cosh_eq, h2, Real.exp_neg]
  have hp : 0 < Real.exp (1 / 2 * r) := Real.exp_pos _
  field_simp
  ring

theorem sig_eq {v : EReal} (h : Re v) : sigT v = sigL v := by
  obtain ⟨r, rfl⟩ := h
  unfold sigT sigL half
  rw [lit_half, ← EReal.coe_mul, Ideal.tanh_coe, ← EReal.coe_mul, ← EReal.coe_add, Ideal.logistic_coe, sig_real]

theorem silu_eq {v : EReal} (h : Re v) : siluT v = siluL v := by
  obtain ⟨r, rfl⟩ := h
  unfold siluT siluL half
  rw [lit_half, ← EReal.coe_mul, Ideal.tanh_coe, ← EReal.coe_mul, ← EReal.coe_add, Ideal.logistic_coe, ← EReal.coe_mul, ← sig_real]
  congr 1
  ring

theorem Re.sh (b : Fin 4) (s : Fin 8192) (d : ℕ) (f : Fin 32768 → EReal) (hf : ∀ R, Re (f R)) : Re (sh b s d f) := by
  unfold Proj.sh
  split
  · exact hf _
  · exact Re.zero

variable (x0 : S32768x1024.Idx → EReal) (x1 : S1024.Idx → EReal) (x2 : S1024x12288.Idx → EReal)
  (x4 : S3x1024.Idx → EReal) (x5 : S4x2048.Idx → EReal) (x6 : S2048.Idx → EReal)
  (f1 : ∀ i, Re (x1 i)) (f2 : ∀ i, Re (x2 i)) (f5 : ∀ i, Re (x5 i)) (f6 : ∀ i, Re (x6 i))
include f1 f2 in
theorem Re.pr (R : Fin 32768) (n : Fin 12288) : Re (pr x0 x1 x2 R n) :=
  Re.sum _ _ fun _ => Re.mul (Re.mul (Re.rowRms _ _) (f1 _)) (f2 _)

include f5 f6 in
theorem Re.cv4 (b : Fin 4) (s : Fin 8192) (f : Fin 32768 → EReal) (hf : ∀ R, Re (f R)) (c : Fin 2048) : Re (cv4 x5 x6 b s f c) :=
  ((((Re.mul (Re.sh b s 3 f hf) (f5 _)).add (Re.mul (Re.sh b s 2 f hf) (f5 _))).add (Re.mul (Re.sh b s 1 f hf) (f5 _))).add (Re.mul (Re.sh b s 0 f hf) (f5 _))).add (f6 _)

include f1 f2 f5 f6 in
/-- The two spellings of the gates give the same blocks. -/
theorem Rblk_eq (b : Fin 4) (s : Fin 8192) (n : Fin 10) (k : Fin 1024) :
    Rblk x0 x1 x2 x4 x5 x6 siluT sigT b s n k = Rblk x0 x1 x2 x4 x5 x6 siluL sigL b s n k := by
  have hp := Re.pr x0 x1 x2 f1 f2
  match n with
  | 0 => rfl
  | 1 => exact silu_eq (hp _ _)
  | 2 => exact silu_eq (Re.cv4 x5 x6 f5 f6 b s _ (fun R => hp R _) _)
  | 3 => exact silu_eq (Re.cv4 x5 x6 f5 f6 b s _ (fun R => hp R _) _)
  | 4 => rfl
  | 5 => rfl
  | 6 => exact silu_eq (hp _ _)
  | 7 => exact sig_eq (hp _ _)
  | 8 => exact sig_eq (hp _ _)
  | 9 => exact sig_eq (hp _ _)

end Cert.Proof.Proj

end
-- ==== Proof.ProjConv.lean ====
/- Hand-written: the three causal convolutions of the projection call's body. A shifted block is loaded as eight slabs of 128
   lanes (`slab`); the payloads lay them side by side, scale by a row of weights and add. -/
module

public import proofs.«01_k».proof.Proof.ProjBody

@[expose] public section

noncomputable section

namespace Cert.Proof.Proj

open Cert.Kernel3Ideal Cert.Kernel3Ideal.Gen Idealize.ShloMosaic

/-- Slab `s` of a block of 256 rows and 1024 columns, as the body loads it. -/
def slab (f : Fin 256 → Fin 1024 → EReal) (s : Fin 8) : Vec Ideal S1x1x256x128 .f32 := fun y => f (y 2) (lane s (y 3))

theorem slab_at (f : Fin 256 → Fin 1024 → EReal) (s : Fin 8) (r : Fin 256) (l : Fin 128) :
    shapeCast S256x128 (slab f s) shapeCasts_S1x1x256x128_S256x128 (ix2 r l) = f r (lane s l) := drop2 _ r l

/-- The eight slabs of `f`, laid side by side, are `f`. -/
theorem cat_slabs (f : Fin 256 → Fin 1024 → EReal) (v0 v1 v2 v3 v4 v5 v6 v7 : FVec Ideal S256x128 .f32)
    (h : Shape.Concatenates [S256x128, S256x128, S256x128, S256x128, S256x128, S256x128, S256x128, S256x128] S256x1024 1)
    (h0 : v0 = shapeCast S256x128 (slab f 0) shapeCasts_S1x1x256x128_S256x128)
    (h1 : v1 = shapeCast S256x128 (slab f 1) shapeCasts_S1x1x256x128_S256x128)
    (h2 : v2 = shapeCast S256x128 (slab f 2) shapeCasts_S1x1x256x128_S256x128)
    (h3 : v3 = shapeCast S256x128 (slab f 3) shapeCasts_S1x1x256x128_S256x128)
    (h4 : v4 = shapeCast S256x128 (slab f 4) shapeCasts_S1x1x256x128_S256x128)
    (h5 : v5 = shapeCast S256x128 (slab f 5) shapeCasts_S1x1x256x128_S256x128)
    (h6 : v6 = shapeCast S256x128 (slab f 6) shapeCasts_S1x1x256x128_S256x128)
    (h7 : v7 = shapeCast S256x128 (slab f 7) shapeCasts_S1x1x256x128_S256x128) :
    concatenate S256x1024 1 [⟨S256x128, v0⟩, ⟨S256x128, v1⟩, ⟨S256x128, v2⟩, ⟨S256x128, v3⟩, ⟨S256x128, v4⟩, ⟨S256x128, v5⟩,
      ⟨S256x128, v6⟩, ⟨S256x128, v7⟩] h = fun i => f (i 0) (i 1) := by
  funext i
  obtain ⟨r, c, rfl⟩ : ∃ (r : Fin 256) (c : Fin 1024), i = ix2 r c := ⟨i 0, i 1, (ix2_eta i).symm⟩
  subst h0 h1 h2 h3 h4 h5 h6 h7
  exact cat8 f _ _ _ _ _ _ _ _ h (slab_at f 0) (slab_at f 1) (slab_at f 2) (slab_at f 3) (slab_at f 4) (slab_at f 5)
    (slab_at f 6) (slab_at f 7) r c

variable (f g : Fin 256 → Fin 1024 → EReal) (p : FVec Ideal S256x1024 .f32) (r : Fin 256) (k : Fin 1024)

theorem pay19_apply (cw : Vec Ideal S3x1024 .f32) :
    k0_pay19 cw (k0_pay16 (slab f 0)) (k0_pay17 (slab f 1)) (k0_pay18 (slab f 2)) (slab f 3) (slab f 4) (slab f 5) (slab f 6) (slab f 7)
      (ix2 r k) = f r k * cw (ix2 0 k) := by
  unfold k0_pay19 k0_pay16 k0_pay17 k0_pay18
  try dsimp only
  rw [cat_slabs f _ _ _ _ _ _ _ _ _ rfl rfl rfl rfl rfl rfl rfl rfl]
  pointwise

theorem pay24_apply (cw : Vec Ideal S3x1024 .f32) :
    k0_pay24 cw p (k0_pay20 (slab f 0)) (k0_pay21 (slab f 1)) (k0_pay22 (slab f 2)) (k0_pay23 (slab f 3)) (slab f 4) (slab f 5) (slab f 6)
      (slab f 7) (ix2 r k) = p (ix2 r k) + f r k * cw (ix2 1 k) := by
  unfold k0_pay24 k0_pay20 k0_pay21 k0_pay22 k0_pay23
  try dsimp only
  rw [cat_slabs f _ _ _ _ _ _ _ _ _ rfl rfl rfl rfl rfl rfl rfl rfl]
  pointwise

theorem pay30_apply (cw : Vec Ideal S3x1024 .f32) (h : Vec Ideal S256x1024 .bf16) (w : Vec Ideal S1024x1024 .bf16) :
    k0_pay30 cw p (k0_pay25 (slab f 0)) (k0_pay26 (slab f 1)) (k0_pay27 (slab f 2)) (k0_pay28 (slab f 3)) (k0_pay29 (slab f 4)) (slab f 5)
      (slab f 6) (slab f 7) h w (ix2 r k) = mm h w r k * (p (ix2 r k) + f r k * cw (ix2 2 k)) := by
  unfold k0_pay30 k0_pay25 k0_pay26 k0_pay27 k0_pay28 k0_pay29
  try dsimp only
  rw [cat_slabs f _ _ _ _ _ _ _ _ _ rfl rfl rfl rfl rfl rfl rfl rfl]
  pointwise
  rfl

theorem pay50_apply (cw : Vec Ideal S4x2048 .f32) :
    k0_pay50 (k0_pay34 cw) (k0_pay44 (slab f 0)) (k0_pay45 (slab f 1)) (k0_pay46 (slab f 2)) (k0_pay47 (slab f 3)) (k0_pay48 (slab f 4))
      (k0_pay49 (slab f 5)) (slab f 6) (slab f 7) (ix2 r k) = f r k * cw (ix2 0 ⟨k.val, by omega⟩) := by
  unfold k0_pay50 k0_pay44 k0_pay45 k0_pay46 k0_pay47 k0_pay48 k0_pay49
  try dsimp only
  rw [cat_slabs f _ _ _ _ _ _ _ _ _ rfl rfl rfl rfl rfl rfl rfl rfl]
  pointwise [k0_pay34]

theorem pay58_apply (cw : Vec Ideal S4x2048 .f32) :
    k0_pay58 (k0_pay34 cw) p (k0_pay51 (slab f 0)) (k0_pay52 (slab f 1)) (k0_pay53 (slab f 2)) (k0_pay54 (slab f 3)) (k0_pay55 (slab f 4))
      (k0_pay56 (slab f 5)) (k0_pay57 (slab f 6)) (slab f 7) (slab g 0) (slab g 1) (slab g 2) (slab g 3) (slab g 4) (slab g 5) (slab g 6)
      (slab g 7) (ix2 r k)
      = p (ix2 r k) + f r k * cw (ix2 1 ⟨k.val, by omega⟩) + g r k * cw (ix2 2 ⟨k.val, by omega⟩) := by
  unfold k0_pay58 k0_pay51 k0_pay52 k0_pay53 k0_pay54 k0_pay55 k0_pay56 k0_pay57
  try dsimp only
  rw [cat_slabs f _ _ _ _ _ _ _ _ _ rfl rfl rfl rfl rfl rfl rfl rfl, cat_slabs g _ _ _ _ _ _ _ _ _ rfl rfl rfl rfl rfl rfl rfl rfl]
  pointwise [k0_pay34]

theorem pay61_apply (cw : Vec Ideal S4x2048 .f32) (cb : Vec Ideal S1x2048 .f32) :
    k0_pay61 (k0_pay59 (k0_pay32 cb) (k0_pay34 cw) p (slab f 0) (slab f 1) (slab f 2) (slab f 3) (slab f 4) (slab f 5) (slab f 6) (slab f 7))
      (k0_pay60 (k0_pay32 cb) (k0_pay34 cw) p (slab f 0) (slab f 1) (slab f 2) (slab f 3) (slab f 4) (slab f 5) (slab f 6) (slab f 7)) (ix2 r k)
      = siluT (p (ix2 r k) + f r k * cw (ix2 3 ⟨k.val, by omega⟩) + cb (ix2 0 ⟨k.val, by omega⟩)) := by
  unfold k0_pay60 k0_pay59
  try dsimp only
  rw [cat_slabs f _ _ _ _ _ _ _ _ _ rfl rfl rfl rfl rfl rfl rfl rfl]
  pointwise [k0_pay61, k0_pay34, k0_pay32]
  rfl

theorem pay77_apply (cw : Vec Ideal S4x2048 .f32) :
    k0_pay77 (k0_pay63 cw) (k0_pay72 (slab f 0)) (k0_pay73 (slab f 1)) (k0_pay74 (slab f 2)) (k0_pay75 (slab f 3)) (k0_pay76 (slab f 4))
      (slab f 5) (slab f 6) (slab f 7) (ix2 r k) = f r k * cw (ix2 0 ⟨1024 + k.val, by omega⟩) := by
  unfold k0_pay77 k0_pay72 k0_pay73 k0_pay74 k0_pay75 k0_pay76
  try dsimp only
  rw [cat_slabs f _ _ _ _ _ _ _ _ _ rfl rfl rfl rfl rfl rfl rfl rfl]
  pointwise [k0_pay63]

theorem pay84_apply (cw : Vec Ideal S4x2048 .f32) :
    k0_pay84 (k0_pay63 cw) p (k0_pay78 (slab f 0)) (k0_pay79 (slab f 1)) (k0_pay80 (slab f 2)) (k0_pay81 (slab f 3)) (k0_pay82 (slab f 4))
      (k0_pay83 (slab f 5)) (slab f 6) (slab f 7) (ix2 r k) = p (ix2 r k) + f r k * cw (ix2 1 ⟨1024 + k.val, by omega⟩) := by
  unfold k0_pay84 k0_pay78 k0_pay79 k0_pay80 k0_pay81 k0_pay82 k0_pay83
  try dsimp only
  rw [cat_slabs f _ _ _ _ _ _ _ _ _ rfl rfl rfl rfl rfl rfl rfl rfl]
  pointwise [k0_pay63]

theorem pay95_apply (cw : Vec Ideal S4x2048 .f32) (cb : Vec Ideal S1x2048 .f32) :
    k0_pay95 (k0_pay93 (k0_pay63 cw) p (k0_pay85 (slab f 0)) (k0_pay86 (slab f 1)) (k0_pay87 (slab f 2)) (k0_pay88 (slab f 3))
      (k0_pay89 (slab f 4)) (k0_pay90 (slab f 5)) (k0_pay91 (slab f 6)) (k0_pay92 (slab f 7)) (slab g 0) (slab g 1) (slab g 2) (slab g 3)
      (slab g 4) (slab g 5) (slab g 6) (slab g 7)) (k0_pay94 (k0_pay32 cb)) (ix2 r k)
      = siluT (p (ix2 r k) + f r k * cw (ix2 2 ⟨1024 + k.val, by omega⟩) + g r k * cw (ix2 3 ⟨1024 + k.val, by omega⟩)
        + cb (ix2 0 ⟨1024 + k.val, by omega⟩)) := by
  unfold k0_pay93 k0_pay85 k0_pay86 k0_pay87 k0_pay88 k0_pay89 k0_pay90 k0_pay91 k0_pay92
  try dsimp only
  rw [cat_slabs f _ _ _ _ _ _ _ _ _ rfl rfl rfl rfl rfl rfl rfl rfl, cat_slabs g _ _ _ _ _ _ _ _ _ rfl rfl rfl rfl rfl rfl rfl rfl]
  pointwise [k0_pay95, k0_pay94, k0_pay63, k0_pay32]
  rfl

end Cert.Proof.Proj

end
-- ==== Proof.ProjScratch.lean ====
/- Hand-written: the scratch that carries the convolutions' last rows. Each of its three slots holds eight rows from the grid point
   before and below them the 256 rows of this one, as eight slabs of 128 lanes; a shifted load reads one slab of it. -/
module

public import proofs.«01_k».proof.Proof.ProjConv
public import Idealize.ShloMosaic.Lib.Pipeline.ReadBack

@[expose] public section

noncomputable section

namespace Cert.Proof.Proj

open Cert.Kernel3Ideal Cert.Kernel3Ideal.Gen Idealize.ShloMosaic

/-- Slab `s` of a block of rows `p`, in the shape the body stores it. -/
def Stored (p : Fin 256 → Fin 1024 → EReal) (s : Fin 8) (w : Vec Ideal S1x1x256x128 .f32) : Prop :=
  ∀ r l, w (ix4 0 0 r l) = p r (lane s l)

section stores
variable (h : Vec Ideal S256x1024 .bf16) (w w' : Vec Ideal S1024x1024 .bf16)

theorem stored0_0 : Stored (fun r k => mm h w' r k * mm h w r k) 0 (k0_pay7 h w h w') := fun r l => by
  refine Eq.trans (b := k0_pay6 h w h w' (ix2 r (lane 0 l))) ?_ (pay6_apply h w w' r _)
  pointwise [k0_pay7]
  exact congrArg (fun x => k0_pay6 h w h w' (ix2 r x)) (Fin.ext (by show l.val = 128 * 0 + l.val; omega))

theorem stored0_1 : Stored (fun r k => mm h w' r k * mm h w r k) 1 (k0_pay8 h w h w') := fun r l => by
  refine Eq.trans (b := k0_pay6 h w h w' (ix2 r (lane 1 l))) ?_ (pay6_apply h w w' r _)
  pointwise [k0_pay8]
  exact congrArg (fun x => k0_pay6 h w h w' (ix2 r x)) (Fin.ext (by show 128 + l.val = 128 * 1 + l.val; omega))

theorem stored0_2 : Stored (fun r k => mm h w' r k * mm h w r k) 2 (k0_pay9 h w h w') := fun r l => by
  refine Eq.trans (b := k0_pay6 h w h w' (ix2 r (lane 2 l))) ?_ (pay6_apply h w w' r _)
  pointwise [k0_pay9]
  exact congrArg (fun x => k0_pay6 h w h w' (ix2 r x)) (Fin.ext (by show 256 + l.val = 128 * 2 + l.val; omega))

theorem stored0_3 : Stored (fun r k => mm h w' r k * mm h w r k) 3 (k0_pay11 (k0_pay10 h w h w')) := fun r l => by
  refine Eq.trans (b := k0_pay6 h w h w' (ix2 r (lane 3 l))) ?_ (pay6_apply h w w' r _)
  pointwise [k0_pay11, k0_pay10]
  exact congrArg (fun x => k0_pay6 h w h w' (ix2 r x)) (Fin.ext (by show 384 + l.val = 128 * 3 + l.val; omega))

theorem stored0_4 : Stored (fun r k => mm h w' r k * mm h w r k) 4 (k0_pay12 (k0_pay6 h w h w')) := fun r l => by
  refine Eq.trans (b := k0_pay6 h w h w' (ix2 r (lane 4 l))) ?_ (pay6_apply h w w' r _)
  pointwise [k0_pay12]
  exact congrArg (fun x => k0_pay6 h w h w' (ix2 r x)) (Fin.ext (by show 512 + l.val = 128 * 4 + l.val; omega))

theorem stored0_5 : Stored (fun r k => mm h w' r k * mm h w r k) 5 (k0_pay13 (k0_pay6 h w h w')) := fun r l => by
  refine Eq.trans (b := k0_pay6 h w h w' (ix2 r (lane 5 l))) ?_ (pay6_apply h w w' r _)
  pointwise [k0_pay13]
  exact congrArg (fun x => k0_pay6 h w h w' (ix2 r x)) (Fin.ext (by show 640 + l.val = 128 * 5 + l.val; omega))

theorem stored0_6 : Stored (fun r k => mm h w' r k * mm h w r k) 6 (k0_pay14 (k0_pay6 h w h w')) := fun r l => by
  refine Eq.trans (b := k0_pay6 h w h w' (ix2 r (lane 6 l))) ?_ (pay6_apply h w w' r _)
  pointwise [k0_pay14]
  exact congrArg (fun x => k0_pay6 h w h w' (ix2 r x)) (Fin.ext (by show 768 + l.val = 128 * 6 + l.val; omega))

theorem stored0_7 : Stored (fun r k => mm h w' r k * mm h w r k) 7 (k0_pay15 (k0_pay6 h w h w')) := fun r l => by
  refine Eq.trans (b := k0_pay6 h w h w' (ix2 r (lane 7 l))) ?_ (pay6_apply h w w' r _)
  pointwise [k0_pay15]
  exact congrArg (fun x => k0_pay6 h w h w' (ix2 r x)) (Fin.ext (by show 896 + l.val = 128 * 7 + l.val; omega))

theorem stored1_0 : Stored (fun r k => mm h w r k) 0 (k0_pay35 h w) := fun r l => by
  refine Eq.trans (b := k0_pay33 h w (ix2 r (lane 0 l))) ?_ (pay33_apply h w r _)
  pointwise [k0_pay35]
  exact congrArg (fun x => k0_pay33 h w (ix2 r x)) (Fin.ext (by show l.val = 128 * 0 + l.val; omega))

theorem stored1_1 : Stored (fun r k => mm h w r k) 1 (k0_pay36 h w) := fun r l => by
  refine Eq.trans (b := k0_pay33 h w (ix2 r (lane 1 l))) ?_ (pay33_apply h w r _)
  pointwise [k0_pay36]
  exact congrArg (fun x => k0_pay33 h w (ix2 r x)) (Fin.ext (by show 128 + l.val = 128 * 1 + l.val; omega))

theorem stored1_2 : Stored (fun r k => mm h w r k) 2 (k0_pay37 h w) := fun r l => by
  refine Eq.trans (b := k0_pay33 h w (ix2 r (lane 2 l))) ?_ (pay33_apply h w r _)
  pointwise [k0_pay37]
  exact congrArg (fun x => k0_pay33 h w (ix2 r x)) (Fin.ext (by show 256 + l.val = 128 * 2 + l.val; omega))

theorem stored1_3 : Stored (fun r k => mm h w r k) 3 (k0_pay38 h w) := fun r l => by
  refine Eq.trans (b := k0_pay33 h w (ix2 r (lane 3 l))) ?_ (pay33_apply h w r _)
  pointwise [k0_pay38]
  exact congrArg (fun x => k0_pay33 h w (ix2 r x)) (Fin.ext (by show 384 + l.val = 128 * 3 + l.val; omega))

theorem stored1_4 : Stored (fun r k => mm h w r k) 4 (k0_pay39 h w) := fun r l => by
  refine Eq.trans (b := k0_pay33 h w (ix2 r (lane 4 l))) ?_ (pay33_apply h w r _)
  pointwise [k0_pay39]
  exact congrArg (fun x => k0_pay33 h w (ix2 r x)) (Fin.ext (by show 512 + l.val = 128 * 4 + l.val; omega))

theorem stored1_5 : Stored (fun r k => mm h w r k) 5 (k0_pay41 (k0_pay40 h w)) := fun r l => by
  refine Eq.trans (b := k0_pay33 h w (ix2 r (lane 5 l))) ?_ (pay33_apply h w r _)
  pointwise [k0_pay41, k0_pay40]
  exact congrArg (fun x => k0_pay33 h w (ix2 r x)) (Fin.ext (by show 640 + l.val = 128 * 5 + l.val; omega))

theorem stored1_6 : Stored (fun r k => mm h w r k) 6 (k0_pay42 (k0_pay33 h w)) := fun r l => by
  refine Eq.trans (b := k0_pay33 h w (ix2 r (lane 6 l))) ?_ (pay33_apply h w r _)
  pointwise [k0_pay42]
  exact congrArg (fun x => k0_pay33 h w (ix2 r x)) (Fin.ext (by show 768 + l.val = 128 * 6 + l.val; omega))

theorem stored1_7 : Stored (fun r k => mm h w r k) 7 (k0_pay43 (k0_pay33 h w)) := fun r l => by
  refine Eq.trans (b := k0_pay33 h w (ix2 r (lane 7 l))) ?_ (pay33_apply h w r _)
  pointwise [k0_pay43]
  exact congrArg (fun x => k0_pay33 h w (ix2 r x)) (Fin.ext (by show 896 + l.val = 128 * 7 + l.val; omega))

theorem stored2_0 : Stored (fun r k => mm h w r k) 0 (k0_pay64 h w) := fun r l => by
  refine Eq.trans (b := k0_pay62 h w (ix2 r (lane 0 l))) ?_ (pay62_apply h w r _)
  pointwise [k0_pay64]
  exact congrArg (fun x => k0_pay62 h w (ix2 r x)) (Fin.ext (by show l.val = 128 * 0 + l.val; omega))

theorem stored2_1 : Stored (fun r k => mm h w r k) 1 (k0_pay65 h w) := fun r l => by
  refine Eq.trans (b := k0_pay62 h w (ix2 r (lane 1 l))) ?_ (pay62_apply h w r _)
  pointwise [k0_pay65]
  exact congrArg (fun x => k0_pay62 h w (ix2 r x)) (Fin.ext (by show 128 + l.val = 128 * 1 + l.val; omega))

theorem stored2_2 : Stored (fun r k => mm h w r k) 2 (k0_pay66 h w) := fun r l => by
  refine Eq.trans (b := k0_pay62 h w (ix2 r (lane 2 l))) ?_ (pay62_apply h w r _)
  pointwise [k0_pay66]
  exact congrArg (fun x => k0_pay62 h w (ix2 r x)) (Fin.ext (by show 256 + l.val = 128 * 2 + l.val; omega))

theorem stored2_3 : Stored (fun r k => mm h w r k) 3 (k0_pay67 h w) := fun r l => by
  refine Eq.trans (b := k0_pay62 h w (ix2 r (lane 3 l))) ?_ (pay62_apply h w r _)
  pointwise [k0_pay67]
  exact congrArg (fun x => k0_pay62 h w (ix2 r x)) (Fin.ext (by show 384 + l.val = 128 * 3 + l.val; omega))

theorem stored2_4 : Stored (fun r k => mm h w r k) 4 (k0_pay68 h w) := fun r l => by
  refine Eq.trans (b := k0_pay62 h w (ix2 r (lane 4 l))) ?_ (pay62_apply h w r _)
  pointwise [k0_pay68]
  exact congrArg (fun x => k0_pay62 h w (ix2 r x)) (Fin.ext (by show 512 + l.val = 128 * 4 + l.val; omega))

theorem stored2_5 : Stored (fun r k => mm h w r k) 5 (k0_pay69 (k0_pay62 h w)) := fun r l => by
  refine Eq.trans (b := k0_pay62 h w (ix2 r (lane 5 l))) ?_ (pay62_apply h w r _)
  pointwise [k0_pay69]
  exact congrArg (fun x => k0_pay62 h w (ix2 r x)) (Fin.ext (by show 640 + l.val = 128 * 5 + l.val; omega))

theorem stored2_6 : Stored (fun r k => mm h w r k) 6 (k0_pay70 (k0_pay62 h w)) := fun r l => by
  refine Eq.trans (b := k0_pay62 h w (ix2 r (lane 6 l))) ?_ (pay62_apply h w r _)
  pointwise [k0_pay70]
  exact congrArg (fun x => k0_pay62 h w (ix2 r x)) (Fin.ext (by show 768 + l.val = 128 * 6 + l.val; omega))

theorem stored2_7 : Stored (fun r k => mm h w r k) 7 (k0_pay71 (k0_pay62 h w)) := fun r l => by
  refine Eq.trans (b := k0_pay62 h w (ix2 r (lane 7 l))) ?_ (pay62_apply h w r _)
  pointwise [k0_pay71]
  exact congrArg (fun x => k0_pay62 h w (ix2 r x)) (Fin.ext (by show 896 + l.val = 128 * 7 + l.val; omega))

end stores

section scratch
variable (halo : Fin 3 → Fin 8 → Fin 1024 → EReal) (P : Fin 3 → Fin 256 → Fin 1024 → EReal)

/-- Row `row` and column `k` of a slot: the first eight rows come from the point before. -/
def Fr (slot : Fin 3) (row : Fin 264) (k : Fin 1024) : EReal :=
  if h : row.val < 8 then halo slot ⟨row.val, h⟩ k else P slot ⟨row.val - 8, by omega⟩ k

/-- The scratch as its slabs lie. -/
def Gs : S3x8x264x128.Idx → EReal := fun y => Fr halo P (y 0) (y 2) (lane (y 1) (y 3))

/-- 256 rows of a slot from row `off` on. -/
def rowsFrom (slot : Fin 3) (off : ℕ) (ho : off ≤ 8) : Fin 256 → Fin 1024 → EReal :=
  fun r k => Fr halo P slot ⟨r.val + off, by omega⟩ k

theorem slab_piece (slot : Fin 3) (s : Fin 8) (inb) (w : Vec Ideal S1x1x256x128 .f32) (hw : Stored (P slot) s w) :
    ∀ x : (Rect.unit (s := S3x8x264x128) ![slot.val, s.val, 8, 0] S1x1x256x128.size inb).shape.Idx,
      w x = Gs halo P ((Rect.unit (s := S3x8x264x128) ![slot.val, s.val, 8, 0] S1x1x256x128.size inb).emb x) := by
  intro x
  have hx : x = ix4 (0 : Fin 1) (0 : Fin 1) (x 2) (x 3) := by
    funext a
    match a with
    | ⟨0, _⟩ => exact Fin.ext (by have := (x 0).isLt; show (x 0).val = 0; change (x 0).val < 1 at this; omega)
    | ⟨1, _⟩ => exact Fin.ext (by have := (x 1).isLt; show (x 1).val = 0; change (x 1).val < 1 at this; omega)
    | ⟨2, _⟩ => rfl
    | ⟨3, _⟩ => rfl
  have hr : (x 2).val < 256 := (x 2).isLt
  have hl : (x 3).val < 128 := (x 3).isLt
  have he : (Rect.unit (s := S3x8x264x128) ![slot.val, s.val, 8, 0] S1x1x256x128.size inb).emb x
      = ix4 slot s (⟨8 + (x 2).val, by omega⟩ : Fin 264) (x 3) := by
    funext a
    apply Fin.ext
    refine (Rect.idx_unit_val _ _ inb x a).trans ?_
    match a with
    | ⟨0, _⟩ => show slot.val + (x 0).val = slot.val; have : (x 0).val < 1 := (x 0).isLt; omega
    | ⟨1, _⟩ => show s.val + (x 1).val = s.val; have : (x 1).val < 1 := (x 1).isLt; omega
    | ⟨2, _⟩ => rfl
    | ⟨3, _⟩ => show 0 + (x 3).val = (x 3).val; omega
  rw [he]
  refine (congrArg w hx).trans ((hw (x 2) (x 3)).trans ?_)
  show _ = Fr halo P slot ⟨8 + (x 2).val, _⟩ (lane s (x 3))
  unfold Fr
  rw [dif_neg (by show ¬ (8 + (x 2).val < 8); omega)]
  exact congrArg (fun r => P slot r (lane s (x 3))) (Fin.ext (by show (x 2).val = 8 + (x 2).val - 8; omega))

theorem halo_piece (inb) (w : Vec Ideal S3x8x8x128 .f32)
    (hw : ∀ (a : Fin 3) (s : Fin 8) (r : Fin 8) (l : Fin 128), w (ix4 a s r l) = halo a r (lane s l)) :
    ∀ x : (Rect.unit (s := S3x8x264x128) ![0, 0, 0, 0] S3x8x8x128.size inb).shape.Idx,
      w x = Gs halo P ((Rect.unit (s := S3x8x264x128) ![0, 0, 0, 0] S3x8x8x128.size inb).emb x) := by
  intro x
  have hr : (x 2).val < 8 := (x 2).isLt
  have he : (Rect.unit (s := S3x8x264x128) ![0, 0, 0, 0] S3x8x8x128.size inb).emb x
      = ix4 (x 0 : Fin 3) (x 1 : Fin 8) (⟨(x 2).val, by omega⟩ : Fin 264) (x 3 : Fin 128) := by
    funext a
    apply Fin.ext
    refine (Rect.idx_unit_val _ _ inb x a).trans ?_
    match a with
    | ⟨0, _⟩ => show 0 + (x 0).val = (x 0).val; omega
    | ⟨1, _⟩ => show 0 + (x 1).val = (x 1).val; omega
    | ⟨2, _⟩ => show 0 + (x 2).val = (x 2).val; omega
    | ⟨3, _⟩ => show 0 + (x 3).val = (x 3).val; omega
  have hx : x = ix4 (x 0 : Fin 3) (x 1 : Fin 8) (x 2 : Fin 8) (x 3 : Fin 128) := by
    funext a
    match a with
    | ⟨0, _⟩ => rfl
    | ⟨1, _⟩ => rfl
    | ⟨2, _⟩ => rfl
    | ⟨3, _⟩ => rfl
  rw [he]
  refine (congrArg w hx).trans ((hw (x 0) (x 1) (x 2) (x 3)).trans ?_)
  show _ = Fr halo P (x 0) ⟨(x 2).val, _⟩ (lane (x 1) (x 3))
  unfold Fr
  rw [dif_pos (show (x 2).val < 8 from hr)]
  rfl

theorem slab_mem (slot : Fin 3) (s : Fin 8) (inb) (y : S3x8x264x128.Idx) (h0 : (y 0).val = slot.val) (h1 : (y 1).val = s.val)
    (h2 : 8 ≤ (y 2).val) : y ∈ (Rect.unit (s := S3x8x264x128) ![slot.val, s.val, 8, 0] S1x1x256x128.size inb).set := by
  refine Rect.mem_set_unit.mpr fun a => ?_
  have b2 : (y 2).val < 264 := (y 2).isLt
  have b3 : (y 3).val < 128 := (y 3).isLt
  match a with
  | ⟨0, _⟩ => show slot.val ≤ (y 0).val ∧ (y 0).val < slot.val + 1; omega
  | ⟨1, _⟩ => show s.val ≤ (y 1).val ∧ (y 1).val < s.val + 1; omega
  | ⟨2, _⟩ => show 8 ≤ (y 2).val ∧ (y 2).val < 8 + 256; omega
  | ⟨3, _⟩ => show 0 ≤ (y 3).val ∧ (y 3).val < 0 + 128; omega

theorem halo_mem (inb) (y : S3x8x264x128.Idx) (h2 : (y 2).val < 8) :
    y ∈ (Rect.unit (s := S3x8x264x128) ![0, 0, 0, 0] S3x8x8x128.size inb).set := by
  refine Rect.mem_set_unit.mpr fun a => ?_
  have b0 : (y 0).val < 3 := (y 0).isLt
  have b1 : (y 1).val < 8 := (y 1).isLt
  have b3 : (y 3).val < 128 := (y 3).isLt
  match a with
  | ⟨0, _⟩ => show 0 ≤ (y 0).val ∧ (y 0).val < 0 + 3; omega
  | ⟨1, _⟩ => show 0 ≤ (y 1).val ∧ (y 1).val < 0 + 8; omega
  | ⟨2, _⟩ => show 0 ≤ (y 2).val ∧ (y 2).val < 0 + 8; omega
  | ⟨3, _⟩ => show 0 ≤ (y 3).val ∧ (y 3).val < 0 + 128; omega

/-- Pieces of the scratch, over the entries. -/
abbrev Pieces := List (View.Piece (Elt Ideal) S3x8x264x128 .f32)

/-- Eight slabs of a slot cover its rows from the ninth on. -/
theorem slabs_cover (slot : Fin 3) (i0) (i1) (i2) (i3) (i4) (i5) (i6) (i7)
    (w0 w1 w2 w3 w4 w5 w6 w7 : Vec Ideal S1x1x256x128 .f32) (L : Pieces) (y : S3x8x264x128.Idx)
    (h0 : (y 0).val = slot.val) (h2 : 8 ≤ (y 2).val) :
    ∃ p ∈ ((⟨Rect.unit (s := S3x8x264x128) ![slot.val, (7 : Fin 8).val, 8, 0] S1x1x256x128.size i7, w7⟩ ::
      ⟨Rect.unit (s := S3x8x264x128) ![slot.val, (6 : Fin 8).val, 8, 0] S1x1x256x128.size i6, w6⟩ ::
      ⟨Rect.unit (s := S3x8x264x128) ![slot.val, (5 : Fin 8).val, 8, 0] S1x1x256x128.size i5, w5⟩ ::
      ⟨Rect.unit (s := S3x8x264x128) ![slot.val, (4 : Fin 8).val, 8, 0] S1x1x256x128.size i4, w4⟩ ::
      ⟨Rect.unit (s := S3x8x264x128) ![slot.val, (3 : Fin 8).val, 8, 0] S1x1x256x128.size i3, w3⟩ ::
      ⟨Rect.unit (s := S3x8x264x128) ![slot.val, (2 : Fin 8).val, 8, 0] S1x1x256x128.size i2, w2⟩ ::
      ⟨Rect.unit (s := S3x8x264x128) ![slot.val, (1 : Fin 8).val, 8, 0] S1x1x256x128.size i1, w1⟩ ::
      ⟨Rect.unit (s := S3x8x264x128) ![slot.val, (0 : Fin 8).val, 8, 0] S1x1x256x128.size i0, w0⟩ :: L : Pieces)), y ∈ p.1.set := by
  have b1 : (y 1).val < 8 := (y 1).isLt
  obtain h | h | h | h | h | h | h | h : (y 1).val = 7 ∨ (y 1).val = 6 ∨ (y 1).val = 5 ∨ (y 1).val = 4 ∨ (y 1).val = 3 ∨ (y 1).val = 2
      ∨ (y 1).val = 1 ∨ (y 1).val = 0 := by omega
  · exact ⟨_, .head _, slab_mem slot 7 i7 y h0 h h2⟩
  · exact ⟨_, .tail _ (.head _), slab_mem slot 6 i6 y h0 h h2⟩
  · exact ⟨_, .tail _ (.tail _ (.head _)), slab_mem slot 5 i5 y h0 h h2⟩
  · exact ⟨_, .tail _ (.tail _ (.tail _ (.head _))), slab_mem slot 4 i4 y h0 h h2⟩
  · exact ⟨_, .tail _ (.tail _ (.tail _ (.tail _ (.head _)))), slab_mem slot 3 i3 y h0 h h2⟩
  · exact ⟨_, .tail _ (.tail _ (.tail _ (.tail _ (.tail _ (.head _))))), slab_mem slot 2 i2 y h0 h h2⟩
  · exact ⟨_, .tail _ (.tail _ (.tail _ (.tail _ (.tail _ (.tail _ (.head _)))))), slab_mem slot 1 i1 y h0 h h2⟩
  · exact ⟨_, .tail _ (.tail _ (.tail _ (.tail _ (.tail _ (.tail _ (.tail _ (.head _))))))), slab_mem slot 0 i0 y h0 h h2⟩

/-- A shifted load of a covered slot is a slab of that slot's rows. -/
theorem load_slab (v : View sig .tc .vmem S3x8x264x128 .f32) (L : Pieces) (hL : View.PiecesOf (Gs halo P) L) (slot : Fin 3)
    (hc : ∀ y : S3x8x264x128.Idx, (y 0).val = slot.val → ∃ p ∈ L, y ∈ p.1.set) (s off : ℕ) (hs : s < 8) (ho : off ≤ 8) (inb) :
    v.readCov L (Rect.unit (s := S3x8x264x128) ![slot.val, s, off, 0] S1x1x256x128.size inb).toLoadRect
      = slab (rowsFrom halo P slot off ho) ⟨s, hs⟩ := by
  rw [View.readCov_eq_canon']
  funext j
  have he : (Rect.unit (s := S3x8x264x128) ![slot.val, s, off, 0] S1x1x256x128.size inb).toLoadRect.idx j
      = ix4 slot (⟨s, hs⟩ : Fin 8) (⟨(j 2).val + off, by have : (j 2).val < 256 := (j 2).isLt; omega⟩ : Fin 264) (j 3 : Fin 128) := by
    funext a
    apply Fin.ext
    refine (Rect.idx_unit_val _ _ inb j a).trans ?_
    match a with
    | ⟨0, _⟩ => show slot.val + (j 0).val = slot.val; have : (j 0).val < 1 := (j 0).isLt; omega
    | ⟨1, _⟩ => show s + (j 1).val = s; have : (j 1).val < 1 := (j 1).isLt; omega
    | ⟨2, _⟩ => exact Nat.add_comm _ _
    | ⟨3, _⟩ => show 0 + (j 3).val = (j 3).val; omega
  exact (congrArg (View.canon L) he).trans (View.canon_apply_of_pieces (Gs halo P) L hL.mem _ (hc _ rfl))

end scratch

/-- Columns `n`, `n + 1`, … of the wide weight matrix. -/
def cols (w : Vec Ideal S1024x12288 .bf16) (n : ℕ) (hn : n + 1024 ≤ 12288) : Vec Ideal S1024x1024 .bf16 :=
  fun y => w (ix2 (y 0) ⟨n + (y 1).val, by have : (y 1).val < 1024 := (y 1).isLt; omega⟩)

theorem read_cols (m : Memref sig .tc .vmem S1024x12288 .bf16) (hm : m.IsWhole) (w : Vec Ideal S1024x12288 .bf16) (n : ℕ)
    (hn : n + 1024 ≤ 12288) (inb) :
    View.readAt (Elt Ideal) m.view (Rect.unit (s := S1024x12288) ![0, n] S1024x1024.size inb).toLoadRect (hm.unread w)
      = cols w n hn := by
  refine (View.readAt_eq_ld _ _ _).trans ?_
  rw [hm.read_unread]
  funext y
  refine View.ld_unit_apply_of w _ _ inb y _ fun a => ?_
  match a with
  | ⟨0, _⟩ => show (y 0).val = 0 + (y 0).val; omega
  | ⟨1, _⟩ => rfl

/-- A load of the whole of a buffer reads what is put there. -/
theorem read_all {S : Shape} {e : EltTy} (m : Memref sig .tc .vmem S e) (hm : m.IsWhole) (w : Vec Ideal S e) (off : Fin S.rank → ℕ)
    (h0 : ∀ a, off a = 0) (inb) : View.readAt (Elt Ideal) m.view (Rect.unit off S.size inb).toLoadRect (hm.unread w) = w := by
  refine (View.readAt_eq_ld _ _ _).trans ?_
  rw [hm.read_unread]
  funext y
  exact View.ld_unit_apply_of w _ _ inb y _ fun a => by rw [h0 a, Nat.zero_add]

/-- What a grid point adds to the three slots: products of the normalised rows `h` with column blocks of the weights. -/
def Pslot (h : Vec Ideal S256x1024 .bf16) (w : Vec Ideal S1024x12288 .bf16) (slot : Fin 3) (r : Fin 256) (k : Fin 1024) : EReal :=
  match slot with
  | 0 => mm h (cols w 2048 (by decide)) r k * mm h (cols w 0 (by decide)) r k
  | 1 => mm h (cols w 4096 (by decide)) r k
  | 2 => mm h (cols w 5120 (by decide)) r k

end Cert.Proof.Proj

end
-- ==== Proof.ProjOut.lean ====
/- Hand-written: what one grid point of the projection call leaves in its two results, as a function of the normalised rows, the rows
   carried from before, and the weights. -/
module

public import proofs.«01_k».proof.Proof.ProjScratch

@[expose] public section

noncomputable section

namespace Cert.Proof.Proj

open Cert.Kernel3Ideal Cert.Kernel3Ideal.Gen Idealize.ShloMosaic

theorem Stored.of_eq {p q : Fin 256 → Fin 1024 → EReal} {s : Fin 8} {w : Vec Ideal S1x1x256x128 .f32} (h : Stored p s w) (e : p = q) :
    Stored q s w := e ▸ h

/-- Before the first row of a sequence there are zeros. -/
def noHalo : Fin 3 → Fin 8 → Fin 1024 → EReal := fun _ _ _ => 0

/-- Rows 256 to 263 of the scratch as the point before left it. -/
def haloOf (xs0 : Vec Ideal S3x8x264x128 .f32) : Fin 3 → Fin 8 → Fin 1024 → EReal := fun a r k =>
  xs0 (ix4 a (⟨k.val / 128, by omega⟩ : Fin 8) (⟨256 + r.val, by omega⟩ : Fin 264) (⟨k.val % 128, Nat.mod_lt _ (by decide)⟩ : Fin 128))

theorem halo_read (m : Memref sig .tc .vmem S3x8x264x128 .f32) (hm : m.IsWhole) (xs0 : Vec Ideal S3x8x264x128 .f32) (inb)
    (a : Fin 3) (s r : Fin 8) (l : Fin 128) :
    k0_pay3 (View.readAt (Elt Ideal) m.view (Rect.unit (s := S3x8x264x128) ![0, 0, 256, 0] S3x8x8x128.size inb).toLoadRect (hm.unread xs0))
      (ix4 a s r l) = haloOf xs0 a r (lane s l) := by
  unfold k0_pay3
  dsimp only
  rw [shapeCast_self]
  rw [show View.readAt (Elt Ideal) m.view (Rect.unit (s := S3x8x264x128) ![0, 0, 256, 0] S3x8x8x128.size inb).toLoadRect (hm.unread xs0)
    = View.ld xs0 (Rect.unit (s := S3x8x264x128) ![0, 0, 256, 0] S3x8x8x128.size inb) from by
      refine (View.readAt_eq_ld _ _ _).trans ?_
      rw [hm.read_unread]]
  refine View.ld_unit_apply_of xs0 _ _ inb _ _ fun b => ?_
  match b with
  | ⟨0, _⟩ => show a.val = 0 + a.val; omega
  | ⟨1, _⟩ => show (128 * s.val + l.val) / 128 = 0 + s.val; omega
  | ⟨2, _⟩ => rfl
  | ⟨3, _⟩ => show (128 * s.val + l.val) % 128 = 0 + l.val; omega

/-- A whole store, read back. -/
theorem read_one (v : View sig .tc .vmem S256x1024 .bf16) (w : Vec Ideal S256x1024 .bf16) (inb inb') :
    v.readCov [⟨Rect.unit (s := S256x1024) ![0, 0] S256x1024.size inb, w⟩]
      (Rect.unit (s := S256x1024) ![0, 0] S256x1024.size inb').toLoadRect = w := by
  rw [View.readCov_fill v inb w [] _ (by decide)]
  funext y
  exact View.ld_unit_apply_of w _ _ inb' y y fun a => by
    match a with
    | ⟨0, _⟩ => show (y 0).val = 0 + (y 0).val; omega
    | ⟨1, _⟩ => show (y 1).val = 0 + (y 1).val; omega

/-- The three-wide convolution of slot 0 at a row and a column. -/
def conv3 (f6 f7 f8 : Fin 256 → Fin 1024 → EReal) (cw : Vec Ideal S3x1024 .f32) (r : Fin 256) (k : Fin 1024) : EReal :=
  f6 r k * cw (ix2 0 k) + f7 r k * cw (ix2 1 k) + f8 r k * cw (ix2 2 k)

/-- A four-wide convolution with its bias; `c` is the column of its weights. -/
def conv4 (f5 f6 f7 f8 : Fin 256 → Fin 1024 → EReal) (cw : Vec Ideal S4x2048 .f32) (cb : Vec Ideal S1x2048 .f32) (r : Fin 256)
    (k : Fin 1024) (c : Fin 2048) : EReal :=
  f5 r k * cw (ix2 0 c) + f6 r k * cw (ix2 1 c) + f7 r k * cw (ix2 2 c) + f8 r k * cw (ix2 3 c) + cb (ix2 0 c)

section out
variable (halo : Fin 3 → Fin 8 → Fin 1024 → EReal) (h : Vec Ideal S256x1024 .bf16) (w : Vec Ideal S1024x12288 .bf16)
  (x4 : Vec Ideal S3x1024 .f32) (x5 : Vec Ideal S4x2048 .f32) (x6 : Vec Ideal S1x2048 .f32)

/-- The first result of a grid point, as ten blocks of 1024 columns. -/
def Ublk (n : Fin 10) (r : Fin 256) (k : Fin 1024) : EReal :=
  match n with
  | 0 => mm h (cols w 1024 (by decide)) r k * conv3 (rowsFrom halo (Pslot h w) 0 6 (by decide)) (rowsFrom halo (Pslot h w) 0 7 (by decide))
      (rowsFrom halo (Pslot h w) 0 8 (by decide)) x4 r k
  | 1 => siluT (mm h (cols w 3072 (by decide)) r k)
  | 2 => siluT (conv4 (rowsFrom halo (Pslot h w) 1 5 (by decide)) (rowsFrom halo (Pslot h w) 1 6 (by decide))
      (rowsFrom halo (Pslot h w) 1 7 (by decide)) (rowsFrom halo (Pslot h w) 1 8 (by decide)) x5 x6 r k ⟨k.val, by omega⟩)
  | 3 => siluT (conv4 (rowsFrom halo (Pslot h w) 2 5 (by decide)) (rowsFrom halo (Pslot h w) 2 6 (by decide))
      (rowsFrom halo (Pslot h w) 2 7 (by decide)) (rowsFrom halo (Pslot h w) 2 8 (by decide)) x5 x6 r k ⟨1024 + k.val, by omega⟩)
  | 4 => mm h (cols w 6144 (by decide)) r k
  | 5 => mm h (cols w 7168 (by decide)) r k
  | 6 => siluT (mm h (cols w 8192 (by decide)) r k)
  | 7 => sigT (mm h (cols w 9216 (by decide)) r k)
  | 8 => sigT (mm h (cols w 10240 (by decide)) r k)
  | 9 => sigT (mm h (cols w 11264 (by decide)) r k)

/-- The same at a column of the result. -/
def Uout : S256x10240.Idx → EReal := fun y =>
  Ublk halo h w x4 x5 x6 ⟨(y 1).val / 1024, by have : (y 1).val < 10240 := (y 1).isLt; omega⟩ (y 0) ⟨(y 1).val % 1024, Nat.mod_lt _ (by decide)⟩

theorem col_piece (n : Fin 10) (off : ℕ) (hoff : off = 1024 * n.val) (inb) (v : Vec Ideal S256x1024 .bf16)
    (hv : ∀ r k, v (ix2 r k) = Ublk halo h w x4 x5 x6 n r k) :
    ∀ x : (Rect.unit (s := S256x10240) ![0, off] S256x1024.size inb).shape.Idx,
      v x = Uout halo h w x4 x5 x6 ((Rect.unit (s := S256x10240) ![0, off] S256x1024.size inb).emb x) := by
  subst hoff
  intro x
  have hk : (x 1).val < 1024 := (x 1).isLt
  have he : (Rect.unit (s := S256x10240) ![0, 1024 * n.val] S256x1024.size inb).emb x
      = ix2 (x 0 : Fin 256) (⟨1024 * n.val + (x 1).val, by omega⟩ : Fin 10240) := by
    funext a
    apply Fin.ext
    refine (Rect.idx_unit_val _ _ inb x a).trans ?_
    match a with
    | ⟨0, _⟩ => show 0 + (x 0).val = (x 0).val; omega
    | ⟨1, _⟩ => rfl
  rw [he]
  have hx : x = ix2 (x 0 : Fin 256) (x 1 : Fin 1024) := (ix2_eta x).symm
  refine (congrArg v hx).trans ((hv (x 0) (x 1)).trans ?_)
  show Ublk halo h w x4 x5 x6 n (x 0) (x 1) = Ublk halo h w x4 x5 x6 ⟨(1024 * n.val + (x 1).val) / 1024, _⟩ (x 0)
    ⟨(1024 * n.val + (x 1).val) % 1024, _⟩
  have h1 : (1024 * n.val + (x 1).val) / 1024 = n.val := by omega
  have h2 : (1024 * n.val + (x 1).val) % 1024 = (x 1).val := by omega
  simp only [h1, h2]
  rfl

theorem col_mem (n : ℕ) (off : ℕ) (hoff : off = 1024 * n) (inb) (y : S256x10240.Idx) (hy : (y 1).val / 1024 = n) :
    y ∈ (Rect.unit (s := S256x10240) ![0, off] S256x1024.size inb).set := by
  refine Rect.mem_set_unit.mpr fun a => ?_
  have b0 : (y 0).val < 256 := (y 0).isLt
  match a with
  | ⟨0, _⟩ => show 0 ≤ (y 0).val ∧ (y 0).val < 0 + 256; omega
  | ⟨1, _⟩ => show off ≤ (y 1).val ∧ (y 1).val < off + 1024; omega

theorem out_of_pieces (L : List (View.Piece (Elt Ideal) S256x10240 .bf16)) (y : S256x10240.Idx) (hc : ∃ p ∈ L, y ∈ p.1.set)
    (hL : View.PiecesOf (Uout halo h w x4 x5 x6) L) : View.canon L y = Uout halo h w x4 x5 x6 y :=
  View.canon_apply_of_pieces _ L hL.mem y hc

end out

end Cert.Proof.Proj

end
-- ==== Proof.ProjCaseA.lean ====
/- Hand-written: one grid point of the projection call, in the case that starts a sequence, with zeros before the first row. What the body leaves in the
   scratch and in its two results, entry by entry. -/
module

public import proofs.«01_k».proof.Proof.ProjOut

@[expose] public section

set_option maxHeartbeats 2000000

noncomputable section

namespace Cert.Proof.Proj

open Cert.Kernel3Ideal Cert.Kernel3Ideal.Gen Idealize.ShloMosaic

variable (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x12288 .bf16) (harg3 : arg3.IsWhole) (arg4 : Memref sig .tc .vmem S1024x128 .bf16) (harg4 : arg4.IsWhole) (arg5 : Memref sig .tc .vmem S3x1024 .f32) (harg5 : arg5.IsWhole) (arg6 : Memref sig .tc .vmem S4x2048 .f32) (harg6 : arg6.IsWhole) (arg7 : Memref sig .tc .vmem S1x2048 .f32) (harg7 : arg7.IsWhole) (arg8 : Memref sig .tc .vmem S256x10240 .bf16) (harg8 : arg8.IsWhole) (arg9 : Memref sig .tc .vmem S256x128 .f32) (harg9 : arg9.IsWhole) (arg10 : Memref sig .tc .vmem S3x8x264x128 .f32) (harg10 : arg10.IsWhole) (arg11 : Memref sig .tc .vmem S256x1024 .bf16) (harg11 : arg11.IsWhole) (hc0 : cond0_0 i) (hc1 : ¬cond0_1 i)
    (x0 : Vec Ideal S256x1024 .f32) (x1 : Vec Ideal S1x1024 .f32) (x2 : Vec Ideal S1024x12288 .bf16) (x3 : Vec Ideal S1024x128 .bf16) (x4 : Vec Ideal S3x1024 .f32) (x5 : Vec Ideal S4x2048 .f32) (x6 : Vec Ideal S1x2048 .f32)

/-- The normalised rows of the point, as the body keeps them. -/
def rowsA : Vec Ideal S256x1024 .bf16 := kernelRun0_A.sl.v35 c arg1 harg1 arg2 harg2 arg11 x0 x1

theorem rowsA_apply (r : Fin 256) (k : Fin 1024) :
    rowsA c arg1 harg1 arg2 harg2 arg11 x0 x1 (ix2 r k) = Mlp.rowRms (fun j => x0 (ix2 r j)) k * x1 (ix2 0 k) := by
  unfold rowsA kernelRun0_A.sl.v35 kernelRun0_A.sl.HS1_1
  rw [read_all arg1 harg1 x0 ![0, 0] (by decide), read_all arg2 harg2 x1 ![0, 0] (by decide), read_one]
  exact pay4_apply x0 x1 r k

theorem piecesA9 : View.PiecesOf (Gs noHalo (Pslot (rowsA c arg1 harg1 arg2 harg2 arg11 x0 x1) x2)) (kernelRun0_A.sl.HS0_9 c arg1 harg1 arg2 harg2 arg3 harg3 arg11 x0 x1 x2) := by
  unfold kernelRun0_A.sl.HS0_9
  exact ⟨slab_piece noHalo (Pslot (rowsA c arg1 harg1 arg2 harg2 arg11 x0 x1) x2) 0 7 inb_S3x8x264x128_S1x1x256x128_0_7_8_0 _ ((stored0_7 _ _ _).of_eq (by rw [read_cols arg3 harg3 x2 2048 (by decide), read_cols arg3 harg3 x2 0 (by decide)]; rfl)),
    slab_piece noHalo (Pslot (rowsA c arg1 harg1 arg2 harg2 arg11 x0 x1) x2) 0 6 inb_S3x8x264x128_S1x1x256x128_0_6_8_0 _ ((stored0_6 _ _ _).of_eq (by rw [read_cols arg3 harg3 x2 2048 (by decide), read_cols arg3 harg3 x2 0 (by decide)]; rfl)),
    slab_piece noHalo (Pslot (rowsA c arg1 harg1 arg2 harg2 arg11 x0 x1) x2) 0 5 inb_S3x8x264x128_S1x1x256x128_0_5_8_0 _ ((stored0_5 _ _ _).of_eq (by rw [read_cols arg3 harg3 x2 2048 (by decide), read_cols arg3 harg3 x2 0 (by decide)]; rfl)),
    slab_piece noHalo (Pslot (rowsA c arg1 harg1 arg2 harg2 arg11 x0 x1) x2) 0 4 inb_S3x8x264x128_S1x1x256x128_0_4_8_0 _ ((stored0_4 _ _ _).of_eq (by rw [read_cols arg3 harg3 x2 2048 (by decide), read_cols arg3 harg3 x2 0 (by decide)]; rfl)),
    slab_piece noHalo (Pslot (rowsA c arg1 harg1 arg2 harg2 arg11 x0 x1) x2) 0 3 inb_S3x8x264x128_S1x1x256x128_0_3_8_0 _ ((stored0_3 _ _ _).of_eq (by rw [read_cols arg3 harg3 x2 2048 (by decide), read_cols arg3 harg3 x2 0 (by decide)]; rfl)),
    slab_piece noHalo (Pslot (rowsA c arg1 harg1 arg2 harg2 arg11 x0 x1) x2) 0 2 inb_S3x8x264x128_S1x1x256x128_0_2_8_0 _ ((stored0_2 _ _ _).of_eq (by rw [read_cols arg3 harg3 x2 2048 (by decide), read_cols arg3 harg3 x2 0 (by decide)]; rfl)),
    slab_piece noHalo (Pslot (rowsA c arg1 harg1 arg2 harg2 arg11 x0 x1) x2) 0 1 inb_S3x8x264x128_S1x1x256x128_0_1_8_0 _ ((stored0_1 _ _ _).of_eq (by rw [read_cols arg3 harg3 x2 2048 (by decide), read_cols arg3 harg3 x2 0 (by decide)]; rfl)),
    slab_piece noHalo (Pslot (rowsA c arg1 harg1 arg2 harg2 arg11 x0 x1) x2) 0 0 inb_S3x8x264x128_S1x1x256x128_0_0_8_0 _ ((stored0_0 _ _ _).of_eq (by rw [read_cols arg3 harg3 x2 2048 (by decide), read_cols arg3 harg3 x2 0 (by decide)]; rfl)),
    halo_piece noHalo (Pslot (rowsA c arg1 harg1 arg2 harg2 arg11 x0 x1) x2) inb_S3x8x264x128_S3x8x8x128_0_0_0_0 _ (fun a s r l => by pointwise [k0_pay2]; rfl), trivial⟩

theorem piecesA17 : View.PiecesOf (Gs noHalo (Pslot (rowsA c arg1 harg1 arg2 harg2 arg11 x0 x1) x2)) (kernelRun0_A.sl.HS0_17 c arg1 harg1 arg2 harg2 arg3 harg3 arg11 x0 x1 x2) := by
  unfold kernelRun0_A.sl.HS0_17
  exact ⟨slab_piece noHalo (Pslot (rowsA c arg1 harg1 arg2 harg2 arg11 x0 x1) x2) 1 7 inb_S3x8x264x128_S1x1x256x128_1_7_8_0 _ ((stored1_7 _ _).of_eq (by rw [read_cols arg3 harg3 x2 4096 (by decide)]; rfl)),
    slab_piece noHalo (Pslot (rowsA c arg1 harg1 arg2 harg2 arg11 x0 x1) x2) 1 6 inb_S3x8x264x128_S1x1x256x128_1_6_8_0 _ ((stored1_6 _ _).of_eq (by rw [read_cols arg3 harg3 x2 4096 (by decide)]; rfl)),
    slab_piece noHalo (Pslot (rowsA c arg1 harg1 arg2 harg2 arg11 x0 x1) x2) 1 5 inb_S3x8x264x128_S1x1x256x128_1_5_8_0 _ ((stored1_5 _ _).of_eq (by rw [read_cols arg3 harg3 x2 4096 (by decide)]; rfl)),
    slab_piece noHalo (Pslot (rowsA c arg1 harg1 arg2 harg2 arg11 x0 x1) x2) 1 4 inb_S3x8x264x128_S1x1x256x128_1_4_8_0 _ ((stored1_4 _ _).of_eq (by rw [read_cols arg3 harg3 x2 4096 (by decide)]; rfl)),
    slab_piece noHalo (Pslot (rowsA c arg1 harg1 arg2 harg2 arg11 x0 x1) x2) 1 3 inb_S3x8x264x128_S1x1x256x128_1_3_8_0 _ ((stored1_3 _ _).of_eq (by rw [read_cols arg3 harg3 x2 4096 (by decide)]; rfl)),
    slab_piece noHalo (Pslot (rowsA c arg1 harg1 arg2 harg2 arg11 x0 x1) x2) 1 2 inb_S3x8x264x128_S1x1x256x128_1_2_8_0 _ ((stored1_2 _ _).of_eq (by rw [read_cols arg3 harg3 x2 4096 (by decide)]; rfl)),
    slab_piece noHalo (Pslot (rowsA c arg1 harg1 arg2 harg2 arg11 x0 x1) x2) 1 1 inb_S3x8x264x128_S1x1x256x128_1_1_8_0 _ ((stored1_1 _ _).of_eq (by rw [read_cols arg3 harg3 x2 4096 (by decide)]; rfl)),
    slab_piece noHalo (Pslot (rowsA c arg1 harg1 arg2 harg2 arg11 x0 x1) x2) 1 0 inb_S3x8x264x128_S1x1x256x128_1_0_8_0 _ ((stored1_0 _ _).of_eq (by rw [read_cols arg3 harg3 x2 4096 (by decide)]; rfl)),
    piecesA9 c arg1 harg1 arg2 harg2 arg3 harg3 arg11 x0 x1 x2⟩

theorem piecesA25 : View.PiecesOf (Gs noHalo (Pslot (rowsA c arg1 harg1 arg2 harg2 arg11 x0 x1) x2)) (kernelRun0_A.sl.HS0_25 c arg1 harg1 arg2 harg2 arg3 harg3 arg11 x0 x1 x2) := by
  unfold kernelRun0_A.sl.HS0_25
  exact ⟨slab_piece noHalo (Pslot (rowsA c arg1 harg1 arg2 harg2 arg11 x0 x1) x2) 2 7 inb_S3x8x264x128_S1x1x256x128_2_7_8_0 _ ((stored2_7 _ _).of_eq (by rw [read_cols arg3 harg3 x2 5120 (by decide)]; rfl)),
    slab_piece noHalo (Pslot (rowsA c arg1 harg1 arg2 harg2 arg11 x0 x1) x2) 2 6 inb_S3x8x264x128_S1x1x256x128_2_6_8_0 _ ((stored2_6 _ _).of_eq (by rw [read_cols arg3 harg3 x2 5120 (by decide)]; rfl)),
    slab_piece noHalo (Pslot (rowsA c arg1 harg1 arg2 harg2 arg11 x0 x1) x2) 2 5 inb_S3x8x264x128_S1x1x256x128_2_5_8_0 _ ((stored2_5 _ _).of_eq (by rw [read_cols arg3 harg3 x2 5120 (by decide)]; rfl)),
    slab_piece noHalo (Pslot (rowsA c arg1 harg1 arg2 harg2 arg11 x0 x1) x2) 2 4 inb_S3x8x264x128_S1x1x256x128_2_4_8_0 _ ((stored2_4 _ _).of_eq (by rw [read_cols arg3 harg3 x2 5120 (by decide)]; rfl)),
    slab_piece noHalo (Pslot (rowsA c arg1 harg1 arg2 harg2 arg11 x0 x1) x2) 2 3 inb_S3x8x264x128_S1x1x256x128_2_3_8_0 _ ((stored2_3 _ _).of_eq (by rw [read_cols arg3 harg3 x2 5120 (by decide)]; rfl)),
    slab_piece noHalo (Pslot (rowsA c arg1 harg1 arg2 harg2 arg11 x0 x1) x2) 2 2 inb_S3x8x264x128_S1x1x256x128_2_2_8_0 _ ((stored2_2 _ _).of_eq (by rw [read_cols arg3 harg3 x2 5120 (by decide)]; rfl)),
    slab_piece noHalo (Pslot (rowsA c arg1 harg1 arg2 harg2 arg11 x0 x1) x2) 2 1 inb_S3x8x264x128_S1x1x256x128_2_1_8_0 _ ((stored2_1 _ _).of_eq (by rw [read_cols arg3 harg3 x2 5120 (by decide)]; rfl)),
    slab_piece noHalo (Pslot (rowsA c arg1 harg1 arg2 harg2 arg11 x0 x1) x2) 2 0 inb_S3x8x264x128_S1x1x256x128_2_0_8_0 _ ((stored2_0 _ _).of_eq (by rw [read_cols arg3 harg3 x2 5120 (by decide)]; rfl)),
    piecesA17 c arg1 harg1 arg2 harg2 arg3 harg3 arg11 x0 x1 x2⟩

theorem coverA9 (y : S3x8x264x128.Idx) (h : (y 0).val = 0 ∨ (y 2).val < 8) :
    ∃ p ∈ (kernelRun0_A.sl.HS0_9 c arg1 harg1 arg2 harg2 arg3 harg3 arg11 x0 x1 x2), y ∈ p.1.set := by
  unfold kernelRun0_A.sl.HS0_9
  rcases Nat.lt_or_ge (y 2).val 8 with h2 | h2
  · exact ⟨_, .tail _ (.tail _ (.tail _ (.tail _ (.tail _ (.tail _ (.tail _ (.tail _ (.head _)))))))), halo_mem inb_S3x8x264x128_S3x8x8x128_0_0_0_0 y h2⟩
  · exact slabs_cover 0 inb_S3x8x264x128_S1x1x256x128_0_0_8_0 inb_S3x8x264x128_S1x1x256x128_0_1_8_0 inb_S3x8x264x128_S1x1x256x128_0_2_8_0 inb_S3x8x264x128_S1x1x256x128_0_3_8_0 inb_S3x8x264x128_S1x1x256x128_0_4_8_0 inb_S3x8x264x128_S1x1x256x128_0_5_8_0 inb_S3x8x264x128_S1x1x256x128_0_6_8_0 inb_S3x8x264x128_S1x1x256x128_0_7_8_0 _ _ _ _ _ _ _ _ _ y (by omega) h2

theorem coverA17 (y : S3x8x264x128.Idx) (h : (y 0).val ≤ 1 ∨ (y 2).val < 8) :
    ∃ p ∈ (kernelRun0_A.sl.HS0_17 c arg1 harg1 arg2 harg2 arg3 harg3 arg11 x0 x1 x2), y ∈ p.1.set := by
  by_cases hy : (y 0).val ≤ 0 ∨ (y 2).val < 8
  · obtain ⟨p, hp, hm⟩ := coverA9 c arg1 harg1 arg2 harg2 arg3 harg3 arg11 x0 x1 x2 y (by omega)
    unfold kernelRun0_A.sl.HS0_17
    exact ⟨p, .tail _ (.tail _ (.tail _ (.tail _ (.tail _ (.tail _ (.tail _ (.tail _ hp))))))), hm⟩
  · unfold kernelRun0_A.sl.HS0_17
    exact slabs_cover 1 inb_S3x8x264x128_S1x1x256x128_1_0_8_0 inb_S3x8x264x128_S1x1x256x128_1_1_8_0 inb_S3x8x264x128_S1x1x256x128_1_2_8_0 inb_S3x8x264x128_S1x1x256x128_1_3_8_0 inb_S3x8x264x128_S1x1x256x128_1_4_8_0 inb_S3x8x264x128_S1x1x256x128_1_5_8_0 inb_S3x8x264x128_S1x1x256x128_1_6_8_0 inb_S3x8x264x128_S1x1x256x128_1_7_8_0 _ _ _ _ _ _ _ _ _ y (by omega) (by omega)

theorem coverA25 (y : S3x8x264x128.Idx) (h : (y 0).val ≤ 2 ∨ (y 2).val < 8) :
    ∃ p ∈ (kernelRun0_A.sl.HS0_25 c arg1 harg1 arg2 harg2 arg3 harg3 arg11 x0 x1 x2), y ∈ p.1.set := by
  by_cases hy : (y 0).val ≤ 1 ∨ (y 2).val < 8
  · obtain ⟨p, hp, hm⟩ := coverA17 c arg1 harg1 arg2 harg2 arg3 harg3 arg11 x0 x1 x2 y (by omega)
    unfold kernelRun0_A.sl.HS0_25
    exact ⟨p, .tail _ (.tail _ (.tail _ (.tail _ (.tail _ (.tail _ (.tail _ (.tail _ hp))))))), hm⟩
  · unfold kernelRun0_A.sl.HS0_25
    exact slabs_cover 2 inb_S3x8x264x128_S1x1x256x128_2_0_8_0 inb_S3x8x264x128_S1x1x256x128_2_1_8_0 inb_S3x8x264x128_S1x1x256x128_2_2_8_0 inb_S3x8x264x128_S1x1x256x128_2_3_8_0 inb_S3x8x264x128_S1x1x256x128_2_4_8_0 inb_S3x8x264x128_S1x1x256x128_2_5_8_0 inb_S3x8x264x128_S1x1x256x128_2_6_8_0 inb_S3x8x264x128_S1x1x256x128_2_7_8_0 _ _ _ _ _ _ _ _ _ y (by omega) (by omega)

/-- What the scratch holds when the point ends. -/
theorem soutA_apply (y : S3x8x264x128.Idx) : sout0_A_0 c i arg1 harg1 arg2 harg2 arg3 harg3 arg4 harg4 arg5 harg5 arg6 harg6 arg7 harg7 arg8 harg8 arg9 harg9 arg10 harg10 arg11 harg11 hc0 hc1 x0 x1 x2 x3 x4 x5 x6 y = Gs noHalo (Pslot (rowsA c arg1 harg1 arg2 harg2 arg11 x0 x1) x2) y := by
  unfold sout0_A_0
  rw [View.read_writes_junk_eq_canon]
  unfold kernelRun0_A
  exact View.canon_apply_of_pieces (Gs noHalo (Pslot (rowsA c arg1 harg1 arg2 harg2 arg11 x0 x1) x2)) _ (piecesA25 c arg1 harg1 arg2 harg2 arg3 harg3 arg11 x0 x1 x2).mem y
    (coverA25 c arg1 harg1 arg2 harg2 arg3 harg3 arg11 x0 x1 x2 y (by have : (y 0).val < 3 := (y 0).isLt; omega))

theorem loadA0 (s off : ℕ) (hs : s < 8) (ho : off ≤ 8) (inb) :
    arg10.view.readCov (kernelRun0_A.sl.HS0_9 c arg1 harg1 arg2 harg2 arg3 harg3 arg11 x0 x1 x2)
        (Rect.unit (s := S3x8x264x128) ![0, s, off, 0] S1x1x256x128.size inb).toLoadRect
      = slab (rowsFrom noHalo (Pslot (rowsA c arg1 harg1 arg2 harg2 arg11 x0 x1) x2) 0 off ho) ⟨s, hs⟩ :=
  load_slab noHalo (Pslot (rowsA c arg1 harg1 arg2 harg2 arg11 x0 x1) x2) arg10.view _ (piecesA9 c arg1 harg1 arg2 harg2 arg3 harg3 arg11 x0 x1 x2) 0 (fun y h => coverA9 c arg1 harg1 arg2 harg2 arg3 harg3 arg11 x0 x1 x2 y (by exact Or.inl h)) s off hs ho inb

theorem loadA1 (s off : ℕ) (hs : s < 8) (ho : off ≤ 8) (inb) :
    arg10.view.readCov (kernelRun0_A.sl.HS0_17 c arg1 harg1 arg2 harg2 arg3 harg3 arg11 x0 x1 x2)
        (Rect.unit (s := S3x8x264x128) ![1, s, off, 0] S1x1x256x128.size inb).toLoadRect
      = slab (rowsFrom noHalo (Pslot (rowsA c arg1 harg1 arg2 harg2 arg11 x0 x1) x2) 1 off ho) ⟨s, hs⟩ :=
  load_slab noHalo (Pslot (rowsA c arg1 harg1 arg2 harg2 arg11 x0 x1) x2) arg10.view _ (piecesA17 c arg1 harg1 arg2 harg2 arg3 harg3 arg11 x0 x1 x2) 1 (fun y h => coverA17 c arg1 harg1 arg2 harg2 arg3 harg3 arg11 x0 x1 x2 y (by omega)) s off hs ho inb

theorem loadA2 (s off : ℕ) (hs : s < 8) (ho : off ≤ 8) (inb) :
    arg10.view.readCov (kernelRun0_A.sl.HS0_25 c arg1 harg1 arg2 harg2 arg3 harg3 arg11 x0 x1 x2)
        (Rect.unit (s := S3x8x264x128) ![2, s, off, 0] S1x1x256x128.size inb).toLoadRect
      = slab (rowsFrom noHalo (Pslot (rowsA c arg1 harg1 arg2 harg2 arg11 x0 x1) x2) 2 off ho) ⟨s, hs⟩ :=
  load_slab noHalo (Pslot (rowsA c arg1 harg1 arg2 harg2 arg11 x0 x1) x2) arg10.view _ (piecesA25 c arg1 harg1 arg2 harg2 arg3 harg3 arg11 x0 x1 x2) 2 (fun y h => coverA25 c arg1 harg1 arg2 harg2 arg3 harg3 arg11 x0 x1 x2 y (by omega)) s off hs ho inb

theorem v79A : kernelRun0_A.sl.v79 c arg1 harg1 arg2 harg2 arg3 harg3 arg10 arg11 x0 x1 x2 = slab (rowsFrom noHalo (Pslot (rowsA c arg1 harg1 arg2 harg2 arg11 x0 x1) x2) 0 6 (by decide)) 0 :=
  loadA0 c arg1 harg1 arg2 harg2 arg3 harg3 arg10 arg11 x0 x1 x2 0 6 (by decide) (by decide) inb_S3x8x264x128_S1x1x256x128_0_0_6_0

theorem v81A : kernelRun0_A.sl.v81 c arg1 harg1 arg2 harg2 arg3 harg3 arg10 arg11 x0 x1 x2 = slab (rowsFrom noHalo (Pslot (rowsA c arg1 harg1 arg2 harg2 arg11 x0 x1) x2) 0 6 (by decide)) 1 :=
  loadA0 c arg1 harg1 arg2 harg2 arg3 harg3 arg10 arg11 x0 x1 x2 1 6 (by decide) (by decide) inb_S3x8x264x128_S1x1x256x128_0_1_6_0

theorem v83A : kernelRun0_A.sl.v83 c arg1 harg1 arg2 harg2 arg3 harg3 arg10 arg11 x0 x1 x2 = slab (rowsFrom noHalo (Pslot (rowsA c arg1 harg1 arg2 harg2 arg11 x0 x1) x2) 0 6 (by decide)) 2 :=
  loadA0 c arg1 harg1 arg2 harg2 arg3 harg3 arg10 arg11 x0 x1 x2 2 6 (by decide) (by decide) inb_S3x8x264x128_S1x1x256x128_0_2_6_0

theorem v85A : kernelRun0_A.sl.v85 c arg1 harg1 arg2 harg2 arg3 harg3 arg10 arg11 x0 x1 x2 = slab (rowsFrom noHalo (Pslot (rowsA c arg1 harg1 arg2 harg2 arg11 x0 x1) x2) 0 6 (by decide)) 3 :=
  loadA0 c arg1 harg1 arg2 harg2 arg3 harg3 arg10 arg11 x0 x1 x2 3 6 (by decide) (by decide) inb_S3x8x264x128_S1x1x256x128_0_3_6_0

theorem v87A : kernelRun0_A.sl.v87 c arg1 harg1 arg2 harg2 arg3 harg3 arg10 arg11 x0 x1 x2 = slab (rowsFrom noHalo (Pslot (rowsA c arg1 harg1 arg2 harg2 arg11 x0 x1) x2) 0 6 (by decide)) 4 :=
  loadA0 c arg1 harg1 arg2 harg2 arg3 harg3 arg10 arg11 x0 x1 x2 4 6 (by decide) (by decide) inb_S3x8x264x128_S1x1x256x128_0_4_6_0

theorem v89A : kernelRun0_A.sl.v89 c arg1 harg1 arg2 harg2 arg3 harg3 arg10 arg11 x0 x1 x2 = slab (rowsFrom noHalo (Pslot (rowsA c arg1 harg1 arg2 harg2 arg11 x0 x1) x2) 0 6 (by decide)) 5 :=
  loadA0 c arg1 harg1 arg2 harg2 arg3 harg3 arg10 arg11 x0 x1 x2 5 6 (by decide) (by decide) inb_S3x8x264x128_S1x1x256x128_0_5_6_0

theorem v91A : kernelRun0_A.sl.v91 c arg1 harg1 arg2 harg2 arg3 harg3 arg10 arg11 x0 x1 x2 = slab (rowsFrom noHalo (Pslot (rowsA c arg1 harg1 arg2 harg2 arg11 x0 x1) x2) 0 6 (by decide)) 6 :=
  loadA0 c arg1 harg1 arg2 harg2 arg3 harg3 arg10 arg11 x0 x1 x2 6 6 (by decide) (by decide) inb_S3x8x264x128_S1x1x256x128_0_6_6_0

theorem v93A : kernelRun0_A.sl.v93 c arg1 harg1 arg2 harg2 arg3 harg3 arg10 arg11 x0 x1 x2 = slab (rowsFrom noHalo (Pslot (rowsA c arg1 harg1 arg2 harg2 arg11 x0 x1) x2) 0 6 (by decide)) 7 :=
  loadA0 c arg1 harg1 arg2 harg2 arg3 harg3 arg10 arg11 x0 x1 x2 7 6 (by decide) (by decide) inb_S3x8x264x128_S1x1x256x128_0_7_6_0

theorem v99A : kernelRun0_A.sl.v99 c arg1 harg1 arg2 harg2 arg3 harg3 arg10 arg11 x0 x1 x2 = slab (rowsFrom noHalo (Pslot (rowsA c arg1 harg1 arg2 harg2 arg11 x0 x1) x2) 0 7 (by decide)) 0 :=
  loadA0 c arg1 harg1 arg2 harg2 arg3 harg3 arg10 arg11 x0 x1 x2 0 7 (by decide) (by decide) inb_S3x8x264x128_S1x1x256x128_0_0_7_0

theorem v101A : kernelRun0_A.sl.v101 c arg1 harg1 arg2 harg2 arg3 harg3 arg10 arg11 x0 x1 x2 = slab (rowsFrom noHalo (Pslot (rowsA c arg1 harg1 arg2 harg2 arg11 x0 x1) x2) 0 7 (by decide)) 1 :=
  loadA0 c arg1 harg1 arg2 harg2 arg3 harg3 arg10 arg11 x0 x1 x2 1 7 (by decide) (by decide) inb_S3x8x264x128_S1x1x256x128_0_1_7_0

theorem v103A : kernelRun0_A.sl.v103 c arg1 harg1 arg2 harg2 arg3 harg3 arg10 arg11 x0 x1 x2 = slab (rowsFrom noHalo (Pslot (rowsA c arg1 harg1 arg2 harg2 arg11 x0 x1) x2) 0 7 (by decide)) 2 :=
  loadA0 c arg1 harg1 arg2 harg2 arg3 harg3 arg10 arg11 x0 x1 x2 2 7 (by decide) (by decide) inb_S3x8x264x128_S1x1x256x128_0_2_7_0

theorem v105A : kernelRun0_A.sl.v105 c arg1 harg1 arg2 harg2 arg3 harg3 arg10 arg11 x0 x1 x2 = slab (rowsFrom noHalo (Pslot (rowsA c arg1 harg1 arg2 harg2 arg11 x0 x1) x2) 0 7 (by decide)) 3 :=
  loadA0 c arg1 harg1 arg2 harg2 arg3 harg3 arg10 arg11 x0 x1 x2 3 7 (by decide) (by decide) inb_S3x8x264x128_S1x1x256x128_0_3_7_0

theorem v107A : kernelRun0_A.sl.v107 c arg1 harg1 arg2 harg2 arg3 harg3 arg10 arg11 x0 x1 x2 = slab (rowsFrom noHalo (Pslot (rowsA c arg1 harg1 arg2 harg2 arg11 x0 x1) x2) 0 7 (by decide)) 4 :=
  loadA0 c arg1 harg1 arg2 harg2 arg3 harg3 arg10 arg11 x0 x1 x2 4 7 (by decide) (by decide) inb_S3x8x264x128_S1x1x256x128_0_4_7_0

theorem v109A : kernelRun0_A.sl.v109 c arg1 harg1 arg2 harg2 arg3 harg3 arg10 arg11 x0 x1 x2 = slab (rowsFrom noHalo (Pslot (rowsA c arg1 harg1 arg2 harg2 arg11 x0 x1) x2) 0 7 (by decide)) 5 :=
  loadA0 c arg1 harg1 arg2 harg2 arg3 harg3 arg10 arg11 x0 x1 x2 5 7 (by decide) (by decide) inb_S3x8x264x128_S1x1x256x128_0_5_7_0

theorem v111A : kernelRun0_A.sl.v111 c arg1 harg1 arg2 harg2 arg3 harg3 arg10 arg11 x0 x1 x2 = slab (rowsFrom noHalo (Pslot (rowsA c arg1 harg1 arg2 harg2 arg11 x0 x1) x2) 0 7 (by decide)) 6 :=
  loadA0 c arg1 harg1 arg2 harg2 arg3 harg3 arg10 arg11 x0 x1 x2 6 7 (by decide) (by decide) inb_S3x8x264x128_S1x1x256x128_0_6_7_0

theorem v113A : kernelRun0_A.sl.v113 c arg1 harg1 arg2 harg2 arg3 harg3 arg10 arg11 x0 x1 x2 = slab (rowsFrom noHalo (Pslot (rowsA c arg1 harg1 arg2 harg2 arg11 x0 x1) x2) 0 7 (by decide)) 7 :=
  loadA0 c arg1 harg1 arg2 harg2 arg3 harg3 arg10 arg11 x0 x1 x2 7 7 (by decide) (by decide) inb_S3x8x264x128_S1x1x256x128_0_7_7_0

theorem v120A : kernelRun0_A.sl.v120 c arg1 harg1 arg2 harg2 arg3 harg3 arg10 arg11 x0 x1 x2 = slab (rowsFrom noHalo (Pslot (rowsA c arg1 harg1 arg2 harg2 arg11 x0 x1) x2) 0 8 (by decide)) 0 :=
  loadA0 c arg1 harg1 arg2 harg2 arg3 harg3 arg10 arg11 x0 x1 x2 0 8 (by decide) (by decide) inb_S3x8x264x128_S1x1x256x128_0_0_8_0

theorem v122A : kernelRun0_A.sl.v122 c arg1 harg1 arg2 harg2 arg3 harg3 arg10 arg11 x0 x1 x2 = slab (rowsFrom noHalo (Pslot (rowsA c arg1 harg1 arg2 harg2 arg11 x0 x1) x2) 0 8 (by decide)) 1 :=
  loadA0 c arg1 harg1 arg2 harg2 arg3 harg3 arg10 arg11 x0 x1 x2 1 8 (by decide) (by decide) inb_S3x8x264x128_S1x1x256x128_0_1_8_0

theorem v124A : kernelRun0_A.sl.v124 c arg1 harg1 arg2 harg2 arg3 harg3 arg10 arg11 x0 x1 x2 = slab (rowsFrom noHalo (Pslot (rowsA c arg1 harg1 arg2 harg2 arg11 x0 x1) x2) 0 8 (by decide)) 2 :=
  loadA0 c arg1 harg1 arg2 harg2 arg3 harg3 arg10 arg11 x0 x1 x2 2 8 (by decide) (by decide) inb_S3x8x264x128_S1x1x256x128_0_2_8_0

theorem v126A : kernelRun0_A.sl.v126 c arg1 harg1 arg2 harg2 arg3 harg3 arg10 arg11 x0 x1 x2 = slab (rowsFrom noHalo (Pslot (rowsA c arg1 harg1 arg2 harg2 arg11 x0 x1) x2) 0 8 (by decide)) 3 :=
  loadA0 c arg1 harg1 arg2 harg2 arg3 harg3 arg10 arg11 x0 x1 x2 3 8 (by decide) (by decide) inb_S3x8x264x128_S1x1x256x128_0_3_8_0

theorem v128A : kernelRun0_A.sl.v128 c arg1 harg1 arg2 harg2 arg3 harg3 arg10 arg11 x0 x1 x2 = slab (rowsFrom noHalo (Pslot (rowsA c arg1 harg1 arg2 harg2 arg11 x0 x1) x2) 0 8 (by decide)) 4 :=
  loadA0 c arg1 harg1 arg2 harg2 arg3 harg3 arg10 arg11 x0 x1 x2 4 8 (by decide) (by decide) inb_S3x8x264x128_S1x1x256x128_0_4_8_0

theorem v130A : kernelRun0_A.sl.v130 c arg1 harg1 arg2 harg2 arg3 harg3 arg10 arg11 x0 x1 x2 = slab (rowsFrom noHalo (Pslot (rowsA c arg1 harg1 arg2 harg2 arg11 x0 x1) x2) 0 8 (by decide)) 5 :=
  loadA0 c arg1 harg1 arg2 harg2 arg3 harg3 arg10 arg11 x0 x1 x2 5 8 (by decide) (by decide) inb_S3x8x264x128_S1x1x256x128_0_5_8_0

theorem v132A : kernelRun0_A.sl.v132 c arg1 harg1 arg2 harg2 arg3 harg3 arg10 arg11 x0 x1 x2 = slab (rowsFrom noHalo (Pslot (rowsA c arg1 harg1 arg2 harg2 arg11 x0 x1) x2) 0 8 (by decide)) 6 :=
  loadA0 c arg1 harg1 arg2 harg2 arg3 harg3 arg10 arg11 x0 x1 x2 6 8 (by decide) (by decide) inb_S3x8x264x128_S1x1x256x128_0_6_8_0

theorem v134A : kernelRun0_A.sl.v134 c arg1 harg1 arg2 harg2 arg3 harg3 arg10 arg11 x0 x1 x2 = slab (rowsFrom noHalo (Pslot (rowsA c arg1 harg1 arg2 harg2 arg11 x0 x1) x2) 0 8 (by decide)) 7 :=
  loadA0 c arg1 harg1 arg2 harg2 arg3 harg3 arg10 arg11 x0 x1 x2 7 8 (by decide) (by decide) inb_S3x8x264x128_S1x1x256x128_0_7_8_0

theorem v196A : kernelRun0_A.sl.v196 c arg1 harg1 arg2 harg2 arg3 harg3 arg10 arg11 x0 x1 x2 = slab (rowsFrom noHalo (Pslot (rowsA c arg1 harg1 arg2 harg2 arg11 x0 x1) x2) 1 5 (by decide)) 0 :=
  loadA1 c arg1 harg1 arg2 harg2 arg3 harg3 arg10 arg11 x0 x1 x2 0 5 (by decide) (by decide) inb_S3x8x264x128_S1x1x256x128_1_0_5_0

theorem v198A : kernelRun0_A.sl.v198 c arg1 harg1 arg2 harg2 arg3 harg3 arg10 arg11 x0 x1 x2 = slab (rowsFrom noHalo (Pslot (rowsA c arg1 harg1 arg2 harg2 arg11 x0 x1) x2) 1 5 (by decide)) 1 :=
  loadA1 c arg1 harg1 arg2 harg2 arg3 harg3 arg10 arg11 x0 x1 x2 1 5 (by decide) (by decide) inb_S3x8x264x128_S1x1x256x128_1_1_5_0

theorem v200A : kernelRun0_A.sl.v200 c arg1 harg1 arg2 harg2 arg3 harg3 arg10 arg11 x0 x1 x2 = slab (rowsFrom noHalo (Pslot (rowsA c arg1 harg1 arg2 harg2 arg11 x0 x1) x2) 1 5 (by decide)) 2 :=
  loadA1 c arg1 harg1 arg2 harg2 arg3 harg3 arg10 arg11 x0 x1 x2 2 5 (by decide) (by decide) inb_S3x8x264x128_S1x1x256x128_1_2_5_0

theorem v202A : kernelRun0_A.sl.v202 c arg1 harg1 arg2 harg2 arg3 harg3 arg10 arg11 x0 x1 x2 = slab (rowsFrom noHalo (Pslot (rowsA c arg1 harg1 arg2 harg2 arg11 x0 x1) x2) 1 5 (by decide)) 3 :=
  loadA1 c arg1 harg1 arg2 harg2 arg3 harg3 arg10 arg11 x0 x1 x2 3 5 (by decide) (by decide) inb_S3x8x264x128_S1x1x256x128_1_3_5_0

theorem v204A : kernelRun0_A.sl.v204 c arg1 harg1 arg2 harg2 arg3 harg3 arg10 arg11 x0 x1 x2 = slab (rowsFrom noHalo (Pslot (rowsA c arg1 harg1 arg2 harg2 arg11 x0 x1) x2) 1 5 (by decide)) 4 :=
  loadA1 c arg1 harg1 arg2 harg2 arg3 harg3 arg10 arg11 x0 x1 x2 4 5 (by decide) (by decide) inb_S3x8x264x128_S1x1x256x128_1_4_5_0

theorem v206A : kernelRun0_A.sl.v206 c arg1 harg1 arg2 harg2 arg3 harg3 arg10 arg11 x0 x1 x2 = slab (rowsFrom noHalo (Pslot (rowsA c arg1 harg1 arg2 harg2 arg11 x0 x1) x2) 1 5 (by decide)) 5 :=
  loadA1 c arg1 harg1 arg2 harg2 arg3 harg3 arg10 arg11 x0 x1 x2 5 5 (by decide) (by decide) inb_S3x8x264x128_S1x1x256x128_1_5_5_0

theorem v208A : kernelRun0_A.sl.v208 c arg1 harg1 arg2 harg2 arg3 harg3 arg10 arg11 x0 x1 x2 = slab (rowsFrom noHalo (Pslot (rowsA c arg1 harg1 arg2 harg2 arg11 x0 x1) x2) 1 5 (by decide)) 6 :=
  loadA1 c arg1 harg1 arg2 harg2 arg3 harg3 arg10 arg11 x0 x1 x2 6 5 (by decide) (by decide) inb_S3x8x264x128_S1x1x256x128_1_6_5_0

theorem v210A : kernelRun0_A.sl.v210 c arg1 harg1 arg2 harg2 arg3 harg3 arg10 arg11 x0 x1 x2 = slab (rowsFrom noHalo (Pslot (rowsA c arg1 harg1 arg2 harg2 arg11 x0 x1) x2) 1 5 (by decide)) 7 :=
  loadA1 c arg1 harg1 arg2 harg2 arg3 harg3 arg10 arg11 x0 x1 x2 7 5 (by decide) (by decide) inb_S3x8x264x128_S1x1x256x128_1_7_5_0

theorem v216A : kernelRun0_A.sl.v216 c arg1 harg1 arg2 harg2 arg3 harg3 arg10 arg11 x0 x1 x2 = slab (rowsFrom noHalo (Pslot (rowsA c arg1 harg1 arg2 harg2 arg11 x0 x1) x2) 1 6 (by decide)) 0 :=
  loadA1 c arg1 harg1 arg2 harg2 arg3 harg3 arg10 arg11 x0 x1 x2 0 6 (by decide) (by decide) inb_S3x8x264x128_S1x1x256x128_1_0_6_0

theorem v218A : kernelRun0_A.sl.v218 c arg1 harg1 arg2 harg2 arg3 harg3 arg10 arg11 x0 x1 x2 = slab (rowsFrom noHalo (Pslot (rowsA c arg1 harg1 arg2 harg2 arg11 x0 x1) x2) 1 6 (by decide)) 1 :=
  loadA1 c arg1 harg1 arg2 harg2 arg3 harg3 arg10 arg11 x0 x1 x2 1 6 (by decide) (by decide) inb_S3x8x264x128_S1x1x256x128_1_1_6_0

theorem v220A : kernelRun0_A.sl.v220 c arg1 harg1 arg2 harg2 arg3 harg3 arg10 arg11 x0 x1 x2 = slab (rowsFrom noHalo (Pslot (rowsA c arg1 harg1 arg2 harg2 arg11 x0 x1) x2) 1 6 (by decide)) 2 :=
  loadA1 c arg1 harg1 arg2 harg2 arg3 harg3 arg10 arg11 x0 x1 x2 2 6 (by decide) (by decide) inb_S3x8x264x128_S1x1x256x128_1_2_6_0

theorem v222A : kernelRun0_A.sl.v222 c arg1 harg1 arg2 harg2 arg3 harg3 arg10 arg11 x0 x1 x2 = slab (rowsFrom noHalo (Pslot (rowsA c arg1 harg1 arg2 harg2 arg11 x0 x1) x2) 1 6 (by decide)) 3 :=
  loadA1 c arg1 harg1 arg2 harg2 arg3 harg3 arg10 arg11 x0 x1 x2 3 6 (by decide) (by decide) inb_S3x8x264x128_S1x1x256x128_1_3_6_0

theorem v224A : kernelRun0_A.sl.v224 c arg1 harg1 arg2 harg2 arg3 harg3 arg10 arg11 x0 x1 x2 = slab (rowsFrom noHalo (Pslot (rowsA c arg1 harg1 arg2 harg2 arg11 x0 x1) x2) 1 6 (by decide)) 4 :=
  loadA1 c arg1 harg1 arg2 harg2 arg3 harg3 arg10 arg11 x0 x1 x2 4 6 (by decide) (by decide) inb_S3x8x264x128_S1x1x256x128_1_4_6_0

theorem v226A : kernelRun0_A.sl.v226 c arg1 harg1 arg2 harg2 arg3 harg3 arg10 arg11 x0 x1 x2 = slab (rowsFrom noHalo (Pslot (rowsA c arg1 harg1 arg2 harg2 arg11 x0 x1) x2) 1 6 (by decide)) 5 :=
  loadA1 c arg1 harg1 arg2 harg2 arg3 harg3 arg10 arg11 x0 x1 x2 5 6 (by decide) (by decide) inb_S3x8x264x128_S1x1x256x128_1_5_6_0

theorem v228A : kernelRun0_A.sl.v228 c arg1 harg1 arg2 harg2 arg3 harg3 arg10 arg11 x0 x1 x2 = slab (rowsFrom noHalo (Pslot (rowsA c arg1 harg1 arg2 harg2 arg11 x0 x1) x2) 1 6 (by decide)) 6 :=
  loadA1 c arg1 harg1 arg2 harg2 arg3 harg3 arg10 arg11 x0 x1 x2 6 6 (by decide) (by decide) inb_S3x8x264x128_S1x1x256x128_1_6_6_0

theorem v230A : kernelRun0_A.sl.v230 c arg1 harg1 arg2 harg2 arg3 harg3 arg10 arg11 x0 x1 x2 = slab (rowsFrom noHalo (Pslot (rowsA c arg1 harg1 arg2 harg2 arg11 x0 x1) x2) 1 6 (by decide)) 7 :=
  loadA1 c arg1 harg1 arg2 harg2 arg3 harg3 arg10 arg11 x0 x1 x2 7 6 (by decide) (by decide) inb_S3x8x264x128_S1x1x256x128_1_7_6_0

theorem v237A : kernelRun0_A.sl.v237 c arg1 harg1 arg2 harg2 arg3 harg3 arg10 arg11 x0 x1 x2 = slab (rowsFrom noHalo (Pslot (rowsA c arg1 harg1 arg2 harg2 arg11 x0 x1) x2) 1 7 (by decide)) 0 :=
  loadA1 c arg1 harg1 arg2 harg2 arg3 harg3 arg10 arg11 x0 x1 x2 0 7 (by decide) (by decide) inb_S3x8x264x128_S1x1x256x128_1_0_7_0

theorem v239A : kernelRun0_A.sl.v239 c arg1 harg1 arg2 harg2 arg3 harg3 arg10 arg11 x0 x1 x2 = slab (rowsFrom noHalo (Pslot (rowsA c arg1 harg1 arg2 harg2 arg11 x0 x1) x2) 1 7 (by decide)) 1 :=
  loadA1 c arg1 harg1 arg2 harg2 arg3 harg3 arg10 arg11 x0 x1 x2 1 7 (by decide) (by decide) inb_S3x8x264x128_S1x1x256x128_1_1_7_0

theorem v241A : kernelRun0_A.sl.v241 c arg1 harg1 arg2 harg2 arg3 harg3 arg10 arg11 x0 x1 x2 = slab (rowsFrom noHalo (Pslot (rowsA c arg1 harg1 arg2 harg2 arg11 x0 x1) x2) 1 7 (by decide)) 2 :=
  loadA1 c arg1 harg1 arg2 harg2 arg3 harg3 arg10 arg11 x0 x1 x2 2 7 (by decide) (by decide) inb_S3x8x264x128_S1x1x256x128_1_2_7_0

theorem v243A : kernelRun0_A.sl.v243 c arg1 harg1 arg2 harg2 arg3 harg3 arg10 arg11 x0 x1 x2 = slab (rowsFrom noHalo (Pslot (rowsA c arg1 harg1 arg2 harg2 arg11 x0 x1) x2) 1 7 (by decide)) 3 :=
  loadA1 c arg1 harg1 arg2 harg2 arg3 harg3 arg10 arg11 x0 x1 x2 3 7 (by decide) (by decide) inb_S3x8x264x128_S1x1x256x128_1_3_7_0

theorem v245A : kernelRun0_A.sl.v245 c arg1 harg1 arg2 harg2 arg3 harg3 arg10 arg11 x0 x1 x2 = slab (rowsFrom noHalo (Pslot (rowsA c arg1 harg1 arg2 harg2 arg11 x0 x1) x2) 1 7 (by decide)) 4 :=
  loadA1 c arg1 harg1 arg2 harg2 arg3 harg3 arg10 arg11 x0 x1 x2 4 7 (by decide) (by decide) inb_S3x8x264x128_S1x1x256x128_1_4_7_0

theorem v247A : kernelRun0_A.sl.v247 c arg1 harg1 arg2 harg2 arg3 harg3 arg10 arg11 x0 x1 x2 = slab (rowsFrom noHalo (Pslot (rowsA c arg1 harg1 arg2 harg2 arg11 x0 x1) x2) 1 7 (by decide)) 5 :=
  loadA1 c arg1 harg1 arg2 harg2 arg3 harg3 arg10 arg11 x0 x1 x2 5 7 (by decide) (by decide) inb_S3x8x264x128_S1x1x256x128_1_5_7_0

theorem v249A : kernelRun0_A.sl.v249 c arg1 harg1 arg2 harg2 arg3 harg3 arg10 arg11 x0 x1 x2 = slab (rowsFrom noHalo (Pslot (rowsA c arg1 harg1 arg2 harg2 arg11 x0 x1) x2) 1 7 (by decide)) 6 :=
  loadA1 c arg1 harg1 arg2 harg2 arg3 harg3 arg10 arg11 x0 x1 x2 6 7 (by decide) (by decide) inb_S3x8x264x128_S1x1x256x128_1_6_7_0

theorem v251A : kernelRun0_A.sl.v251 c arg1 harg1 arg2 harg2 arg3 harg3 arg10 arg11 x0 x1 x2 = slab (rowsFrom noHalo (Pslot (rowsA c arg1 harg1 arg2 harg2 arg11 x0 x1) x2) 1 7 (by decide)) 7 :=
  loadA1 c arg1 harg1 arg2 harg2 arg3 harg3 arg10 arg11 x0 x1 x2 7 7 (by decide) (by decide) inb_S3x8x264x128_S1x1x256x128_1_7_7_0

theorem v258A : kernelRun0_A.sl.v258 c arg1 harg1 arg2 harg2 arg3 harg3 arg10 arg11 x0 x1 x2 = slab (rowsFrom noHalo (Pslot (rowsA c arg1 harg1 arg2 harg2 arg11 x0 x1) x2) 1 8 (by decide)) 0 :=
  loadA1 c arg1 harg1 arg2 harg2 arg3 harg3 arg10 arg11 x0 x1 x2 0 8 (by decide) (by decide) inb_S3x8x264x128_S1x1x256x128_1_0_8_0

theorem v260A : kernelRun0_A.sl.v260 c arg1 harg1 arg2 harg2 arg3 harg3 arg10 arg11 x0 x1 x2 = slab (rowsFrom noHalo (Pslot (rowsA c arg1 harg1 arg2 harg2 arg11 x0 x1) x2) 1 8 (by decide)) 1 :=
  loadA1 c arg1 harg1 arg2 harg2 arg3 harg3 arg10 arg11 x0 x1 x2 1 8 (by decide) (by decide) inb_S3x8x264x128_S1x1x256x128_1_1_8_0

theorem v262A : kernelRun0_A.sl.v262 c arg1 harg1 arg2 harg2 arg3 harg3 arg10 arg11 x0 x1 x2 = slab (rowsFrom noHalo (Pslot (rowsA c arg1 harg1 arg2 harg2 arg11 x0 x1) x2) 1 8 (by decide)) 2 :=
  loadA1 c arg1 harg1 arg2 harg2 arg3 harg3 arg10 arg11 x0 x1 x2 2 8 (by decide) (by decide) inb_S3x8x264x128_S1x1x256x128_1_2_8_0

theorem v264A : kernelRun0_A.sl.v264 c arg1 harg1 arg2 harg2 arg3 harg3 arg10 arg11 x0 x1 x2 = slab (rowsFrom noHalo (Pslot (rowsA c arg1 harg1 arg2 harg2 arg11 x0 x1) x2) 1 8 (by decide)) 3 :=
  loadA1 c arg1 harg1 arg2 harg2 arg3 harg3 arg10 arg11 x0 x1 x2 3 8 (by decide) (by decide) inb_S3x8x264x128_S1x1x256x128_1_3_8_0

theorem v266A : kernelRun0_A.sl.v266 c arg1 harg1 arg2 harg2 arg3 harg3 arg10 arg11 x0 x1 x2 = slab (rowsFrom noHalo (Pslot (rowsA c arg1 harg1 arg2 harg2 arg11 x0 x1) x2) 1 8 (by decide)) 4 :=
  loadA1 c arg1 harg1 arg2 harg2 arg3 harg3 arg10 arg11 x0 x1 x2 4 8 (by decide) (by decide) inb_S3x8x264x128_S1x1x256x128_1_4_8_0

theorem v268A : kernelRun0_A.sl.v268 c arg1 harg1 arg2 harg2 arg3 harg3 arg10 arg11 x0 x1 x2 = slab (rowsFrom noHalo (Pslot (rowsA c arg1 harg1 arg2 harg2 arg11 x0 x1) x2) 1 8 (by decide)) 5 :=
  loadA1 c arg1 harg1 arg2 harg2 arg3 harg3 arg10 arg11 x0 x1 x2 5 8 (by decide) (by decide) inb_S3x8x264x128_S1x1x256x128_1_5_8_0

theorem v270A : kernelRun0_A.sl.v270 c arg1 harg1 arg2 harg2 arg3 harg3 arg10 arg11 x0 x1 x2 = slab (rowsFrom noHalo (Pslot (rowsA c arg1 harg1 arg2 harg2 arg11 x0 x1) x2) 1 8 (by decide)) 6 :=
  loadA1 c arg1 harg1 arg2 harg2 arg3 harg3 arg10 arg11 x0 x1 x2 6 8 (by decide) (by decide) inb_S3x8x264x128_S1x1x256x128_1_6_8_0

theorem v272A : kernelRun0_A.sl.v272 c arg1 harg1 arg2 harg2 arg3 harg3 arg10 arg11 x0 x1 x2 = slab (rowsFrom noHalo (Pslot (rowsA c arg1 harg1 arg2 harg2 arg11 x0 x1) x2) 1 8 (by decide)) 7 :=
  loadA1 c arg1 harg1 arg2 harg2 arg3 harg3 arg10 arg11 x0 x1 x2 7 8 (by decide) (by decide) inb_S3x8x264x128_S1x1x256x128_1_7_8_0

theorem v325A : kernelRun0_A.sl.v325 c arg1 harg1 arg2 harg2 arg3 harg3 arg10 arg11 x0 x1 x2 = slab (rowsFrom noHalo (Pslot (rowsA c arg1 harg1 arg2 harg2 arg11 x0 x1) x2) 2 5 (by decide)) 0 :=
  loadA2 c arg1 harg1 arg2 harg2 arg3 harg3 arg10 arg11 x0 x1 x2 0 5 (by decide) (by decide) inb_S3x8x264x128_S1x1x256x128_2_0_5_0

theorem v327A : kernelRun0_A.sl.v327 c arg1 harg1 arg2 harg2 arg3 harg3 arg10 arg11 x0 x1 x2 = slab (rowsFrom noHalo (Pslot (rowsA c arg1 harg1 arg2 harg2 arg11 x0 x1) x2) 2 5 (by decide)) 1 :=
  loadA2 c arg1 harg1 arg2 harg2 arg3 harg3 arg10 arg11 x0 x1 x2 1 5 (by decide) (by decide) inb_S3x8x264x128_S1x1x256x128_2_1_5_0

theorem v329A : kernelRun0_A.sl.v329 c arg1 harg1 arg2 harg2 arg3 harg3 arg10 arg11 x0 x1 x2 = slab (rowsFrom noHalo (Pslot (rowsA c arg1 harg1 arg2 harg2 arg11 x0 x1) x2) 2 5 (by decide)) 2 :=
  loadA2 c arg1 harg1 arg2 harg2 arg3 harg3 arg10 arg11 x0 x1 x2 2 5 (by decide) (by decide) inb_S3x8x264x128_S1x1x256x128_2_2_5_0

theorem v331A : kernelRun0_A.sl.v331 c arg1 harg1 arg2 harg2 arg3 harg3 arg10 arg11 x0 x1 x2 = slab (rowsFrom noHalo (Pslot (rowsA c arg1 harg1 arg2 harg2 arg11 x0 x1) x2) 2 5 (by decide)) 3 :=
  loadA2 c arg1 harg1 arg2 harg2 arg3 harg3 arg10 arg11 x0 x1 x2 3 5 (by decide) (by decide) inb_S3x8x264x128_S1x1x256x128_2_3_5_0

theorem v333A : kernelRun0_A.sl.v333 c arg1 harg1 arg2 harg2 arg3 harg3 arg10 arg11 x0 x1 x2 = slab (rowsFrom noHalo (Pslot (rowsA c arg1 harg1 arg2 harg2 arg11 x0 x1) x2) 2 5 (by decide)) 4 :=
  loadA2 c arg1 harg1 arg2 harg2 arg3 harg3 arg10 arg11 x0 x1 x2 4 5 (by decide) (by decide) inb_S3x8x264x128_S1x1x256x128_2_4_5_0

theorem v335A : kernelRun0_A.sl.v335 c arg1 harg1 arg2 harg2 arg3 harg3 arg10 arg11 x0 x1 x2 = slab (rowsFrom noHalo (Pslot (rowsA c arg1 harg1 arg2 harg2 arg11 x0 x1) x2) 2 5 (by decide)) 5 :=
  loadA2 c arg1 harg1 arg2 harg2 arg3 harg3 arg10 arg11 x0 x1 x2 5 5 (by decide) (by decide) inb_S3x8x264x128_S1x1x256x128_2_5_5_0

theorem v337A : kernelRun0_A.sl.v337 c arg1 harg1 arg2 harg2 arg3 harg3 arg10 arg11 x0 x1 x2 = slab (rowsFrom noHalo (Pslot (rowsA c arg1 harg1 arg2 harg2 arg11 x0 x1) x2) 2 5 (by decide)) 6 :=
  loadA2 c arg1 harg1 arg2 harg2 arg3 harg3 arg10 arg11 x0 x1 x2 6 5 (by decide) (by decide) inb_S3x8x264x128_S1x1x256x128_2_6_5_0

theorem v339A : kernelRun0_A.sl.v339 c arg1 harg1 arg2 harg2 arg3 harg3 arg10 arg11 x0 x1 x2 = slab (rowsFrom noHalo (Pslot (rowsA c arg1 harg1 arg2 harg2 arg11 x0 x1) x2) 2 5 (by decide)) 7 :=
  loadA2 c arg1 harg1 arg2 harg2 arg3 harg3 arg10 arg11 x0 x1 x2 7 5 (by decide) (by decide) inb_S3x8x264x128_S1x1x256x128_2_7_5_0

theorem v345A : kernelRun0_A.sl.v345 c arg1 harg1 arg2 harg2 arg3 harg3 arg10 arg11 x0 x1 x2 = slab (rowsFrom noHalo (Pslot (rowsA c arg1 harg1 arg2 harg2 arg11 x0 x1) x2) 2 6 (by decide)) 0 :=
  loadA2 c arg1 harg1 arg2 harg2 arg3 harg3 arg10 arg11 x0 x1 x2 0 6 (by decide) (by decide) inb_S3x8x264x128_S1x1x256x128_2_0_6_0

theorem v347A : kernelRun0_A.sl.v347 c arg1 harg1 arg2 harg2 arg3 harg3 arg10 arg11 x0 x1 x2 = slab (rowsFrom noHalo (Pslot (rowsA c arg1 harg1 arg2 harg2 arg11 x0 x1) x2) 2 6 (by decide)) 1 :=
  loadA2 c arg1 harg1 arg2 harg2 arg3 harg3 arg10 arg11 x0 x1 x2 1 6 (by decide) (by decide) inb_S3x8x264x128_S1x1x256x128_2_1_6_0

theorem v349A : kernelRun0_A.sl.v349 c arg1 harg1 arg2 harg2 arg3 harg3 arg10 arg11 x0 x1 x2 = slab (rowsFrom noHalo (Pslot (rowsA c arg1 harg1 arg2 harg2 arg11 x0 x1) x2) 2 6 (by decide)) 2 :=
  loadA2 c arg1 harg1 arg2 harg2 arg3 harg3 arg10 arg11 x0 x1 x2 2 6 (by decide) (by decide) inb_S3x8x264x128_S1x1x256x128_2_2_6_0

theorem v351A : kernelRun0_A.sl.v351 c arg1 harg1 arg2 harg2 arg3 harg3 arg10 arg11 x0 x1 x2 = slab (rowsFrom noHalo (Pslot (rowsA c arg1 harg1 arg2 harg2 arg11 x0 x1) x2) 2 6 (by decide)) 3 :=
  loadA2 c arg1 harg1 arg2 harg2 arg3 harg3 arg10 arg11 x0 x1 x2 3 6 (by decide) (by decide) inb_S3x8x264x128_S1x1x256x128_2_3_6_0

theorem v353A : kernelRun0_A.sl.v353 c arg1 harg1 arg2 harg2 arg3 harg3 arg10 arg11 x0 x1 x2 = slab (rowsFrom noHalo (Pslot (rowsA c arg1 harg1 arg2 harg2 arg11 x0 x1) x2) 2 6 (by decide)) 4 :=
  loadA2 c arg1 harg1 arg2 harg2 arg3 harg3 arg10 arg11 x0 x1 x2 4 6 (by decide) (by decide) inb_S3x8x264x128_S1x1x256x128_2_4_6_0

theorem v355A : kernelRun0_A.sl.v355 c arg1 harg1 arg2 harg2 arg3 harg3 arg10 arg11 x0 x1 x2 = slab (rowsFrom noHalo (Pslot (rowsA c arg1 harg1 arg2 harg2 arg11 x0 x1) x2) 2 6 (by decide)) 5 :=
  loadA2 c arg1 harg1 arg2 harg2 arg3 harg3 arg10 arg11 x0 x1 x2 5 6 (by decide) (by decide) inb_S3x8x264x128_S1x1x256x128_2_5_6_0

theorem v357A : kernelRun0_A.sl.v357 c arg1 harg1 arg2 harg2 arg3 harg3 arg10 arg11 x0 x1 x2 = slab (rowsFrom noHalo (Pslot (rowsA c arg1 harg1 arg2 harg2 arg11 x0 x1) x2) 2 6 (by decide)) 6 :=
  loadA2 c arg1 harg1 arg2 harg2 arg3 harg3 arg10 arg11 x0 x1 x2 6 6 (by decide) (by decide) inb_S3x8x264x128_S1x1x256x128_2_6_6_0

theorem v359A : kernelRun0_A.sl.v359 c arg1 harg1 arg2 harg2 arg3 harg3 arg10 arg11 x0 x1 x2 = slab (rowsFrom noHalo (Pslot (rowsA c arg1 harg1 arg2 harg2 arg11 x0 x1) x2) 2 6 (by decide)) 7 :=
  loadA2 c arg1 harg1 arg2 harg2 arg3 harg3 arg10 arg11 x0 x1 x2 7 6 (by decide) (by decide) inb_S3x8x264x128_S1x1x256x128_2_7_6_0

theorem v366A : kernelRun0_A.sl.v366 c arg1 harg1 arg2 harg2 arg3 harg3 arg10 arg11 x0 x1 x2 = slab (rowsFrom noHalo (Pslot (rowsA c arg1 harg1 arg2 harg2 arg11 x0 x1) x2) 2 7 (by decide)) 0 :=
  loadA2 c arg1 harg1 arg2 harg2 arg3 harg3 arg10 arg11 x0 x1 x2 0 7 (by decide) (by decide) inb_S3x8x264x128_S1x1x256x128_2_0_7_0

theorem v368A : kernelRun0_A.sl.v368 c arg1 harg1 arg2 harg2 arg3 harg3 arg10 arg11 x0 x1 x2 = slab (rowsFrom noHalo (Pslot (rowsA c arg1 harg1 arg2 harg2 arg11 x0 x1) x2) 2 7 (by decide)) 1 :=
  loadA2 c arg1 harg1 arg2 harg2 arg3 harg3 arg10 arg11 x0 x1 x2 1 7 (by decide) (by decide) inb_S3x8x264x128_S1x1x256x128_2_1_7_0

theorem v370A : kernelRun0_A.sl.v370 c arg1 harg1 arg2 harg2 arg3 harg3 arg10 arg11 x0 x1 x2 = slab (rowsFrom noHalo (Pslot (rowsA c arg1 harg1 arg2 harg2 arg11 x0 x1) x2) 2 7 (by decide)) 2 :=
  loadA2 c arg1 harg1 arg2 harg2 arg3 harg3 arg10 arg11 x0 x1 x2 2 7 (by decide) (by decide) inb_S3x8x264x128_S1x1x256x128_2_2_7_0

theorem v372A : kernelRun0_A.sl.v372 c arg1 harg1 arg2 harg2 arg3 harg3 arg10 arg11 x0 x1 x2 = slab (rowsFrom noHalo (Pslot (rowsA c arg1 harg1 arg2 harg2 arg11 x0 x1) x2) 2 7 (by decide)) 3 :=
  loadA2 c arg1 harg1 arg2 harg2 arg3 harg3 arg10 arg11 x0 x1 x2 3 7 (by decide) (by decide) inb_S3x8x264x128_S1x1x256x128_2_3_7_0

theorem v374A : kernelRun0_A.sl.v374 c arg1 harg1 arg2 harg2 arg3 harg3 arg10 arg11 x0 x1 x2 = slab (rowsFrom noHalo (Pslot (rowsA c arg1 harg1 arg2 harg2 arg11 x0 x1) x2) 2 7 (by decide)) 4 :=
  loadA2 c arg1 harg1 arg2 harg2 arg3 harg3 arg10 arg11 x0 x1 x2 4 7 (by decide) (by decide) inb_S3x8x264x128_S1x1x256x128_2_4_7_0

theorem v376A : kernelRun0_A.sl.v376 c arg1 harg1 arg2 harg2 arg3 harg3 arg10 arg11 x0 x1 x2 = slab (rowsFrom noHalo (Pslot (rowsA c arg1 harg1 arg2 harg2 arg11 x0 x1) x2) 2 7 (by decide)) 5 :=
  loadA2 c arg1 harg1 arg2 harg2 arg3 harg3 arg10 arg11 x0 x1 x2 5 7 (by decide) (by decide) inb_S3x8x264x128_S1x1x256x128_2_5_7_0

theorem v378A : kernelRun0_A.sl.v378 c arg1 harg1 arg2 harg2 arg3 harg3 arg10 arg11 x0 x1 x2 = slab (rowsFrom noHalo (Pslot (rowsA c arg1 harg1 arg2 harg2 arg11 x0 x1) x2) 2 7 (by decide)) 6 :=
  loadA2 c arg1 harg1 arg2 harg2 arg3 harg3 arg10 arg11 x0 x1 x2 6 7 (by decide) (by decide) inb_S3x8x264x128_S1x1x256x128_2_6_7_0

theorem v380A : kernelRun0_A.sl.v380 c arg1 harg1 arg2 harg2 arg3 harg3 arg10 arg11 x0 x1 x2 = slab (rowsFrom noHalo (Pslot (rowsA c arg1 harg1 arg2 harg2 arg11 x0 x1) x2) 2 7 (by decide)) 7 :=
  loadA2 c arg1 harg1 arg2 harg2 arg3 harg3 arg10 arg11 x0 x1 x2 7 7 (by decide) (by decide) inb_S3x8x264x128_S1x1x256x128_2_7_7_0

theorem v387A : kernelRun0_A.sl.v387 c arg1 harg1 arg2 harg2 arg3 harg3 arg10 arg11 x0 x1 x2 = slab (rowsFrom noHalo (Pslot (rowsA c arg1 harg1 arg2 harg2 arg11 x0 x1) x2) 2 8 (by decide)) 0 :=
  loadA2 c arg1 harg1 arg2 harg2 arg3 harg3 arg10 arg11 x0 x1 x2 0 8 (by decide) (by decide) inb_S3x8x264x128_S1x1x256x128_2_0_8_0

theorem v389A : kernelRun0_A.sl.v389 c arg1 harg1 arg2 harg2 arg3 harg3 arg10 arg11 x0 x1 x2 = slab (rowsFrom noHalo (Pslot (rowsA c arg1 harg1 arg2 harg2 arg11 x0 x1) x2) 2 8 (by decide)) 1 :=
  loadA2 c arg1 harg1 arg2 harg2 arg3 harg3 arg10 arg11 x0 x1 x2 1 8 (by decide) (by decide) inb_S3x8x264x128_S1x1x256x128_2_1_8_0

theorem v391A : kernelRun0_A.sl.v391 c arg1 harg1 arg2 harg2 arg3 harg3 arg10 arg11 x0 x1 x2 = slab (rowsFrom noHalo (Pslot (rowsA c arg1 harg1 arg2 harg2 arg11 x0 x1) x2) 2 8 (by decide)) 2 :=
  loadA2 c arg1 harg1 arg2 harg2 arg3 harg3 arg10 arg11 x0 x1 x2 2 8 (by decide) (by decide) inb_S3x8x264x128_S1x1x256x128_2_2_8_0

theorem v393A : kernelRun0_A.sl.v393 c arg1 harg1 arg2 harg2 arg3 harg3 arg10 arg11 x0 x1 x2 = slab (rowsFrom noHalo (Pslot (rowsA c arg1 harg1 arg2 harg2 arg11 x0 x1) x2) 2 8 (by decide)) 3 :=
  loadA2 c arg1 harg1 arg2 harg2 arg3 harg3 arg10 arg11 x0 x1 x2 3 8 (by decide) (by decide) inb_S3x8x264x128_S1x1x256x128_2_3_8_0

theorem v395A : kernelRun0_A.sl.v395 c arg1 harg1 arg2 harg2 arg3 harg3 arg10 arg11 x0 x1 x2 = slab (rowsFrom noHalo (Pslot (rowsA c arg1 harg1 arg2 harg2 arg11 x0 x1) x2) 2 8 (by decide)) 4 :=
  loadA2 c arg1 harg1 arg2 harg2 arg3 harg3 arg10 arg11 x0 x1 x2 4 8 (by decide) (by decide) inb_S3x8x264x128_S1x1x256x128_2_4_8_0

theorem v397A : kernelRun0_A.sl.v397 c arg1 harg1 arg2 harg2 arg3 harg3 arg10 arg11 x0 x1 x2 = slab (rowsFrom noHalo (Pslot (rowsA c arg1 harg1 arg2 harg2 arg11 x0 x1) x2) 2 8 (by decide)) 5 :=
  loadA2 c arg1 harg1 arg2 harg2 arg3 harg3 arg10 arg11 x0 x1 x2 5 8 (by decide) (by decide) inb_S3x8x264x128_S1x1x256x128_2_5_8_0

theorem v399A : kernelRun0_A.sl.v399 c arg1 harg1 arg2 harg2 arg3 harg3 arg10 arg11 x0 x1 x2 = slab (rowsFrom noHalo (Pslot (rowsA c arg1 harg1 arg2 harg2 arg11 x0 x1) x2) 2 8 (by decide)) 6 :=
  loadA2 c arg1 harg1 arg2 harg2 arg3 harg3 arg10 arg11 x0 x1 x2 6 8 (by decide) (by decide) inb_S3x8x264x128_S1x1x256x128_2_6_8_0

theorem v401A : kernelRun0_A.sl.v401 c arg1 harg1 arg2 harg2 arg3 harg3 arg10 arg11 x0 x1 x2 = slab (rowsFrom noHalo (Pslot (rowsA c arg1 harg1 arg2 harg2 arg11 x0 x1) x2) 2 8 (by decide)) 7 :=
  loadA2 c arg1 harg1 arg2 harg2 arg3 harg3 arg10 arg11 x0 x1 x2 7 8 (by decide) (by decide) inb_S3x8x264x128_S1x1x256x128_2_7_8_0

/-- The point's first result. -/
theorem out7A_apply (y : S256x10240.Idx) : out0_A_7 c i arg1 harg1 arg2 harg2 arg3 harg3 arg4 harg4 arg5 harg5 arg6 harg6 arg7 harg7 arg8 harg8 arg9 harg9 arg10 harg10 arg11 harg11 hc0 hc1 x0 x1 x2 x3 x4 x5 x6 y = Uout noHalo (rowsA c arg1 harg1 arg2 harg2 arg11 x0 x1) x2 x4 x5 x6 y := by
  unfold out0_A_7
  rw [View.read_writes_junk_eq_canon]
  unfold kernelRun0_A
  dsimp only
  refine out_of_pieces noHalo (rowsA c arg1 harg1 arg2 harg2 arg11 x0 x1) x2 x4 x5 x6 _ y ?_ ?_
  · have b1 : (y 1).val < 10240 := (y 1).isLt
    obtain h | h | h | h | h | h | h | h | h | h : (y 1).val / 1024 = 9 ∨ (y 1).val / 1024 = 8 ∨ (y 1).val / 1024 = 7 ∨ (y 1).val / 1024 = 6 ∨ (y 1).val / 1024 = 5 ∨ (y 1).val / 1024 = 4 ∨ (y 1).val / 1024 = 3 ∨ (y 1).val / 1024 = 2 ∨ (y 1).val / 1024 = 1 ∨ (y 1).val / 1024 = 0 := by omega
    · exact ⟨_, .head _, col_mem 9 9216 rfl inb_S256x10240_S256x1024_0_9216 y h⟩
    · exact ⟨_, .tail _ (.head _), col_mem 8 8192 rfl inb_S256x10240_S256x1024_0_8192 y h⟩
    · exact ⟨_, .tail _ (.tail _ (.head _)), col_mem 7 7168 rfl inb_S256x10240_S256x1024_0_7168 y h⟩
    · exact ⟨_, .tail _ (.tail _ (.tail _ (.head _))), col_mem 6 6144 rfl inb_S256x10240_S256x1024_0_6144 y h⟩
    · exact ⟨_, .tail _ (.tail _ (.tail _ (.tail _ (.head _)))), col_mem 5 5120 rfl inb_S256x10240_S256x1024_0_5120 y h⟩
    · exact ⟨_, .tail _ (.tail _ (.tail _ (.tail _ (.tail _ (.head _))))), col_mem 4 4096 rfl inb_S256x10240_S256x1024_0_4096 y h⟩
    · exact ⟨_, .tail _ (.tail _ (.tail _ (.tail _ (.tail _ (.tail _ (.head _)))))), col_mem 3 3072 rfl inb_S256x10240_S256x1024_0_3072 y h⟩
    · exact ⟨_, .tail _ (.tail _ (.tail _ (.tail _ (.tail _ (.tail _ (.tail _ (.head _))))))), col_mem 2 2048 rfl inb_S256x10240_S256x1024_0_2048 y h⟩
    · exact ⟨_, .tail _ (.tail _ (.tail _ (.tail _ (.tail _ (.tail _ (.tail _ (.tail _ (.head _)))))))), col_mem 1 1024 rfl inb_S256x10240_S256x1024_0_1024 y h⟩
    · exact ⟨_, .tail _ (.tail _ (.tail _ (.tail _ (.tail _ (.tail _ (.tail _ (.tail _ (.tail _ (.head _))))))))), col_mem 0 0 rfl inb_S256x10240_S256x1024_0_0 y h⟩
  refine ⟨col_piece noHalo (rowsA c arg1 harg1 arg2 harg2 arg11 x0 x1) x2 x4 x5 x6 9 9216 rfl inb_S256x10240_S256x1024_0_9216 _ (fun r k => ?_),
    col_piece noHalo (rowsA c arg1 harg1 arg2 harg2 arg11 x0 x1) x2 x4 x5 x6 8 8192 rfl inb_S256x10240_S256x1024_0_8192 _ (fun r k => ?_),
    col_piece noHalo (rowsA c arg1 harg1 arg2 harg2 arg11 x0 x1) x2 x4 x5 x6 7 7168 rfl inb_S256x10240_S256x1024_0_7168 _ (fun r k => ?_),
    col_piece noHalo (rowsA c arg1 harg1 arg2 harg2 arg11 x0 x1) x2 x4 x5 x6 6 6144 rfl inb_S256x10240_S256x1024_0_6144 _ (fun r k => ?_),
    col_piece noHalo (rowsA c arg1 harg1 arg2 harg2 arg11 x0 x1) x2 x4 x5 x6 5 5120 rfl inb_S256x10240_S256x1024_0_5120 _ (fun r k => ?_),
    col_piece noHalo (rowsA c arg1 harg1 arg2 harg2 arg11 x0 x1) x2 x4 x5 x6 4 4096 rfl inb_S256x10240_S256x1024_0_4096 _ (fun r k => ?_),
    col_piece noHalo (rowsA c arg1 harg1 arg2 harg2 arg11 x0 x1) x2 x4 x5 x6 3 3072 rfl inb_S256x10240_S256x1024_0_3072 _ (fun r k => ?_),
    col_piece noHalo (rowsA c arg1 harg1 arg2 harg2 arg11 x0 x1) x2 x4 x5 x6 2 2048 rfl inb_S256x10240_S256x1024_0_2048 _ (fun r k => ?_),
    col_piece noHalo (rowsA c arg1 harg1 arg2 harg2 arg11 x0 x1) x2 x4 x5 x6 1 1024 rfl inb_S256x10240_S256x1024_0_1024 _ (fun r k => ?_),
    col_piece noHalo (rowsA c arg1 harg1 arg2 harg2 arg11 x0 x1) x2 x4 x5 x6 0 0 rfl inb_S256x10240_S256x1024_0_0 _ (fun r k => ?_), trivial⟩
  · unfold kernelRun0_A.sl.r_64
    refine (pay1_apply _ _ r k).trans ?_
    rw [read_cols arg3 harg3 x2 11264 (by decide)]; rfl
  · refine (pay100_apply _ _ r k).trans ?_
    rw [read_cols arg3 harg3 x2 10240 (by decide)]; rfl
  · refine (pay99_apply _ _ r k).trans ?_
    rw [read_cols arg3 harg3 x2 9216 (by decide)]; rfl
  · refine (pay98_apply _ _ r k).trans ?_
    rw [read_cols arg3 harg3 x2 8192 (by decide)]; rfl
  · refine (pay97_apply _ _ r k).trans ?_
    rw [read_cols arg3 harg3 x2 7168 (by decide)]; rfl
  · refine (pay96_apply _ _ r k).trans ?_
    rw [read_cols arg3 harg3 x2 6144 (by decide)]; rfl
  · unfold kernelRun0_A.sl.r_63 kernelRun0_A.sl.r_62 kernelRun0_A.sl.r_61 kernelRun0_A.sl.r_60 kernelRun0_A.sl.r_59 kernelRun0_A.sl.r_58 kernelRun0_A.sl.r_57 kernelRun0_A.sl.r_56 kernelRun0_A.sl.r_55 kernelRun0_A.sl.r_54 kernelRun0_A.sl.r_53 kernelRun0_A.sl.r_52 kernelRun0_A.sl.r_51 kernelRun0_A.sl.r_50 kernelRun0_A.sl.r_49 kernelRun0_A.sl.r_48 kernelRun0_A.sl.r_47 kernelRun0_A.sl.r_46 kernelRun0_A.sl.r_45 kernelRun0_A.sl.r_44 kernelRun0_A.sl.r_43 kernelRun0_A.sl.r_42 kernelRun0_A.sl.r_41 kernelRun0_A.sl.r_40 kernelRun0_A.sl.r_18 kernelRun0_A.sl.r_17
    dsimp only
    rw [v325A c arg1 harg1 arg2 harg2 arg3 harg3 arg10 arg11 x0 x1 x2, v327A c arg1 harg1 arg2 harg2 arg3 harg3 arg10 arg11 x0 x1 x2, v329A c arg1 harg1 arg2 harg2 arg3 harg3 arg10 arg11 x0 x1 x2, v331A c arg1 harg1 arg2 harg2 arg3 harg3 arg10 arg11 x0 x1 x2, v333A c arg1 harg1 arg2 harg2 arg3 harg3 arg10 arg11 x0 x1 x2, v335A c arg1 harg1 arg2 harg2 arg3 harg3 arg10 arg11 x0 x1 x2, v337A c arg1 harg1 arg2 harg2 arg3 harg3 arg10 arg11 x0 x1 x2, v339A c arg1 harg1 arg2 harg2 arg3 harg3 arg10 arg11 x0 x1 x2, v345A c arg1 harg1 arg2 harg2 arg3 harg3 arg10 arg11 x0 x1 x2, v347A c arg1 harg1 arg2 harg2 arg3 harg3 arg10 arg11 x0 x1 x2, v349A c arg1 harg1 arg2 harg2 arg3 harg3 arg10 arg11 x0 x1 x2, v351A c arg1 harg1 arg2 harg2 arg3 harg3 arg10 arg11 x0 x1 x2, v353A c arg1 harg1 arg2 harg2 arg3 harg3 arg10 arg11 x0 x1 x2, v355A c arg1 harg1 arg2 harg2 arg3 harg3 arg10 arg11 x0 x1 x2, v357A c arg1 harg1 arg2 harg2 arg3 harg3 arg10 arg11 x0 x1 x2, v359A c arg1 harg1 arg2 harg2 arg3 harg3 arg10 arg11 x0 x1 x2, v366A c arg1 harg1 arg2 harg2 arg3 harg3 arg10 arg11 x0 x1 x2, v368A c arg1 harg1 arg2 harg2 arg3 harg3 arg10 arg11 x0 x1 x2, v370A c arg1 harg1 arg2 harg2 arg3 harg3 arg10 arg11 x0 x1 x2, v372A c arg1 harg1 arg2 harg2 arg3 harg3 arg10 arg11 x0 x1 x2, v374A c arg1 harg1 arg2 harg2 arg3 harg3 arg10 arg11 x0 x1 x2, v376A c arg1 harg1 arg2 harg2 arg3 harg3 arg10 arg11 x0 x1 x2, v378A c arg1 harg1 arg2 harg2 arg3 harg3 arg10 arg11 x0 x1 x2, v380A c arg1 harg1 arg2 harg2 arg3 harg3 arg10 arg11 x0 x1 x2, v387A c arg1 harg1 arg2 harg2 arg3 harg3 arg10 arg11 x0 x1 x2, v389A c arg1 harg1 arg2 harg2 arg3 harg3 arg10 arg11 x0 x1 x2, v391A c arg1 harg1 arg2 harg2 arg3 harg3 arg10 arg11 x0 x1 x2, v393A c arg1 harg1 arg2 harg2 arg3 harg3 arg10 arg11 x0 x1 x2, v395A c arg1 harg1 arg2 harg2 arg3 harg3 arg10 arg11 x0 x1 x2, v397A c arg1 harg1 arg2 harg2 arg3 harg3 arg10 arg11 x0 x1 x2, v399A c arg1 harg1 arg2 harg2 arg3 harg3 arg10 arg11 x0 x1 x2, v401A c arg1 harg1 arg2 harg2 arg3 harg3 arg10 arg11 x0 x1 x2, read_all arg6 harg6 x5 ![0, 0] (by decide), read_all arg7 harg7 x6 ![0, 0] (by decide)]
    refine (pay95_apply (rowsFrom noHalo (Pslot (rowsA c arg1 harg1 arg2 harg2 arg11 x0 x1) x2) 2 7 (by decide)) (rowsFrom noHalo (Pslot (rowsA c arg1 harg1 arg2 harg2 arg11 x0 x1) x2) 2 8 (by decide)) _ r k x5 x6).trans ?_
    rw [pay84_apply (rowsFrom noHalo (Pslot (rowsA c arg1 harg1 arg2 harg2 arg11 x0 x1) x2) 2 6 (by decide)) _ r k x5, pay77_apply (rowsFrom noHalo (Pslot (rowsA c arg1 harg1 arg2 harg2 arg11 x0 x1) x2) 2 5 (by decide)) r k x5]
    rfl
  · unfold kernelRun0_A.sl.r_38 kernelRun0_A.sl.r_37 kernelRun0_A.sl.r_36 kernelRun0_A.sl.r_35 kernelRun0_A.sl.r_34 kernelRun0_A.sl.r_33 kernelRun0_A.sl.r_32 kernelRun0_A.sl.r_31 kernelRun0_A.sl.r_30 kernelRun0_A.sl.r_29 kernelRun0_A.sl.r_28 kernelRun0_A.sl.r_27 kernelRun0_A.sl.r_26 kernelRun0_A.sl.r_25 kernelRun0_A.sl.r_24 kernelRun0_A.sl.r_23 kernelRun0_A.sl.r_22 kernelRun0_A.sl.r_20 kernelRun0_A.sl.r_18 kernelRun0_A.sl.r_17
    dsimp only
    rw [v196A c arg1 harg1 arg2 harg2 arg3 harg3 arg10 arg11 x0 x1 x2, v198A c arg1 harg1 arg2 harg2 arg3 harg3 arg10 arg11 x0 x1 x2, v200A c arg1 harg1 arg2 harg2 arg3 harg3 arg10 arg11 x0 x1 x2, v202A c arg1 harg1 arg2 harg2 arg3 harg3 arg10 arg11 x0 x1 x2, v204A c arg1 harg1 arg2 harg2 arg3 harg3 arg10 arg11 x0 x1 x2, v206A c arg1 harg1 arg2 harg2 arg3 harg3 arg10 arg11 x0 x1 x2, v208A c arg1 harg1 arg2 harg2 arg3 harg3 arg10 arg11 x0 x1 x2, v210A c arg1 harg1 arg2 harg2 arg3 harg3 arg10 arg11 x0 x1 x2, v216A c arg1 harg1 arg2 harg2 arg3 harg3 arg10 arg11 x0 x1 x2, v218A c arg1 harg1 arg2 harg2 arg3 harg3 arg10 arg11 x0 x1 x2, v220A c arg1 harg1 arg2 harg2 arg3 harg3 arg10 arg11 x0 x1 x2, v222A c arg1 harg1 arg2 harg2 arg3 harg3 arg10 arg11 x0 x1 x2, v224A c arg1 harg1 arg2 harg2 arg3 harg3 arg10 arg11 x0 x1 x2, v226A c arg1 harg1 arg2 harg2 arg3 harg3 arg10 arg11 x0 x1 x2, v228A c arg1 harg1 arg2 harg2 arg3 harg3 arg10 arg11 x0 x1 x2, v230A c arg1 harg1 arg2 harg2 arg3 harg3 arg10 arg11 x0 x1 x2, v237A c arg1 harg1 arg2 harg2 arg3 harg3 arg10 arg11 x0 x1 x2, v239A c arg1 harg1 arg2 harg2 arg3 harg3 arg10 arg11 x0 x1 x2, v241A c arg1 harg1 arg2 harg2 arg3 harg3 arg10 arg11 x0 x1 x2, v243A c arg1 harg1 arg2 harg2 arg3 harg3 arg10 arg11 x0 x1 x2, v245A c arg1 harg1 arg2 harg2 arg3 harg3 arg10 arg11 x0 x1 x2, v247A c arg1 harg1 arg2 harg2 arg3 harg3 arg10 arg11 x0 x1 x2, v249A c arg1 harg1 arg2 harg2 arg3 harg3 arg10 arg11 x0 x1 x2, v251A c arg1 harg1 arg2 harg2 arg3 harg3 arg10 arg11 x0 x1 x2, v258A c arg1 harg1 arg2 harg2 arg3 harg3 arg10 arg11 x0 x1 x2, v260A c arg1 harg1 arg2 harg2 arg3 harg3 arg10 arg11 x0 x1 x2, v262A c arg1 harg1 arg2 harg2 arg3 harg3 arg10 arg11 x0 x1 x2, v264A c arg1 harg1 arg2 harg2 arg3 harg3 arg10 arg11 x0 x1 x2, v266A c arg1 harg1 arg2 harg2 arg3 harg3 arg10 arg11 x0 x1 x2, v268A c arg1 harg1 arg2 harg2 arg3 harg3 arg10 arg11 x0 x1 x2, v270A c arg1 harg1 arg2 harg2 arg3 harg3 arg10 arg11 x0 x1 x2, v272A c arg1 harg1 arg2 harg2 arg3 harg3 arg10 arg11 x0 x1 x2, read_all arg6 harg6 x5 ![0, 0] (by decide), read_all arg7 harg7 x6 ![0, 0] (by decide)]
    refine (pay61_apply (rowsFrom noHalo (Pslot (rowsA c arg1 harg1 arg2 harg2 arg11 x0 x1) x2) 1 8 (by decide)) _ r k x5 x6).trans ?_
    rw [pay58_apply (rowsFrom noHalo (Pslot (rowsA c arg1 harg1 arg2 harg2 arg11 x0 x1) x2) 1 6 (by decide)) (rowsFrom noHalo (Pslot (rowsA c arg1 harg1 arg2 harg2 arg11 x0 x1) x2) 1 7 (by decide)) _ r k x5, pay50_apply (rowsFrom noHalo (Pslot (rowsA c arg1 harg1 arg2 harg2 arg11 x0 x1) x2) 1 5 (by decide)) r k x5]
    rfl
  · refine (pay31_apply _ _ r k).trans ?_
    rw [read_cols arg3 harg3 x2 3072 (by decide)]; rfl
  · unfold kernelRun0_A.sl.r_16 kernelRun0_A.sl.r_15 kernelRun0_A.sl.r_14 kernelRun0_A.sl.r_13 kernelRun0_A.sl.r_12 kernelRun0_A.sl.r_11 kernelRun0_A.sl.r_10 kernelRun0_A.sl.r_9 kernelRun0_A.sl.r_8 kernelRun0_A.sl.r_7 kernelRun0_A.sl.r_6 kernelRun0_A.sl.r_5 kernelRun0_A.sl.r_4 kernelRun0_A.sl.r_3 kernelRun0_A.sl.r_1
    dsimp only
    rw [v79A c arg1 harg1 arg2 harg2 arg3 harg3 arg10 arg11 x0 x1 x2, v81A c arg1 harg1 arg2 harg2 arg3 harg3 arg10 arg11 x0 x1 x2, v83A c arg1 harg1 arg2 harg2 arg3 harg3 arg10 arg11 x0 x1 x2, v85A c arg1 harg1 arg2 harg2 arg3 harg3 arg10 arg11 x0 x1 x2, v87A c arg1 harg1 arg2 harg2 arg3 harg3 arg10 arg11 x0 x1 x2, v89A c arg1 harg1 arg2 harg2 arg3 harg3 arg10 arg11 x0 x1 x2, v91A c arg1 harg1 arg2 harg2 arg3 harg3 arg10 arg11 x0 x1 x2, v93A c arg1 harg1 arg2 harg2 arg3 harg3 arg10 arg11 x0 x1 x2, v99A c arg1 harg1 arg2 harg2 arg3 harg3 arg10 arg11 x0 x1 x2, v101A c arg1 harg1 arg2 harg2 arg3 harg3 arg10 arg11 x0 x1 x2, v103A c arg1 harg1 arg2 harg2 arg3 harg3 arg10 arg11 x0 x1 x2, v105A c arg1 harg1 arg2 harg2 arg3 harg3 arg10 arg11 x0 x1 x2, v107A c arg1 harg1 arg2 harg2 arg3 harg3 arg10 arg11 x0 x1 x2, v109A c arg1 harg1 arg2 harg2 arg3 harg3 arg10 arg11 x0 x1 x2, v111A c arg1 harg1 arg2 harg2 arg3 harg3 arg10 arg11 x0 x1 x2, v113A c arg1 harg1 arg2 harg2 arg3 harg3 arg10 arg11 x0 x1 x2, v120A c arg1 harg1 arg2 harg2 arg3 harg3 arg10 arg11 x0 x1 x2, v122A c arg1 harg1 arg2 harg2 arg3 harg3 arg10 arg11 x0 x1 x2, v124A c arg1 harg1 arg2 harg2 arg3 harg3 arg10 arg11 x0 x1 x2, v126A c arg1 harg1 arg2 harg2 arg3 harg3 arg10 arg11 x0 x1 x2, v128A c arg1 harg1 arg2 harg2 arg3 harg3 arg10 arg11 x0 x1 x2, v130A c arg1 harg1 arg2 harg2 arg3 harg3 arg10 arg11 x0 x1 x2, v132A c arg1 harg1 arg2 harg2 arg3 harg3 arg10 arg11 x0 x1 x2, v134A c arg1 harg1 arg2 harg2 arg3 harg3 arg10 arg11 x0 x1 x2, read_all arg5 harg5 x4 ![0, 0] (by decide), read_cols arg3 harg3 x2 1024 (by decide)]
    refine (pay30_apply (rowsFrom noHalo (Pslot (rowsA c arg1 harg1 arg2 harg2 arg11 x0 x1) x2) 0 8 (by decide)) _ r k x4 _ _).trans ?_
    rw [pay24_apply (rowsFrom noHalo (Pslot (rowsA c arg1 harg1 arg2 harg2 arg11 x0 x1) x2) 0 7 (by decide)) _ r k x4, pay19_apply (rowsFrom noHalo (Pslot (rowsA c arg1 harg1 arg2 harg2 arg11 x0 x1) x2) 0 6 (by decide)) r k x4]
    rfl

/-- The point's second result. -/
theorem out8A_apply (r : Fin 256) (k : Fin 128) : out0_A_8 c i arg1 harg1 arg2 harg2 arg3 harg3 arg4 harg4 arg5 harg5 arg6 harg6 arg7 harg7 arg8 harg8 arg9 harg9 arg10 harg10 arg11 harg11 hc0 hc1 x0 x1 x2 x3 x4 x5 x6 (ix2 r k)
    = ∑ j : Fin 1024, (rowsA c arg1 harg1 arg2 harg2 arg11 x0 x1) (ix2 r j) * x3 (ix2 j k) := by
  unfold out0_A_8
  rw [View.read_writes_junk_eq_canon]
  unfold kernelRun0_A
  dsimp only
  rw [View.canon_cons_unit_lit _ _ _ (by decide), read_all arg4 harg4 x3 ![0, 0] (by decide)]
  exact pay5_apply _ x3 r k

end Cert.Proof.Proj

end
-- ==== Proof.ProjCaseB.lean ====
/- Hand-written: one grid point of the projection call, in the case that carries the last rows of the point before. What the body leaves in the
   scratch and in its two results, entry by entry. -/
module

public import proofs.«01_k».proof.Proof.ProjOut

@[expose] public section

set_option maxHeartbeats 2000000

noncomputable section

namespace Cert.Proof.Proj

open Cert.Kernel3Ideal Cert.Kernel3Ideal.Gen Idealize.ShloMosaic

variable (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x12288 .bf16) (harg3 : arg3.IsWhole) (arg4 : Memref sig .tc .vmem S1024x128 .bf16) (harg4 : arg4.IsWhole) (arg5 : Memref sig .tc .vmem S3x1024 .f32) (harg5 : arg5.IsWhole) (arg6 : Memref sig .tc .vmem S4x2048 .f32) (harg6 : arg6.IsWhole) (arg7 : Memref sig .tc .vmem S1x2048 .f32) (harg7 : arg7.IsWhole) (arg8 : Memref sig .tc .vmem S256x10240 .bf16) (harg8 : arg8.IsWhole) (arg9 : Memref sig .tc .vmem S256x128 .f32) (harg9 : arg9.IsWhole) (arg10 : Memref sig .tc .vmem S3x8x264x128 .f32) (harg10 : arg10.IsWhole) (arg11 : Memref sig .tc .vmem S256x1024 .bf16) (harg11 : arg11.IsWhole) (hc0 : ¬cond0_0 i) (hc1 : cond0_1 i)
    (x0 : Vec Ideal S256x1024 .f32) (x1 : Vec Ideal S1x1024 .f32) (x2 : Vec Ideal S1024x12288 .bf16) (x3 : Vec Ideal S1024x128 .bf16) (x4 : Vec Ideal S3x1024 .f32) (x5 : Vec Ideal S4x2048 .f32) (x6 : Vec Ideal S1x2048 .f32) (xs0 : Vec Ideal S3x8x264x128 .f32)

/-- The normalised rows of the point, as the body keeps them. -/
def rowsB : Vec Ideal S256x1024 .bf16 := kernelRun0_B.sl.v35 c arg1 harg1 arg2 harg2 arg11 x0 x1

theorem rowsB_apply (r : Fin 256) (k : Fin 1024) :
    rowsB c arg1 harg1 arg2 harg2 arg11 x0 x1 (ix2 r k) = Mlp.rowRms (fun j => x0 (ix2 r j)) k * x1 (ix2 0 k) := by
  unfold rowsB kernelRun0_B.sl.v35 kernelRun0_B.sl.HS1_1
  rw [read_all arg1 harg1 x0 ![0, 0] (by decide), read_all arg2 harg2 x1 ![0, 0] (by decide), read_one]
  exact pay4_apply x0 x1 r k

theorem piecesB9 : View.PiecesOf (Gs (haloOf xs0) (Pslot (rowsB c arg1 harg1 arg2 harg2 arg11 x0 x1) x2)) (kernelRun0_B.sl.HS0_9 c arg1 harg1 arg2 harg2 arg3 harg3 arg10 harg10 arg11 x0 x1 x2 xs0) := by
  unfold kernelRun0_B.sl.HS0_9
  exact ⟨slab_piece (haloOf xs0) (Pslot (rowsB c arg1 harg1 arg2 harg2 arg11 x0 x1) x2) 0 7 inb_S3x8x264x128_S1x1x256x128_0_7_8_0 _ ((stored0_7 _ _ _).of_eq (by rw [read_cols arg3 harg3 x2 2048 (by decide), read_cols arg3 harg3 x2 0 (by decide)]; rfl)),
    slab_piece (haloOf xs0) (Pslot (rowsB c arg1 harg1 arg2 harg2 arg11 x0 x1) x2) 0 6 inb_S3x8x264x128_S1x1x256x128_0_6_8_0 _ ((stored0_6 _ _ _).of_eq (by rw [read_cols arg3 harg3 x2 2048 (by decide), read_cols arg3 harg3 x2 0 (by decide)]; rfl)),
    slab_piece (haloOf xs0) (Pslot (rowsB c arg1 harg1 arg2 harg2 arg11 x0 x1) x2) 0 5 inb_S3x8x264x128_S1x1x256x128_0_5_8_0 _ ((stored0_5 _ _ _).of_eq (by rw [read_cols arg3 harg3 x2 2048 (by decide), read_cols arg3 harg3 x2 0 (by decide)]; rfl)),
    slab_piece (haloOf xs0) (Pslot (rowsB c arg1 harg1 arg2 harg2 arg11 x0 x1) x2) 0 4 inb_S3x8x264x128_S1x1x256x128_0_4_8_0 _ ((stored0_4 _ _ _).of_eq (by rw [read_cols arg3 harg3 x2 2048 (by decide), read_cols arg3 harg3 x2 0 (by decide)]; rfl)),
    slab_piece (haloOf xs0) (Pslot (rowsB c arg1 harg1 arg2 harg2 arg11 x0 x1) x2) 0 3 inb_S3x8x264x128_S1x1x256x128_0_3_8_0 _ ((stored0_3 _ _ _).of_eq (by rw [read_cols arg3 harg3 x2 2048 (by decide), read_cols arg3 harg3 x2 0 (by decide)]; rfl)),
    slab_piece (haloOf xs0) (Pslot (rowsB c arg1 harg1 arg2 harg2 arg11 x0 x1) x2) 0 2 inb_S3x8x264x128_S1x1x256x128_0_2_8_0 _ ((stored0_2 _ _ _).of_eq (by rw [read_cols arg3 harg3 x2 2048 (by decide), read_cols arg3 harg3 x2 0 (by decide)]; rfl)),
    slab_piece (haloOf xs0) (Pslot (rowsB c arg1 harg1 arg2 harg2 arg11 x0 x1) x2) 0 1 inb_S3x8x264x128_S1x1x256x128_0_1_8_0 _ ((stored0_1 _ _ _).of_eq (by rw [read_cols arg3 harg3 x2 2048 (by decide), read_cols arg3 harg3 x2 0 (by decide)]; rfl)),
    slab_piece (haloOf xs0) (Pslot (rowsB c arg1 harg1 arg2 harg2 arg11 x0 x1) x2) 0 0 inb_S3x8x264x128_S1x1x256x128_0_0_8_0 _ ((stored0_0 _ _ _).of_eq (by rw [read_cols arg3 harg3 x2 2048 (by decide), read_cols arg3 harg3 x2 0 (by decide)]; rfl)),
    halo_piece (haloOf xs0) (Pslot (rowsB c arg1 harg1 arg2 harg2 arg11 x0 x1) x2) inb_S3x8x264x128_S3x8x8x128_0_0_0_0 _ (halo_read arg10 harg10 xs0 inb_S3x8x264x128_S3x8x8x128_0_0_256_0), trivial⟩

theorem piecesB17 : View.PiecesOf (Gs (haloOf xs0) (Pslot (rowsB c arg1 harg1 arg2 harg2 arg11 x0 x1) x2)) (kernelRun0_B.sl.HS0_17 c arg1 harg1 arg2 harg2 arg3 harg3 arg10 harg10 arg11 x0 x1 x2 xs0) := by
  unfold kernelRun0_B.sl.HS0_17
  exact ⟨slab_piece (haloOf xs0) (Pslot (rowsB c arg1 harg1 arg2 harg2 arg11 x0 x1) x2) 1 7 inb_S3x8x264x128_S1x1x256x128_1_7_8_0 _ ((stored1_7 _ _).of_eq (by rw [read_cols arg3 harg3 x2 4096 (by decide)]; rfl)),
    slab_piece (haloOf xs0) (Pslot (rowsB c arg1 harg1 arg2 harg2 arg11 x0 x1) x2) 1 6 inb_S3x8x264x128_S1x1x256x128_1_6_8_0 _ ((stored1_6 _ _).of_eq (by rw [read_cols arg3 harg3 x2 4096 (by decide)]; rfl)),
    slab_piece (haloOf xs0) (Pslot (rowsB c arg1 harg1 arg2 harg2 arg11 x0 x1) x2) 1 5 inb_S3x8x264x128_S1x1x256x128_1_5_8_0 _ ((stored1_5 _ _).of_eq (by rw [read_cols arg3 harg3 x2 4096 (by decide)]; rfl)),
    slab_piece (haloOf xs0) (Pslot (rowsB c arg1 harg1 arg2 harg2 arg11 x0 x1) x2) 1 4 inb_S3x8x264x128_S1x1x256x128_1_4_8_0 _ ((stored1_4 _ _).of_eq (by rw [read_cols arg3 harg3 x2 4096 (by decide)]; rfl)),
    slab_piece (haloOf xs0) (Pslot (rowsB c arg1 harg1 arg2 harg2 arg11 x0 x1) x2) 1 3 inb_S3x8x264x128_S1x1x256x128_1_3_8_0 _ ((stored1_3 _ _).of_eq (by rw [read_cols arg3 harg3 x2 4096 (by decide)]; rfl)),
    slab_piece (haloOf xs0) (Pslot (rowsB c arg1 harg1 arg2 harg2 arg11 x0 x1) x2) 1 2 inb_S3x8x264x128_S1x1x256x128_1_2_8_0 _ ((stored1_2 _ _).of_eq (by rw [read_cols arg3 harg3 x2 4096 (by decide)]; rfl)),
    slab_piece (haloOf xs0) (Pslot (rowsB c arg1 harg1 arg2 harg2 arg11 x0 x1) x2) 1 1 inb_S3x8x264x128_S1x1x256x128_1_1_8_0 _ ((stored1_1 _ _).of_eq (by rw [read_cols arg3 harg3 x2 4096 (by decide)]; rfl)),
    slab_piece (haloOf xs0) (Pslot (rowsB c arg1 harg1 arg2 harg2 arg11 x0 x1) x2) 1 0 inb_S3x8x264x128_S1x1x256x128_1_0_8_0 _ ((stored1_0 _ _).of_eq (by rw [read_cols arg3 harg3 x2 4096 (by decide)]; rfl)),
    piecesB9 c arg1 harg1 arg2 harg2 arg3 harg3 arg10 harg10 arg11 x0 x1 x2 xs0⟩

theorem piecesB25 : View.PiecesOf (Gs (haloOf xs0) (Pslot (rowsB c arg1 harg1 arg2 harg2 arg11 x0 x1) x2)) (kernelRun0_B.sl.HS0_25 c arg1 harg1 arg2 harg2 arg3 harg3 arg10 harg10 arg11 x0 x1 x2 xs0) := by
  unfold kernelRun0_B.sl.HS0_25
  exact ⟨slab_piece (haloOf xs0) (Pslot (rowsB c arg1 harg1 arg2 harg2 arg11 x0 x1) x2) 2 7 inb_S3x8x264x128_S1x1x256x128_2_7_8_0 _ ((stored2_7 _ _).of_eq (by rw [read_cols arg3 harg3 x2 5120 (by decide)]; rfl)),
    slab_piece (haloOf xs0) (Pslot (rowsB c arg1 harg1 arg2 harg2 arg11 x0 x1) x2) 2 6 inb_S3x8x264x128_S1x1x256x128_2_6_8_0 _ ((stored2_6 _ _).of_eq (by rw [read_cols arg3 harg3 x2 5120 (by decide)]; rfl)),
    slab_piece (haloOf xs0) (Pslot (rowsB c arg1 harg1 arg2 harg2 arg11 x0 x1) x2) 2 5 inb_S3x8x264x128_S1x1x256x128_2_5_8_0 _ ((stored2_5 _ _).of_eq (by rw [read_cols arg3 harg3 x2 5120 (by decide)]; rfl)),
    slab_piece (haloOf xs0) (Pslot (rowsB c arg1 harg1 arg2 harg2 arg11 x0 x1) x2) 2 4 inb_S3x8x264x128_S1x1x256x128_2_4_8_0 _ ((stored2_4 _ _).of_eq (by rw [read_cols arg3 harg3 x2 5120 (by decide)]; rfl)),
    slab_piece (haloOf xs0) (Pslot (rowsB c arg1 harg1 arg2 harg2 arg11 x0 x1) x2) 2 3 inb_S3x8x264x128_S1x1x256x128_2_3_8_0 _ ((stored2_3 _ _).of_eq (by rw [read_cols arg3 harg3 x2 5120 (by decide)]; rfl)),
    slab_piece (haloOf xs0) (Pslot (rowsB c arg1 harg1 arg2 harg2 arg11 x0 x1) x2) 2 2 inb_S3x8x264x128_S1x1x256x128_2_2_8_0 _ ((stored2_2 _ _).of_eq (by rw [read_cols arg3 harg3 x2 5120 (by decide)]; rfl)),
    slab_piece (haloOf xs0) (Pslot (rowsB c arg1 harg1 arg2 harg2 arg11 x0 x1) x2) 2 1 inb_S3x8x264x128_S1x1x256x128_2_1_8_0 _ ((stored2_1 _ _).of_eq (by rw [read_cols arg3 harg3 x2 5120 (by decide)]; rfl)),
    slab_piece (haloOf xs0) (Pslot (rowsB c arg1 harg1 arg2 harg2 arg11 x0 x1) x2) 2 0 inb_S3x8x264x128_S1x1x256x128_2_0_8_0 _ ((stored2_0 _ _).of_eq (by rw [read_cols arg3 harg3 x2 5120 (by decide)]; rfl)),
    piecesB17 c arg1 harg1 arg2 harg2 arg3 harg3 arg10 harg10 arg11 x0 x1 x2 xs0⟩

theorem coverB9 (y : S3x8x264x128.Idx) (h : (y 0).val = 0 ∨ (y 2).val < 8) :
    ∃ p ∈ (kernelRun0_B.sl.HS0_9 c arg1 harg1 arg2 harg2 arg3 harg3 arg10 harg10 arg11 x0 x1 x2 xs0), y ∈ p.1.set := by
  unfold kernelRun0_B.sl.HS0_9
  rcases Nat.lt_or_ge (y 2).val 8 with h2 | h2
  · exact ⟨_, .tail _ (.tail _ (.tail _ (.tail _ (.tail _ (.tail _ (.tail _ (.tail _ (.head _)))))))), halo_mem inb_S3x8x264x128_S3x8x8x128_0_0_0_0 y h2⟩
  · exact slabs_cover 0 inb_S3x8x264x128_S1x1x256x128_0_0_8_0 inb_S3x8x264x128_S1x1x256x128_0_1_8_0 inb_S3x8x264x128_S1x1x256x128_0_2_8_0 inb_S3x8x264x128_S1x1x256x128_0_3_8_0 inb_S3x8x264x128_S1x1x256x128_0_4_8_0 inb_S3x8x264x128_S1x1x256x128_0_5_8_0 inb_S3x8x264x128_S1x1x256x128_0_6_8_0 inb_S3x8x264x128_S1x1x256x128_0_7_8_0 _ _ _ _ _ _ _ _ _ y (by omega) h2

theorem coverB17 (y : S3x8x264x128.Idx) (h : (y 0).val ≤ 1 ∨ (y 2).val < 8) :
    ∃ p ∈ (kernelRun0_B.sl.HS0_17 c arg1 harg1 arg2 harg2 arg3 harg3 arg10 harg10 arg11 x0 x1 x2 xs0), y ∈ p.1.set := by
  by_cases hy : (y 0).val ≤ 0 ∨ (y 2).val < 8
  · obtain ⟨p, hp, hm⟩ := coverB9 c arg1 harg1 arg2 harg2 arg3 harg3 arg10 harg10 arg11 x0 x1 x2 xs0 y (by omega)
    unfold kernelRun0_B.sl.HS0_17
    exact ⟨p, .tail _ (.tail _ (.tail _ (.tail _ (.tail _ (.tail _ (.tail _ (.tail _ hp))))))), hm⟩
  · unfold kernelRun0_B.sl.HS0_17
    exact slabs_cover 1 inb_S3x8x264x128_S1x1x256x128_1_0_8_0 inb_S3x8x264x128_S1x1x256x128_1_1_8_0 inb_S3x8x264x128_S1x1x256x128_1_2_8_0 inb_S3x8x264x128_S1x1x256x128_1_3_8_0 inb_S3x8x264x128_S1x1x256x128_1_4_8_0 inb_S3x8x264x128_S1x1x256x128_1_5_8_0 inb_S3x8x264x128_S1x1x256x128_1_6_8_0 inb_S3x8x264x128_S1x1x256x128_1_7_8_0 _ _ _ _ _ _ _ _ _ y (by omega) (by omega)

theorem coverB25 (y : S3x8x264x128.Idx) (h : (y 0).val ≤ 2 ∨ (y 2).val < 8) :
    ∃ p ∈ (kernelRun0_B.sl.HS0_25 c arg1 harg1 arg2 harg2 arg3 harg3 arg10 harg10 arg11 x0 x1 x2 xs0), y ∈ p.1.set := by
  by_cases hy : (y 0).val ≤ 1 ∨ (y 2).val < 8
  · obtain ⟨p, hp, hm⟩ := coverB17 c arg1 harg1 arg2 harg2 arg3 harg3 arg10 harg10 arg11 x0 x1 x2 xs0 y (by omega)
    unfold kernelRun0_B.sl.HS0_25
    exact ⟨p, .tail _ (.tail _ (.tail _ (.tail _ (.tail _ (.tail _ (.tail _ (.tail _ hp))))))), hm⟩
  · unfold kernelRun0_B.sl.HS0_25
    exact slabs_cover 2 inb_S3x8x264x128_S1x1x256x128_2_0_8_0 inb_S3x8x264x128_S1x1x256x128_2_1_8_0 inb_S3x8x264x128_S1x1x256x128_2_2_8_0 inb_S3x8x264x128_S1x1x256x128_2_3_8_0 inb_S3x8x264x128_S1x1x256x128_2_4_8_0 inb_S3x8x264x128_S1x1x256x128_2_5_8_0 inb_S3x8x264x128_S1x1x256x128_2_6_8_0 inb_S3x8x264x128_S1x1x256x128_2_7_8_0 _ _ _ _ _ _ _ _ _ y (by omega) (by omega)

/-- What the scratch holds when the point ends. -/
theorem soutB_apply (y : S3x8x264x128.Idx) : sout0_B_0 c i arg1 harg1 arg2 harg2 arg3 harg3 arg4 harg4 arg5 harg5 arg6 harg6 arg7 harg7 arg8 harg8 arg9 harg9 arg10 harg10 arg11 harg11 hc0 hc1 x0 x1 x2 x3 x4 x5 x6 xs0 y = Gs (haloOf xs0) (Pslot (rowsB c arg1 harg1 arg2 harg2 arg11 x0 x1) x2) y := by
  unfold sout0_B_0
  rw [View.read_writes_junk_eq_canon]
  unfold kernelRun0_B
  exact View.canon_apply_of_pieces (Gs (haloOf xs0) (Pslot (rowsB c arg1 harg1 arg2 harg2 arg11 x0 x1) x2)) _ (piecesB25 c arg1 harg1 arg2 harg2 arg3 harg3 arg10 harg10 arg11 x0 x1 x2 xs0).mem y
    (coverB25 c arg1 harg1 arg2 harg2 arg3 harg3 arg10 harg10 arg11 x0 x1 x2 xs0 y (by have : (y 0).val < 3 := (y 0).isLt; omega))

theorem loadB0 (s off : ℕ) (hs : s < 8) (ho : off ≤ 8) (inb) :
    arg10.view.readCov (kernelRun0_B.sl.HS0_9 c arg1 harg1 arg2 harg2 arg3 harg3 arg10 harg10 arg11 x0 x1 x2 xs0)
        (Rect.unit (s := S3x8x264x128) ![0, s, off, 0] S1x1x256x128.size inb).toLoadRect
      = slab (rowsFrom (haloOf xs0) (Pslot (rowsB c arg1 harg1 arg2 harg2 arg11 x0 x1) x2) 0 off ho) ⟨s, hs⟩ :=
  load_slab (haloOf xs0) (Pslot (rowsB c arg1 harg1 arg2 harg2 arg11 x0 x1) x2) arg10.view _ (piecesB9 c arg1 harg1 arg2 harg2 arg3 harg3 arg10 harg10 arg11 x0 x1 x2 xs0) 0 (fun y h => coverB9 c arg1 harg1 arg2 harg2 arg3 harg3 arg10 harg10 arg11 x0 x1 x2 xs0 y (by exact Or.inl h)) s off hs ho inb

theorem loadB1 (s off : ℕ) (hs : s < 8) (ho : off ≤ 8) (inb) :
    arg10.view.readCov (kernelRun0_B.sl.HS0_17 c arg1 harg1 arg2 harg2 arg3 harg3 arg10 harg10 arg11 x0 x1 x2 xs0)
        (Rect.unit (s := S3x8x264x128) ![1, s, off, 0] S1x1x256x128.size inb).toLoadRect
      = slab (rowsFrom (haloOf xs0) (Pslot (rowsB c arg1 harg1 arg2 harg2 arg11 x0 x1) x2) 1 off ho) ⟨s, hs⟩ :=
  load_slab (haloOf xs0) (Pslot (rowsB c arg1 harg1 arg2 harg2 arg11 x0 x1) x2) arg10.view _ (piecesB17 c arg1 harg1 arg2 harg2 arg3 harg3 arg10 harg10 arg11 x0 x1 x2 xs0) 1 (fun y h => coverB17 c arg1 harg1 arg2 harg2 arg3 harg3 arg10 harg10 arg11 x0 x1 x2 xs0 y (by omega)) s off hs ho inb

theorem loadB2 (s off : ℕ) (hs : s < 8) (ho : off ≤ 8) (inb) :
    arg10.view.readCov (kernelRun0_B.sl.HS0_25 c arg1 harg1 arg2 harg2 arg3 harg3 arg10 harg10 arg11 x0 x1 x2 xs0)
        (Rect.unit (s := S3x8x264x128) ![2, s, off, 0] S1x1x256x128.size inb).toLoadRect
      = slab (rowsFrom (haloOf xs0) (Pslot (rowsB c arg1 harg1 arg2 harg2 arg11 x0 x1) x2) 2 off ho) ⟨s, hs⟩ :=
  load_slab (haloOf xs0) (Pslot (rowsB c arg1 harg1 arg2 harg2 arg11 x0 x1) x2) arg10.view _ (piecesB25 c arg1 harg1 arg2 harg2 arg3 harg3 arg10 harg10 arg11 x0 x1 x2 xs0) 2 (fun y h => coverB25 c arg1 harg1 arg2 harg2 arg3 harg3 arg10 harg10 arg11 x0 x1 x2 xs0 y (by omega)) s off hs ho inb

theorem v79B : kernelRun0_B.sl.v79 c arg1 harg1 arg2 harg2 arg3 harg3 arg10 harg10 arg11 x0 x1 x2 xs0 = slab (rowsFrom (haloOf xs0) (Pslot (rowsB c arg1 harg1 arg2 harg2 arg11 x0 x1) x2) 0 6 (by decide)) 0 :=
  loadB0 c arg1 harg1 arg2 harg2 arg3 harg3 arg10 harg10 arg11 x0 x1 x2 xs0 0 6 (by decide) (by decide) inb_S3x8x264x128_S1x1x256x128_0_0_6_0

theorem v81B : kernelRun0_B.sl.v81 c arg1 harg1 arg2 harg2 arg3 harg3 arg10 harg10 arg11 x0 x1 x2 xs0 = slab (rowsFrom (haloOf xs0) (Pslot (rowsB c arg1 harg1 arg2 harg2 arg11 x0 x1) x2) 0 6 (by decide)) 1 :=
  loadB0 c arg1 harg1 arg2 harg2 arg3 harg3 arg10 harg10 arg11 x0 x1 x2 xs0 1 6 (by decide) (by decide) inb_S3x8x264x128_S1x1x256x128_0_1_6_0

theorem v83B : kernelRun0_B.sl.v83 c arg1 harg1 arg2 harg2 arg3 harg3 arg10 harg10 arg11 x0 x1 x2 xs0 = slab (rowsFrom (haloOf xs0) (Pslot (rowsB c arg1 harg1 arg2 harg2 arg11 x0 x1) x2) 0 6 (by decide)) 2 :=
  loadB0 c arg1 harg1 arg2 harg2 arg3 harg3 arg10 harg10 arg11 x0 x1 x2 xs0 2 6 (by decide) (by decide) inb_S3x8x264x128_S1x1x256x128_0_2_6_0

theorem v85B : kernelRun0_B.sl.v85 c arg1 harg1 arg2 harg2 arg3 harg3 arg10 harg10 arg11 x0 x1 x2 xs0 = slab (rowsFrom (haloOf xs0) (Pslot (rowsB c arg1 harg1 arg2 harg2 arg11 x0 x1) x2) 0 6 (by decide)) 3 :=
  loadB0 c arg1 harg1 arg2 harg2 arg3 harg3 arg10 harg10 arg11 x0 x1 x2 xs0 3 6 (by decide) (by decide) inb_S3x8x264x128_S1x1x256x128_0_3_6_0

theorem v87B : kernelRun0_B.sl.v87 c arg1 harg1 arg2 harg2 arg3 harg3 arg10 harg10 arg11 x0 x1 x2 xs0 = slab (rowsFrom (haloOf xs0) (Pslot (rowsB c arg1 harg1 arg2 harg2 arg11 x0 x1) x2) 0 6 (by decide)) 4 :=
  loadB0 c arg1 harg1 arg2 harg2 arg3 harg3 arg10 harg10 arg11 x0 x1 x2 xs0 4 6 (by decide) (by decide) inb_S3x8x264x128_S1x1x256x128_0_4_6_0

theorem v89B : kernelRun0_B.sl.v89 c arg1 harg1 arg2 harg2 arg3 harg3 arg10 harg10 arg11 x0 x1 x2 xs0 = slab (rowsFrom (haloOf xs0) (Pslot (rowsB c arg1 harg1 arg2 harg2 arg11 x0 x1) x2) 0 6 (by decide)) 5 :=
  loadB0 c arg1 harg1 arg2 harg2 arg3 harg3 arg10 harg10 arg11 x0 x1 x2 xs0 5 6 (by decide) (by decide) inb_S3x8x264x128_S1x1x256x128_0_5_6_0

theorem v91B : kernelRun0_B.sl.v91 c arg1 harg1 arg2 harg2 arg3 harg3 arg10 harg10 arg11 x0 x1 x2 xs0 = slab (rowsFrom (haloOf xs0) (Pslot (rowsB c arg1 harg1 arg2 harg2 arg11 x0 x1) x2) 0 6 (by decide)) 6 :=
  loadB0 c arg1 harg1 arg2 harg2 arg3 harg3 arg10 harg10 arg11 x0 x1 x2 xs0 6 6 (by decide) (by decide) inb_S3x8x264x128_S1x1x256x128_0_6_6_0

theorem v93B : kernelRun0_B.sl.v93 c arg1 harg1 arg2 harg2 arg3 harg3 arg10 harg10 arg11 x0 x1 x2 xs0 = slab (rowsFrom (haloOf xs0) (Pslot (rowsB c arg1 harg1 arg2 harg2 arg11 x0 x1) x2) 0 6 (by decide)) 7 :=
  loadB0 c arg1 harg1 arg2 harg2 arg3 harg3 arg10 harg10 arg11 x0 x1 x2 xs0 7 6 (by decide) (by decide) inb_S3x8x264x128_S1x1x256x128_0_7_6_0

theorem v99B : kernelRun0_B.sl.v99 c arg1 harg1 arg2 harg2 arg3 harg3 arg10 harg10 arg11 x0 x1 x2 xs0 = slab (rowsFrom (haloOf xs0) (Pslot (rowsB c arg1 harg1 arg2 harg2 arg11 x0 x1) x2) 0 7 (by decide)) 0 :=
  loadB0 c arg1 harg1 arg2 harg2 arg3 harg3 arg10 harg10 arg11 x0 x1 x2 xs0 0 7 (by decide) (by decide) inb_S3x8x264x128_S1x1x256x128_0_0_7_0

theorem v101B : kernelRun0_B.sl.v101 c arg1 harg1 arg2 harg2 arg3 harg3 arg10 harg10 arg11 x0 x1 x2 xs0 = slab (rowsFrom (haloOf xs0) (Pslot (rowsB c arg1 harg1 arg2 harg2 arg11 x0 x1) x2) 0 7 (by decide)) 1 :=
  loadB0 c arg1 harg1 arg2 harg2 arg3 harg3 arg10 harg10 arg11 x0 x1 x2 xs0 1 7 (by decide) (by decide) inb_S3x8x264x128_S1x1x256x128_0_1_7_0

theorem v103B : kernelRun0_B.sl.v103 c arg1 harg1 arg2 harg2 arg3 harg3 arg10 harg10 arg11 x0 x1 x2 xs0 = slab (rowsFrom (haloOf xs0) (Pslot (rowsB c arg1 harg1 arg2 harg2 arg11 x0 x1) x2) 0 7 (by decide)) 2 :=
  loadB0 c arg1 harg1 arg2 harg2 arg3 harg3 arg10 harg10 arg11 x0 x1 x2 xs0 2 7 (by decide) (by decide) inb_S3x8x264x128_S1x1x256x128_0_2_7_0

theorem v105B : kernelRun0_B.sl.v105 c arg1 harg1 arg2 harg2 arg3 harg3 arg10 harg10 arg11 x0 x1 x2 xs0 = slab (rowsFrom (haloOf xs0) (Pslot (rowsB c arg1 harg1 arg2 harg2 arg11 x0 x1) x2) 0 7 (by decide)) 3 :=
  loadB0 c arg1 harg1 arg2 harg2 arg3 harg3 arg10 harg10 arg11 x0 x1 x2 xs0 3 7 (by decide) (by decide) inb_S3x8x264x128_S1x1x256x128_0_3_7_0

theorem v107B : kernelRun0_B.sl.v107 c arg1 harg1 arg2 harg2 arg3 harg3 arg10 harg10 arg11 x0 x1 x2 xs0 = slab (rowsFrom (haloOf xs0) (Pslot (rowsB c arg1 harg1 arg2 harg2 arg11 x0 x1) x2) 0 7 (by decide)) 4 :=
  loadB0 c arg1 harg1 arg2 harg2 arg3 harg3 arg10 harg10 arg11 x0 x1 x2 xs0 4 7 (by decide) (by decide) inb_S3x8x264x128_S1x1x256x128_0_4_7_0

theorem v109B : kernelRun0_B.sl.v109 c arg1 harg1 arg2 harg2 arg3 harg3 arg10 harg10 arg11 x0 x1 x2 xs0 = slab (rowsFrom (haloOf xs0) (Pslot (rowsB c arg1 harg1 arg2 harg2 arg11 x0 x1) x2) 0 7 (by decide)) 5 :=
  loadB0 c arg1 harg1 arg2 harg2 arg3 harg3 arg10 harg10 arg11 x0 x1 x2 xs0 5 7 (by decide) (by decide) inb_S3x8x264x128_S1x1x256x128_0_5_7_0

theorem v111B : kernelRun0_B.sl.v111 c arg1 harg1 arg2 harg2 arg3 harg3 arg10 harg10 arg11 x0 x1 x2 xs0 = slab (rowsFrom (haloOf xs0) (Pslot (rowsB c arg1 harg1 arg2 harg2 arg11 x0 x1) x2) 0 7 (by decide)) 6 :=
  loadB0 c arg1 harg1 arg2 harg2 arg3 harg3 arg10 harg10 arg11 x0 x1 x2 xs0 6 7 (by decide) (by decide) inb_S3x8x264x128_S1x1x256x128_0_6_7_0

theorem v113B : kernelRun0_B.sl.v113 c arg1 harg1 arg2 harg2 arg3 harg3 arg10 harg10 arg11 x0 x1 x2 xs0 = slab (rowsFrom (haloOf xs0) (Pslot (rowsB c arg1 harg1 arg2 harg2 arg11 x0 x1) x2) 0 7 (by decide)) 7 :=
  loadB0 c arg1 harg1 arg2 harg2 arg3 harg3 arg10 harg10 arg11 x0 x1 x2 xs0 7 7 (by decide) (by decide) inb_S3x8x264x128_S1x1x256x128_0_7_7_0

theorem v120B : kernelRun0_B.sl.v120 c arg1 harg1 arg2 harg2 arg3 harg3 arg10 harg10 arg11 x0 x1 x2 xs0 = slab (rowsFrom (haloOf xs0) (Pslot (rowsB c arg1 harg1 arg2 harg2 arg11 x0 x1) x2) 0 8 (by decide)) 0 :=
  loadB0 c arg1 harg1 arg2 harg2 arg3 harg3 arg10 harg10 arg11 x0 x1 x2 xs0 0 8 (by decide) (by decide) inb_S3x8x264x128_S1x1x256x128_0_0_8_0

theorem v122B : kernelRun0_B.sl.v122 c arg1 harg1 arg2 harg2 arg3 harg3 arg10 harg10 arg11 x0 x1 x2 xs0 = slab (rowsFrom (haloOf xs0) (Pslot (rowsB c arg1 harg1 arg2 harg2 arg11 x0 x1) x2) 0 8 (by decide)) 1 :=
  loadB0 c arg1 harg1 arg2 harg2 arg3 harg3 arg10 harg10 arg11 x0 x1 x2 xs0 1 8 (by decide) (by decide) inb_S3x8x264x128_S1x1x256x128_0_1_8_0

theorem v124B : kernelRun0_B.sl.v124 c arg1 harg1 arg2 harg2 arg3 harg3 arg10 harg10 arg11 x0 x1 x2 xs0 = slab (rowsFrom (haloOf xs0) (Pslot (rowsB c arg1 harg1 arg2 harg2 arg11 x0 x1) x2) 0 8 (by decide)) 2 :=
  loadB0 c arg1 harg1 arg2 harg2 arg3 harg3 arg10 harg10 arg11 x0 x1 x2 xs0 2 8 (by decide) (by decide) inb_S3x8x264x128_S1x1x256x128_0_2_8_0

theorem v126B : kernelRun0_B.sl.v126 c arg1 harg1 arg2 harg2 arg3 harg3 arg10 harg10 arg11 x0 x1 x2 xs0 = slab (rowsFrom (haloOf xs0) (Pslot (rowsB c arg1 harg1 arg2 harg2 arg11 x0 x1) x2) 0 8 (by decide)) 3 :=
  loadB0 c arg1 harg1 arg2 harg2 arg3 harg3 arg10 harg10 arg11 x0 x1 x2 xs0 3 8 (by decide) (by decide) inb_S3x8x264x128_S1x1x256x128_0_3_8_0

theorem v128B : kernelRun0_B.sl.v128 c arg1 harg1 arg2 harg2 arg3 harg3 arg10 harg10 arg11 x0 x1 x2 xs0 = slab (rowsFrom (haloOf xs0) (Pslot (rowsB c arg1 harg1 arg2 harg2 arg11 x0 x1) x2) 0 8 (by decide)) 4 :=
  loadB0 c arg1 harg1 arg2 harg2 arg3 harg3 arg10 harg10 arg11 x0 x1 x2 xs0 4 8 (by decide) (by decide) inb_S3x8x264x128_S1x1x256x128_0_4_8_0

theorem v130B : kernelRun0_B.sl.v130 c arg1 harg1 arg2 harg2 arg3 harg3 arg10 harg10 arg11 x0 x1 x2 xs0 = slab (rowsFrom (haloOf xs0) (Pslot (rowsB c arg1 harg1 arg2 harg2 arg11 x0 x1) x2) 0 8 (by decide)) 5 :=
  loadB0 c arg1 harg1 arg2 harg2 arg3 harg3 arg10 harg10 arg11 x0 x1 x2 xs0 5 8 (by decide) (by decide) inb_S3x8x264x128_S1x1x256x128_0_5_8_0

theorem v132B : kernelRun0_B.sl.v132 c arg1 harg1 arg2 harg2 arg3 harg3 arg10 harg10 arg11 x0 x1 x2 xs0 = slab (rowsFrom (haloOf xs0) (Pslot (rowsB c arg1 harg1 arg2 harg2 arg11 x0 x1) x2) 0 8 (by decide)) 6 :=
  loadB0 c arg1 harg1 arg2 harg2 arg3 harg3 arg10 harg10 arg11 x0 x1 x2 xs0 6 8 (by decide) (by decide) inb_S3x8x264x128_S1x1x256x128_0_6_8_0

theorem v134B : kernelRun0_B.sl.v134 c arg1 harg1 arg2 harg2 arg3 harg3 arg10 harg10 arg11 x0 x1 x2 xs0 = slab (rowsFrom (haloOf xs0) (Pslot (rowsB c arg1 harg1 arg2 harg2 arg11 x0 x1) x2) 0 8 (by decide)) 7 :=
  loadB0 c arg1 harg1 arg2 harg2 arg3 harg3 arg10 harg10 arg11 x0 x1 x2 xs0 7 8 (by decide) (by decide) inb_S3x8x264x128_S1x1x256x128_0_7_8_0

theorem v196B : kernelRun0_B.sl.v196 c arg1 harg1 arg2 harg2 arg3 harg3 arg10 harg10 arg11 x0 x1 x2 xs0 = slab (rowsFrom (haloOf xs0) (Pslot (rowsB c arg1 harg1 arg2 harg2 arg11 x0 x1) x2) 1 5 (by decide)) 0 :=
  loadB1 c arg1 harg1 arg2 harg2 arg3 harg3 arg10 harg10 arg11 x0 x1 x2 xs0 0 5 (by decide) (by decide) inb_S3x8x264x128_S1x1x256x128_1_0_5_0

theorem v198B : kernelRun0_B.sl.v198 c arg1 harg1 arg2 harg2 arg3 harg3 arg10 harg10 arg11 x0 x1 x2 xs0 = slab (rowsFrom (haloOf xs0) (Pslot (rowsB c arg1 harg1 arg2 harg2 arg11 x0 x1) x2) 1 5 (by decide)) 1 :=
  loadB1 c arg1 harg1 arg2 harg2 arg3 harg3 arg10 harg10 arg11 x0 x1 x2 xs0 1 5 (by decide) (by decide) inb_S3x8x264x128_S1x1x256x128_1_1_5_0

theorem v200B : kernelRun0_B.sl.v200 c arg1 harg1 arg2 harg2 arg3 harg3 arg10 harg10 arg11 x0 x1 x2 xs0 = slab (rowsFrom (haloOf xs0) (Pslot (rowsB c arg1 harg1 arg2 harg2 arg11 x0 x1) x2) 1 5 (by decide)) 2 :=
  loadB1 c arg1 harg1 arg2 harg2 arg3 harg3 arg10 harg10 arg11 x0 x1 x2 xs0 2 5 (by decide) (by decide) inb_S3x8x264x128_S1x1x256x128_1_2_5_0

theorem v202B : kernelRun0_B.sl.v202 c arg1 harg1 arg2 harg2 arg3 harg3 arg10 harg10 arg11 x0 x1 x2 xs0 = slab (rowsFrom (haloOf xs0) (Pslot (rowsB c arg1 harg1 arg2 harg2 arg11 x0 x1) x2) 1 5 (by decide)) 3 :=
  loadB1 c arg1 harg1 arg2 harg2 arg3 harg3 arg10 harg10 arg11 x0 x1 x2 xs0 3 5 (by decide) (by decide) inb_S3x8x264x128_S1x1x256x128_1_3_5_0

theorem v204B : kernelRun0_B.sl.v204 c arg1 harg1 arg2 harg2 arg3 harg3 arg10 harg10 arg11 x0 x1 x2 xs0 = slab (rowsFrom (haloOf xs0) (Pslot (rowsB c arg1 harg1 arg2 harg2 arg11 x0 x1) x2) 1 5 (by decide)) 4 :=
  loadB1 c arg1 harg1 arg2 harg2 arg3 harg3 arg10 harg10 arg11 x0 x1 x2 xs0 4 5 (by decide) (by decide) inb_S3x8x264x128_S1x1x256x128_1_4_5_0

theorem v206B : kernelRun0_B.sl.v206 c arg1 harg1 arg2 harg2 arg3 harg3 arg10 harg10 arg11 x0 x1 x2 xs0 = slab (rowsFrom (haloOf xs0) (Pslot (rowsB c arg1 harg1 arg2 harg2 arg11 x0 x1) x2) 1 5 (by decide)) 5 :=
  loadB1 c arg1 harg1 arg2 harg2 arg3 harg3 arg10 harg10 arg11 x0 x1 x2 xs0 5 5 (by decide) (by decide) inb_S3x8x264x128_S1x1x256x128_1_5_5_0

theorem v208B : kernelRun0_B.sl.v208 c arg1 harg1 arg2 harg2 arg3 harg3 arg10 harg10 arg11 x0 x1 x2 xs0 = slab (rowsFrom (haloOf xs0) (Pslot (rowsB c arg1 harg1 arg2 harg2 arg11 x0 x1) x2) 1 5 (by decide)) 6 :=
  loadB1 c arg1 harg1 arg2 harg2 arg3 harg3 arg10 harg10 arg11 x0 x1 x2 xs0 6 5 (by decide) (by decide) inb_S3x8x264x128_S1x1x256x128_1_6_5_0

theorem v210B : kernelRun0_B.sl.v210 c arg1 harg1 arg2 harg2 arg3 harg3 arg10 harg10 arg11 x0 x1 x2 xs0 = slab (rowsFrom (haloOf xs0) (Pslot (rowsB c arg1 harg1 arg2 harg2 arg11 x0 x1) x2) 1 5 (by decide)) 7 :=
  loadB1 c arg1 harg1 arg2 harg2 arg3 harg3 arg10 harg10 arg11 x0 x1 x2 xs0 7 5 (by decide) (by decide) inb_S3x8x264x128_S1x1x256x128_1_7_5_0

theorem v216B : kernelRun0_B.sl.v216 c arg1 harg1 arg2 harg2 arg3 harg3 arg10 harg10 arg11 x0 x1 x2 xs0 = slab (rowsFrom (haloOf xs0) (Pslot (rowsB c arg1 harg1 arg2 harg2 arg11 x0 x1) x2) 1 6 (by decide)) 0 :=
  loadB1 c arg1 harg1 arg2 harg2 arg3 harg3 arg10 harg10 arg11 x0 x1 x2 xs0 0 6 (by decide) (by decide) inb_S3x8x264x128_S1x1x256x128_1_0_6_0

theorem v218B : kernelRun0_B.sl.v218 c arg1 harg1 arg2 harg2 arg3 harg3 arg10 harg10 arg11 x0 x1 x2 xs0 = slab (rowsFrom (haloOf xs0) (Pslot (rowsB c arg1 harg1 arg2 harg2 arg11 x0 x1) x2) 1 6 (by decide)) 1 :=
  loadB1 c arg1 harg1 arg2 harg2 arg3 harg3 arg10 harg10 arg11 x0 x1 x2 xs0 1 6 (by decide) (by decide) inb_S3x8x264x128_S1x1x256x128_1_1_6_0

theorem v220B : kernelRun0_B.sl.v220 c arg1 harg1 arg2 harg2 arg3 harg3 arg10 harg10 arg11 x0 x1 x2 xs0 = slab (rowsFrom (haloOf xs0) (Pslot (rowsB c arg1 harg1 arg2 harg2 arg11 x0 x1) x2) 1 6 (by decide)) 2 :=
  loadB1 c arg1 harg1 arg2 harg2 arg3 harg3 arg10 harg10 arg11 x0 x1 x2 xs0 2 6 (by decide) (by decide) inb_S3x8x264x128_S1x1x256x128_1_2_6_0

theorem v222B : kernelRun0_B.sl.v222 c arg1 harg1 arg2 harg2 arg3 harg3 arg10 harg10 arg11 x0 x1 x2 xs0 = slab (rowsFrom (haloOf xs0) (Pslot (rowsB c arg1 harg1 arg2 harg2 arg11 x0 x1) x2) 1 6 (by decide)) 3 :=
  loadB1 c arg1 harg1 arg2 harg2 arg3 harg3 arg10 harg10 arg11 x0 x1 x2 xs0 3 6 (by decide) (by decide) inb_S3x8x264x128_S1x1x256x128_1_3_6_0

theorem v224B : kernelRun0_B.sl.v224 c arg1 harg1 arg2 harg2 arg3 harg3 arg10 harg10 arg11 x0 x1 x2 xs0 = slab (rowsFrom (haloOf xs0) (Pslot (rowsB c arg1 harg1 arg2 harg2 arg11 x0 x1) x2) 1 6 (by decide)) 4 :=
  loadB1 c arg1 harg1 arg2 harg2 arg3 harg3 arg10 harg10 arg11 x0 x1 x2 xs0 4 6 (by decide) (by decide) inb_S3x8x264x128_S1x1x256x128_1_4_6_0

theorem v226B : kernelRun0_B.sl.v226 c arg1 harg1 arg2 harg2 arg3 harg3 arg10 harg10 arg11 x0 x1 x2 xs0 = slab (rowsFrom (haloOf xs0) (Pslot (rowsB c arg1 harg1 arg2 harg2 arg11 x0 x1) x2) 1 6 (by decide)) 5 :=
  loadB1 c arg1 harg1 arg2 harg2 arg3 harg3 arg10 harg10 arg11 x0 x1 x2 xs0 5 6 (by decide) (by decide) inb_S3x8x264x128_S1x1x256x128_1_5_6_0

theorem v228B : kernelRun0_B.sl.v228 c arg1 harg1 arg2 harg2 arg3 harg3 arg10 harg10 arg11 x0 x1 x2 xs0 = slab (rowsFrom (haloOf xs0) (Pslot (rowsB c arg1 harg1 arg2 harg2 arg11 x0 x1) x2) 1 6 (by decide)) 6 :=
  loadB1 c arg1 harg1 arg2 harg2 arg3 harg3 arg10 harg10 arg11 x0 x1 x2 xs0 6 6 (by decide) (by decide) inb_S3x8x264x128_S1x1x256x128_1_6_6_0

theorem v230B : kernelRun0_B.sl.v230 c arg1 harg1 arg2 harg2 arg3 harg3 arg10 harg10 arg11 x0 x1 x2 xs0 = slab (rowsFrom (haloOf xs0) (Pslot (rowsB c arg1 harg1 arg2 harg2 arg11 x0 x1) x2) 1 6 (by decide)) 7 :=
  loadB1 c arg1 harg1 arg2 harg2 arg3 harg3 arg10 harg10 arg11 x0 x1 x2 xs0 7 6 (by decide) (by decide) inb_S3x8x264x128_S1x1x256x128_1_7_6_0

theorem v237B : kernelRun0_B.sl.v237 c arg1 harg1 arg2 harg2 arg3 harg3 arg10 harg10 arg11 x0 x1 x2 xs0 = slab (rowsFrom (haloOf xs0) (Pslot (rowsB c arg1 harg1 arg2 harg2 arg11 x0 x1) x2) 1 7 (by decide)) 0 :=
  loadB1 c arg1 harg1 arg2 harg2 arg3 harg3 arg10 harg10 arg11 x0 x1 x2 xs0 0 7 (by decide) (by decide) inb_S3x8x264x128_S1x1x256x128_1_0_7_0

theorem v239B : kernelRun0_B.sl.v239 c arg1 harg1 arg2 harg2 arg3 harg3 arg10 harg10 arg11 x0 x1 x2 xs0 = slab (rowsFrom (haloOf xs0) (Pslot (rowsB c arg1 harg1 arg2 harg2 arg11 x0 x1) x2) 1 7 (by decide)) 1 :=
  loadB1 c arg1 harg1 arg2 harg2 arg3 harg3 arg10 harg10 arg11 x0 x1 x2 xs0 1 7 (by decide) (by decide) inb_S3x8x264x128_S1x1x256x128_1_1_7_0

theorem v241B : kernelRun0_B.sl.v241 c arg1 harg1 arg2 harg2 arg3 harg3 arg10 harg10 arg11 x0 x1 x2 xs0 = slab (rowsFrom (haloOf xs0) (Pslot (rowsB c arg1 harg1 arg2 harg2 arg11 x0 x1) x2) 1 7 (by decide)) 2 :=
  loadB1 c arg1 harg1 arg2 harg2 arg3 harg3 arg10 harg10 arg11 x0 x1 x2 xs0 2 7 (by decide) (by decide) inb_S3x8x264x128_S1x1x256x128_1_2_7_0

theorem v243B : kernelRun0_B.sl.v243 c arg1 harg1 arg2 harg2 arg3 harg3 arg10 harg10 arg11 x0 x1 x2 xs0 = slab (rowsFrom (haloOf xs0) (Pslot (rowsB c arg1 harg1 arg2 harg2 arg11 x0 x1) x2) 1 7 (by decide)) 3 :=
  loadB1 c arg1 harg1 arg2 harg2 arg3 harg3 arg10 harg10 arg11 x0 x1 x2 xs0 3 7 (by decide) (by decide) inb_S3x8x264x128_S1x1x256x128_1_3_7_0

theorem v245B : kernelRun0_B.sl.v245 c arg1 harg1 arg2 harg2 arg3 harg3 arg10 harg10 arg11 x0 x1 x2 xs0 = slab (rowsFrom (haloOf xs0) (Pslot (rowsB c arg1 harg1 arg2 harg2 arg11 x0 x1) x2) 1 7 (by decide)) 4 :=
  loadB1 c arg1 harg1 arg2 harg2 arg3 harg3 arg10 harg10 arg11 x0 x1 x2 xs0 4 7 (by decide) (by decide) inb_S3x8x264x128_S1x1x256x128_1_4_7_0

theorem v247B : kernelRun0_B.sl.v247 c arg1 harg1 arg2 harg2 arg3 harg3 arg10 harg10 arg11 x0 x1 x2 xs0 = slab (rowsFrom (haloOf xs0) (Pslot (rowsB c arg1 harg1 arg2 harg2 arg11 x0 x1) x2) 1 7 (by decide)) 5 :=
  loadB1 c arg1 harg1 arg2 harg2 arg3 harg3 arg10 harg10 arg11 x0 x1 x2 xs0 5 7 (by decide) (by decide) inb_S3x8x264x128_S1x1x256x128_1_5_7_0

theorem v249B : kernelRun0_B.sl.v249 c arg1 harg1 arg2 harg2 arg3 harg3 arg10 harg10 arg11 x0 x1 x2 xs0 = slab (rowsFrom (haloOf xs0) (Pslot (rowsB c arg1 harg1 arg2 harg2 arg11 x0 x1) x2) 1 7 (by decide)) 6 :=
  loadB1 c arg1 harg1 arg2 harg2 arg3 harg3 arg10 harg10 arg11 x0 x1 x2 xs0 6 7 (by decide) (by decide) inb_S3x8x264x128_S1x1x256x128_1_6_7_0

theorem v251B : kernelRun0_B.sl.v251 c arg1 harg1 arg2 harg2 arg3 harg3 arg10 harg10 arg11 x0 x1 x2 xs0 = slab (rowsFrom (haloOf xs0) (Pslot (rowsB c arg1 harg1 arg2 harg2 arg11 x0 x1) x2) 1 7 (by decide)) 7 :=
  loadB1 c arg1 harg1 arg2 harg2 arg3 harg3 arg10 harg10 arg11 x0 x1 x2 xs0 7 7 (by decide) (by decide) inb_S3x8x264x128_S1x1x256x128_1_7_7_0

theorem v258B : kernelRun0_B.sl.v258 c arg1 harg1 arg2 harg2 arg3 harg3 arg10 harg10 arg11 x0 x1 x2 xs0 = slab (rowsFrom (haloOf xs0) (Pslot (rowsB c arg1 harg1 arg2 harg2 arg11 x0 x1) x2) 1 8 (by decide)) 0 :=
  loadB1 c arg1 harg1 arg2 harg2 arg3 harg3 arg10 harg10 arg11 x0 x1 x2 xs0 0 8 (by decide) (by decide) inb_S3x8x264x128_S1x1x256x128_1_0_8_0

theorem v260B : kernelRun0_B.sl.v260 c arg1 harg1 arg2 harg2 arg3 harg3 arg10 harg10 arg11 x0 x1 x2 xs0 = slab (rowsFrom (haloOf xs0) (Pslot (rowsB c arg1 harg1 arg2 harg2 arg11 x0 x1) x2) 1 8 (by decide)) 1 :=
  loadB1 c arg1 harg1 arg2 harg2 arg3 harg3 arg10 harg10 arg11 x0 x1 x2 xs0 1 8 (by decide) (by decide) inb_S3x8x264x128_S1x1x256x128_1_1_8_0

theorem v262B : kernelRun0_B.sl.v262 c arg1 harg1 arg2 harg2 arg3 harg3 arg10 harg10 arg11 x0 x1 x2 xs0 = slab (rowsFrom (haloOf xs0) (Pslot (rowsB c arg1 harg1 arg2 harg2 arg11 x0 x1) x2) 1 8 (by decide)) 2 :=
  loadB1 c arg1 harg1 arg2 harg2 arg3 harg3 arg10 harg10 arg11 x0 x1 x2 xs0 2 8 (by decide) (by decide) inb_S3x8x264x128_S1x1x256x128_1_2_8_0

theorem v264B : kernelRun0_B.sl.v264 c arg1 harg1 arg2 harg2 arg3 harg3 arg10 harg10 arg11 x0 x1 x2 xs0 = slab (rowsFrom (haloOf xs0) (Pslot (rowsB c arg1 harg1 arg2 harg2 arg11 x0 x1) x2) 1 8 (by decide)) 3 :=
  loadB1 c arg1 harg1 arg2 harg2 arg3 harg3 arg10 harg10 arg11 x0 x1 x2 xs0 3 8 (by decide) (by decide) inb_S3x8x264x128_S1x1x256x128_1_3_8_0

theorem v266B : kernelRun0_B.sl.v266 c arg1 harg1 arg2 harg2 arg3 harg3 arg10 harg10 arg11 x0 x1 x2 xs0 = slab (rowsFrom (haloOf xs0) (Pslot (rowsB c arg1 harg1 arg2 harg2 arg11 x0 x1) x2) 1 8 (by decide)) 4 :=
  loadB1 c arg1 harg1 arg2 harg2 arg3 harg3 arg10 harg10 arg11 x0 x1 x2 xs0 4 8 (by decide) (by decide) inb_S3x8x264x128_S1x1x256x128_1_4_8_0

theorem v268B : kernelRun0_B.sl.v268 c arg1 harg1 arg2 harg2 arg3 harg3 arg10 harg10 arg11 x0 x1 x2 xs0 = slab (rowsFrom (haloOf xs0) (Pslot (rowsB c arg1 harg1 arg2 harg2 arg11 x0 x1) x2) 1 8 (by decide)) 5 :=
  loadB1 c arg1 harg1 arg2 harg2 arg3 harg3 arg10 harg10 arg11 x0 x1 x2 xs0 5 8 (by decide) (by decide) inb_S3x8x264x128_S1x1x256x128_1_5_8_0

theorem v270B : kernelRun0_B.sl.v270 c arg1 harg1 arg2 harg2 arg3 harg3 arg10 harg10 arg11 x0 x1 x2 xs0 = slab (rowsFrom (haloOf xs0) (Pslot (rowsB c arg1 harg1 arg2 harg2 arg11 x0 x1) x2) 1 8 (by decide)) 6 :=
  loadB1 c arg1 harg1 arg2 harg2 arg3 harg3 arg10 harg10 arg11 x0 x1 x2 xs0 6 8 (by decide) (by decide) inb_S3x8x264x128_S1x1x256x128_1_6_8_0

theorem v272B : kernelRun0_B.sl.v272 c arg1 harg1 arg2 harg2 arg3 harg3 arg10 harg10 arg11 x0 x1 x2 xs0 = slab (rowsFrom (haloOf xs0) (Pslot (rowsB c arg1 harg1 arg2 harg2 arg11 x0 x1) x2) 1 8 (by decide)) 7 :=
  loadB1 c arg1 harg1 arg2 harg2 arg3 harg3 arg10 harg10 arg11 x0 x1 x2 xs0 7 8 (by decide) (by decide) inb_S3x8x264x128_S1x1x256x128_1_7_8_0

theorem v325B : kernelRun0_B.sl.v325 c arg1 harg1 arg2 harg2 arg3 harg3 arg10 harg10 arg11 x0 x1 x2 xs0 = slab (rowsFrom (haloOf xs0) (Pslot (rowsB c arg1 harg1 arg2 harg2 arg11 x0 x1) x2) 2 5 (by decide)) 0 :=
  loadB2 c arg1 harg1 arg2 harg2 arg3 harg3 arg10 harg10 arg11 x0 x1 x2 xs0 0 5 (by decide) (by decide) inb_S3x8x264x128_S1x1x256x128_2_0_5_0

theorem v327B : kernelRun0_B.sl.v327 c arg1 harg1 arg2 harg2 arg3 harg3 arg10 harg10 arg11 x0 x1 x2 xs0 = slab (rowsFrom (haloOf xs0) (Pslot (rowsB c arg1 harg1 arg2 harg2 arg11 x0 x1) x2) 2 5 (by decide)) 1 :=
  loadB2 c arg1 harg1 arg2 harg2 arg3 harg3 arg10 harg10 arg11 x0 x1 x2 xs0 1 5 (by decide) (by decide) inb_S3x8x264x128_S1x1x256x128_2_1_5_0

theorem v329B : kernelRun0_B.sl.v329 c arg1 harg1 arg2 harg2 arg3 harg3 arg10 harg10 arg11 x0 x1 x2 xs0 = slab (rowsFrom (haloOf xs0) (Pslot (rowsB c arg1 harg1 arg2 harg2 arg11 x0 x1) x2) 2 5 (by decide)) 2 :=
  loadB2 c arg1 harg1 arg2 harg2 arg3 harg3 arg10 harg10 arg11 x0 x1 x2 xs0 2 5 (by decide) (by decide) inb_S3x8x264x128_S1x1x256x128_2_2_5_0

theorem v331B : kernelRun0_B.sl.v331 c arg1 harg1 arg2 harg2 arg3 harg3 arg10 harg10 arg11 x0 x1 x2 xs0 = slab (rowsFrom (haloOf xs0) (Pslot (rowsB c arg1 harg1 arg2 harg2 arg11 x0 x1) x2) 2 5 (by decide)) 3 :=
  loadB2 c arg1 harg1 arg2 harg2 arg3 harg3 arg10 harg10 arg11 x0 x1 x2 xs0 3 5 (by decide) (by decide) inb_S3x8x264x128_S1x1x256x128_2_3_5_0

theorem v333B : kernelRun0_B.sl.v333 c arg1 harg1 arg2 harg2 arg3 harg3 arg10 harg10 arg11 x0 x1 x2 xs0 = slab (rowsFrom (haloOf xs0) (Pslot (rowsB c arg1 harg1 arg2 harg2 arg11 x0 x1) x2) 2 5 (by decide)) 4 :=
  loadB2 c arg1 harg1 arg2 harg2 arg3 harg3 arg10 harg10 arg11 x0 x1 x2 xs0 4 5 (by decide) (by decide) inb_S3x8x264x128_S1x1x256x128_2_4_5_0

theorem v335B : kernelRun0_B.sl.v335 c arg1 harg1 arg2 harg2 arg3 harg3 arg10 harg10 arg11 x0 x1 x2 xs0 = slab (rowsFrom (haloOf xs0) (Pslot (rowsB c arg1 harg1 arg2 harg2 arg11 x0 x1) x2) 2 5 (by decide)) 5 :=
  loadB2 c arg1 harg1 arg2 harg2 arg3 harg3 arg10 harg10 arg11 x0 x1 x2 xs0 5 5 (by decide) (by decide) inb_S3x8x264x128_S1x1x256x128_2_5_5_0

theorem v337B : kernelRun0_B.sl.v337 c arg1 harg1 arg2 harg2 arg3 harg3 arg10 harg10 arg11 x0 x1 x2 xs0 = slab (rowsFrom (haloOf xs0) (Pslot (rowsB c arg1 harg1 arg2 harg2 arg11 x0 x1) x2) 2 5 (by decide)) 6 :=
  loadB2 c arg1 harg1 arg2 harg2 arg3 harg3 arg10 harg10 arg11 x0 x1 x2 xs0 6 5 (by decide) (by decide) inb_S3x8x264x128_S1x1x256x128_2_6_5_0

theorem v339B : kernelRun0_B.sl.v339 c arg1 harg1 arg2 harg2 arg3 harg3 arg10 harg10 arg11 x0 x1 x2 xs0 = slab (rowsFrom (haloOf xs0) (Pslot (rowsB c arg1 harg1 arg2 harg2 arg11 x0 x1) x2) 2 5 (by decide)) 7 :=
  loadB2 c arg1 harg1 arg2 harg2 arg3 harg3 arg10 harg10 arg11 x0 x1 x2 xs0 7 5 (by decide) (by decide) inb_S3x8x264x128_S1x1x256x128_2_7_5_0

theorem v345B : kernelRun0_B.sl.v345 c arg1 harg1 arg2 harg2 arg3 harg3 arg10 harg10 arg11 x0 x1 x2 xs0 = slab (rowsFrom (haloOf xs0) (Pslot (rowsB c arg1 harg1 arg2 harg2 arg11 x0 x1) x2) 2 6 (by decide)) 0 :=
  loadB2 c arg1 harg1 arg2 harg2 arg3 harg3 arg10 harg10 arg11 x0 x1 x2 xs0 0 6 (by decide) (by decide) inb_S3x8x264x128_S1x1x256x128_2_0_6_0

theorem v347B : kernelRun0_B.sl.v347 c arg1 harg1 arg2 harg2 arg3 harg3 arg10 harg10 arg11 x0 x1 x2 xs0 = slab (rowsFrom (haloOf xs0) (Pslot (rowsB c arg1 harg1 arg2 harg2 arg11 x0 x1) x2) 2 6 (by decide)) 1 :=
  loadB2 c arg1 harg1 arg2 harg2 arg3 harg3 arg10 harg10 arg11 x0 x1 x2 xs0 1 6 (by decide) (by decide) inb_S3x8x264x128_S1x1x256x128_2_1_6_0

theorem v349B : kernelRun0_B.sl.v349 c arg1 harg1 arg2 harg2 arg3 harg3 arg10 harg10 arg11 x0 x1 x2 xs0 = slab (rowsFrom (haloOf xs0) (Pslot (rowsB c arg1 harg1 arg2 harg2 arg11 x0 x1) x2) 2 6 (by decide)) 2 :=
  loadB2 c arg1 harg1 arg2 harg2 arg3 harg3 arg10 harg10 arg11 x0 x1 x2 xs0 2 6 (by decide) (by decide) inb_S3x8x264x128_S1x1x256x128_2_2_6_0

theorem v351B : kernelRun0_B.sl.v351 c arg1 harg1 arg2 harg2 arg3 harg3 arg10 harg10 arg11 x0 x1 x2 xs0 = slab (rowsFrom (haloOf xs0) (Pslot (rowsB c arg1 harg1 arg2 harg2 arg11 x0 x1) x2) 2 6 (by decide)) 3 :=
  loadB2 c arg1 harg1 arg2 harg2 arg3 harg3 arg10 harg10 arg11 x0 x1 x2 xs0 3 6 (by decide) (by decide) inb_S3x8x264x128_S1x1x256x128_2_3_6_0

theorem v353B : kernelRun0_B.sl.v353 c arg1 harg1 arg2 harg2 arg3 harg3 arg10 harg10 arg11 x0 x1 x2 xs0 = slab (rowsFrom (haloOf xs0) (Pslot (rowsB c arg1 harg1 arg2 harg2 arg11 x0 x1) x2) 2 6 (by decide)) 4 :=
  loadB2 c arg1 harg1 arg2 harg2 arg3 harg3 arg10 harg10 arg11 x0 x1 x2 xs0 4 6 (by decide) (by decide) inb_S3x8x264x128_S1x1x256x128_2_4_6_0

theorem v355B : kernelRun0_B.sl.v355 c arg1 harg1 arg2 harg2 arg3 harg3 arg10 harg10 arg11 x0 x1 x2 xs0 = slab (rowsFrom (haloOf xs0) (Pslot (rowsB c arg1 harg1 arg2 harg2 arg11 x0 x1) x2) 2 6 (by decide)) 5 :=
  loadB2 c arg1 harg1 arg2 harg2 arg3 harg3 arg10 harg10 arg11 x0 x1 x2 xs0 5 6 (by decide) (by decide) inb_S3x8x264x128_S1x1x256x128_2_5_6_0

theorem v357B : kernelRun0_B.sl.v357 c arg1 harg1 arg2 harg2 arg3 harg3 arg10 harg10 arg11 x0 x1 x2 xs0 = slab (rowsFrom (haloOf xs0) (Pslot (rowsB c arg1 harg1 arg2 harg2 arg11 x0 x1) x2) 2 6 (by decide)) 6 :=
  loadB2 c arg1 harg1 arg2 harg2 arg3 harg3 arg10 harg10 arg11 x0 x1 x2 xs0 6 6 (by decide) (by decide) inb_S3x8x264x128_S1x1x256x128_2_6_6_0

theorem v359B : kernelRun0_B.sl.v359 c arg1 harg1 arg2 harg2 arg3 harg3 arg10 harg10 arg11 x0 x1 x2 xs0 = slab (rowsFrom (haloOf xs0) (Pslot (rowsB c arg1 harg1 arg2 harg2 arg11 x0 x1) x2) 2 6 (by decide)) 7 :=
  loadB2 c arg1 harg1 arg2 harg2 arg3 harg3 arg10 harg10 arg11 x0 x1 x2 xs0 7 6 (by decide) (by decide) inb_S3x8x264x128_S1x1x256x128_2_7_6_0

theorem v366B : kernelRun0_B.sl.v366 c arg1 harg1 arg2 harg2 arg3 harg3 arg10 harg10 arg11 x0 x1 x2 xs0 = slab (rowsFrom (haloOf xs0) (Pslot (rowsB c arg1 harg1 arg2 harg2 arg11 x0 x1) x2) 2 7 (by decide)) 0 :=
  loadB2 c arg1 harg1 arg2 harg2 arg3 harg3 arg10 harg10 arg11 x0 x1 x2 xs0 0 7 (by decide) (by decide) inb_S3x8x264x128_S1x1x256x128_2_0_7_0

theorem v368B : kernelRun0_B.sl.v368 c arg1 harg1 arg2 harg2 arg3 harg3 arg10 harg10 arg11 x0 x1 x2 xs0 = slab (rowsFrom (haloOf xs0) (Pslot (rowsB c arg1 harg1 arg2 harg2 arg11 x0 x1) x2) 2 7 (by decide)) 1 :=
  loadB2 c arg1 harg1 arg2 harg2 arg3 harg3 arg10 harg10 arg11 x0 x1 x2 xs0 1 7 (by decide) (by decide) inb_S3x8x264x128_S1x1x256x128_2_1_7_0

theorem v370B : kernelRun0_B.sl.v370 c arg1 harg1 arg2 harg2 arg3 harg3 arg10 harg10 arg11 x0 x1 x2 xs0 = slab (rowsFrom (haloOf xs0) (Pslot (rowsB c arg1 harg1 arg2 harg2 arg11 x0 x1) x2) 2 7 (by decide)) 2 :=
  loadB2 c arg1 harg1 arg2 harg2 arg3 harg3 arg10 harg10 arg11 x0 x1 x2 xs0 2 7 (by decide) (by decide) inb_S3x8x264x128_S1x1x256x128_2_2_7_0

theorem v372B : kernelRun0_B.sl.v372 c arg1 harg1 arg2 harg2 arg3 harg3 arg10 harg10 arg11 x0 x1 x2 xs0 = slab (rowsFrom (haloOf xs0) (Pslot (rowsB c arg1 harg1 arg2 harg2 arg11 x0 x1) x2) 2 7 (by decide)) 3 :=
  loadB2 c arg1 harg1 arg2 harg2 arg3 harg3 arg10 harg10 arg11 x0 x1 x2 xs0 3 7 (by decide) (by decide) inb_S3x8x264x128_S1x1x256x128_2_3_7_0

theorem v374B : kernelRun0_B.sl.v374 c arg1 harg1 arg2 harg2 arg3 harg3 arg10 harg10 arg11 x0 x1 x2 xs0 = slab (rowsFrom (haloOf xs0) (Pslot (rowsB c arg1 harg1 arg2 harg2 arg11 x0 x1) x2) 2 7 (by decide)) 4 :=
  loadB2 c arg1 harg1 arg2 harg2 arg3 harg3 arg10 harg10 arg11 x0 x1 x2 xs0 4 7 (by decide) (by decide) inb_S3x8x264x128_S1x1x256x128_2_4_7_0

theorem v376B : kernelRun0_B.sl.v376 c arg1 harg1 arg2 harg2 arg3 harg3 arg10 harg10 arg11 x0 x1 x2 xs0 = slab (rowsFrom (haloOf xs0) (Pslot (rowsB c arg1 harg1 arg2 harg2 arg11 x0 x1) x2) 2 7 (by decide)) 5 :=
  loadB2 c arg1 harg1 arg2 harg2 arg3 harg3 arg10 harg10 arg11 x0 x1 x2 xs0 5 7 (by decide) (by decide) inb_S3x8x264x128_S1x1x256x128_2_5_7_0

theorem v378B : kernelRun0_B.sl.v378 c arg1 harg1 arg2 harg2 arg3 harg3 arg10 harg10 arg11 x0 x1 x2 xs0 = slab (rowsFrom (haloOf xs0) (Pslot (rowsB c arg1 harg1 arg2 harg2 arg11 x0 x1) x2) 2 7 (by decide)) 6 :=
  loadB2 c arg1 harg1 arg2 harg2 arg3 harg3 arg10 harg10 arg11 x0 x1 x2 xs0 6 7 (by decide) (by decide) inb_S3x8x264x128_S1x1x256x128_2_6_7_0

theorem v380B : kernelRun0_B.sl.v380 c arg1 harg1 arg2 harg2 arg3 harg3 arg10 harg10 arg11 x0 x1 x2 xs0 = slab (rowsFrom (haloOf xs0) (Pslot (rowsB c arg1 harg1 arg2 harg2 arg11 x0 x1) x2) 2 7 (by decide)) 7 :=
  loadB2 c arg1 harg1 arg2 harg2 arg3 harg3 arg10 harg10 arg11 x0 x1 x2 xs0 7 7 (by decide) (by decide) inb_S3x8x264x128_S1x1x256x128_2_7_7_0

theorem v387B : kernelRun0_B.sl.v387 c arg1 harg1 arg2 harg2 arg3 harg3 arg10 harg10 arg11 x0 x1 x2 xs0 = slab (rowsFrom (haloOf xs0) (Pslot (rowsB c arg1 harg1 arg2 harg2 arg11 x0 x1) x2) 2 8 (by decide)) 0 :=
  loadB2 c arg1 harg1 arg2 harg2 arg3 harg3 arg10 harg10 arg11 x0 x1 x2 xs0 0 8 (by decide) (by decide) inb_S3x8x264x128_S1x1x256x128_2_0_8_0

theorem v389B : kernelRun0_B.sl.v389 c arg1 harg1 arg2 harg2 arg3 harg3 arg10 harg10 arg11 x0 x1 x2 xs0 = slab (rowsFrom (haloOf xs0) (Pslot (rowsB c arg1 harg1 arg2 harg2 arg11 x0 x1) x2) 2 8 (by decide)) 1 :=
  loadB2 c arg1 harg1 arg2 harg2 arg3 harg3 arg10 harg10 arg11 x0 x1 x2 xs0 1 8 (by decide) (by decide) inb_S3x8x264x128_S1x1x256x128_2_1_8_0

theorem v391B : kernelRun0_B.sl.v391 c arg1 harg1 arg2 harg2 arg3 harg3 arg10 harg10 arg11 x0 x1 x2 xs0 = slab (rowsFrom (haloOf xs0) (Pslot (rowsB c arg1 harg1 arg2 harg2 arg11 x0 x1) x2) 2 8 (by decide)) 2 :=
  loadB2 c arg1 harg1 arg2 harg2 arg3 harg3 arg10 harg10 arg11 x0 x1 x2 xs0 2 8 (by decide) (by decide) inb_S3x8x264x128_S1x1x256x128_2_2_8_0

theorem v393B : kernelRun0_B.sl.v393 c arg1 harg1 arg2 harg2 arg3 harg3 arg10 harg10 arg11 x0 x1 x2 xs0 = slab (rowsFrom (haloOf xs0) (Pslot (rowsB c arg1 harg1 arg2 harg2 arg11 x0 x1) x2) 2 8 (by decide)) 3 :=
  loadB2 c arg1 harg1 arg2 harg2 arg3 harg3 arg10 harg10 arg11 x0 x1 x2 xs0 3 8 (by decide) (by decide) inb_S3x8x264x128_S1x1x256x128_2_3_8_0

theorem v395B : kernelRun0_B.sl.v395 c arg1 harg1 arg2 harg2 arg3 harg3 arg10 harg10 arg11 x0 x1 x2 xs0 = slab (rowsFrom (haloOf xs0) (Pslot (rowsB c arg1 harg1 arg2 harg2 arg11 x0 x1) x2) 2 8 (by decide)) 4 :=
  loadB2 c arg1 harg1 arg2 harg2 arg3 harg3 arg10 harg10 arg11 x0 x1 x2 xs0 4 8 (by decide) (by decide) inb_S3x8x264x128_S1x1x256x128_2_4_8_0

theorem v397B : kernelRun0_B.sl.v397 c arg1 harg1 arg2 harg2 arg3 harg3 arg10 harg10 arg11 x0 x1 x2 xs0 = slab (rowsFrom (haloOf xs0) (Pslot (rowsB c arg1 harg1 arg2 harg2 arg11 x0 x1) x2) 2 8 (by decide)) 5 :=
  loadB2 c arg1 harg1 arg2 harg2 arg3 harg3 arg10 harg10 arg11 x0 x1 x2 xs0 5 8 (by decide) (by decide) inb_S3x8x264x128_S1x1x256x128_2_5_8_0

theorem v399B : kernelRun0_B.sl.v399 c arg1 harg1 arg2 harg2 arg3 harg3 arg10 harg10 arg11 x0 x1 x2 xs0 = slab (rowsFrom (haloOf xs0) (Pslot (rowsB c arg1 harg1 arg2 harg2 arg11 x0 x1) x2) 2 8 (by decide)) 6 :=
  loadB2 c arg1 harg1 arg2 harg2 arg3 harg3 arg10 harg10 arg11 x0 x1 x2 xs0 6 8 (by decide) (by decide) inb_S3x8x264x128_S1x1x256x128_2_6_8_0

theorem v401B : kernelRun0_B.sl.v401 c arg1 harg1 arg2 harg2 arg3 harg3 arg10 harg10 arg11 x0 x1 x2 xs0 = slab (rowsFrom (haloOf xs0) (Pslot (rowsB c arg1 harg1 arg2 harg2 arg11 x0 x1) x2) 2 8 (by decide)) 7 :=
  loadB2 c arg1 harg1 arg2 harg2 arg3 harg3 arg10 harg10 arg11 x0 x1 x2 xs0 7 8 (by decide) (by decide) inb_S3x8x264x128_S1x1x256x128_2_7_8_0

/-- The point's first result. -/
theorem out7B_apply (y : S256x10240.Idx) : out0_B_7 c i arg1 harg1 arg2 harg2 arg3 harg3 arg4 harg4 arg5 harg5 arg6 harg6 arg7 harg7 arg8 harg8 arg9 harg9 arg10 harg10 arg11 harg11 hc0 hc1 x0 x1 x2 x3 x4 x5 x6 xs0 y = Uout (haloOf xs0) (rowsB c arg1 harg1 arg2 harg2 arg11 x0 x1) x2 x4 x5 x6 y := by
  unfold out0_B_7
  rw [View.read_writes_junk_eq_canon]
  unfold kernelRun0_B
  dsimp only
  refine out_of_pieces (haloOf xs0) (rowsB c arg1 harg1 arg2 harg2 arg11 x0 x1) x2 x4 x5 x6 _ y ?_ ?_
  · have b1 : (y 1).val < 10240 := (y 1).isLt
    obtain h | h | h | h | h | h | h | h | h | h : (y 1).val / 1024 = 9 ∨ (y 1).val / 1024 = 8 ∨ (y 1).val / 1024 = 7 ∨ (y 1).val / 1024 = 6 ∨ (y 1).val / 1024 = 5 ∨ (y 1).val / 1024 = 4 ∨ (y 1).val / 1024 = 3 ∨ (y 1).val / 1024 = 2 ∨ (y 1).val / 1024 = 1 ∨ (y 1).val / 1024 = 0 := by omega
    · exact ⟨_, .head _, col_mem 9 9216 rfl inb_S256x10240_S256x1024_0_9216 y h⟩
    · exact ⟨_, .tail _ (.head _), col_mem 8 8192 rfl inb_S256x10240_S256x1024_0_8192 y h⟩
    · exact ⟨_, .tail _ (.tail _ (.head _)), col_mem 7 7168 rfl inb_S256x10240_S256x1024_0_7168 y h⟩
    · exact ⟨_, .tail _ (.tail _ (.tail _ (.head _))), col_mem 6 6144 rfl inb_S256x10240_S256x1024_0_6144 y h⟩
    · exact ⟨_, .tail _ (.tail _ (.tail _ (.tail _ (.head _)))), col_mem 5 5120 rfl inb_S256x10240_S256x1024_0_5120 y h⟩
    · exact ⟨_, .tail _ (.tail _ (.tail _ (.tail _ (.tail _ (.head _))))), col_mem 4 4096 rfl inb_S256x10240_S256x1024_0_4096 y h⟩
    · exact ⟨_, .tail _ (.tail _ (.tail _ (.tail _ (.tail _ (.tail _ (.head _)))))), col_mem 3 3072 rfl inb_S256x10240_S256x1024_0_3072 y h⟩
    · exact ⟨_, .tail _ (.tail _ (.tail _ (.tail _ (.tail _ (.tail _ (.tail _ (.head _))))))), col_mem 2 2048 rfl inb_S256x10240_S256x1024_0_2048 y h⟩
    · exact ⟨_, .tail _ (.tail _ (.tail _ (.tail _ (.tail _ (.tail _ (.tail _ (.tail _ (.head _)))))))), col_mem 1 1024 rfl inb_S256x10240_S256x1024_0_1024 y h⟩
    · exact ⟨_, .tail _ (.tail _ (.tail _ (.tail _ (.tail _ (.tail _ (.tail _ (.tail _ (.tail _ (.head _))))))))), col_mem 0 0 rfl inb_S256x10240_S256x1024_0_0 y h⟩
  refine ⟨col_piece (haloOf xs0) (rowsB c arg1 harg1 arg2 harg2 arg11 x0 x1) x2 x4 x5 x6 9 9216 rfl inb_S256x10240_S256x1024_0_9216 _ (fun r k => ?_),
    col_piece (haloOf xs0) (rowsB c arg1 harg1 arg2 harg2 arg11 x0 x1) x2 x4 x5 x6 8 8192 rfl inb_S256x10240_S256x1024_0_8192 _ (fun r k => ?_),
    col_piece (haloOf xs0) (rowsB c arg1 harg1 arg2 harg2 arg11 x0 x1) x2 x4 x5 x6 7 7168 rfl inb_S256x10240_S256x1024_0_7168 _ (fun r k => ?_),
    col_piece (haloOf xs0) (rowsB c arg1 harg1 arg2 harg2 arg11 x0 x1) x2 x4 x5 x6 6 6144 rfl inb_S256x10240_S256x1024_0_6144 _ (fun r k => ?_),
    col_piece (haloOf xs0) (rowsB c arg1 harg1 arg2 harg2 arg11 x0 x1) x2 x4 x5 x6 5 5120 rfl inb_S256x10240_S256x1024_0_5120 _ (fun r k => ?_),
    col_piece (haloOf xs0) (rowsB c arg1 harg1 arg2 harg2 arg11 x0 x1) x2 x4 x5 x6 4 4096 rfl inb_S256x10240_S256x1024_0_4096 _ (fun r k => ?_),
    col_piece (haloOf xs0) (rowsB c arg1 harg1 arg2 harg2 arg11 x0 x1) x2 x4 x5 x6 3 3072 rfl inb_S256x10240_S256x1024_0_3072 _ (fun r k => ?_),
    col_piece (haloOf xs0) (rowsB c arg1 harg1 arg2 harg2 arg11 x0 x1) x2 x4 x5 x6 2 2048 rfl inb_S256x10240_S256x1024_0_2048 _ (fun r k => ?_),
    col_piece (haloOf xs0) (rowsB c arg1 harg1 arg2 harg2 arg11 x0 x1) x2 x4 x5 x6 1 1024 rfl inb_S256x10240_S256x1024_0_1024 _ (fun r k => ?_),
    col_piece (haloOf xs0) (rowsB c arg1 harg1 arg2 harg2 arg11 x0 x1) x2 x4 x5 x6 0 0 rfl inb_S256x10240_S256x1024_0_0 _ (fun r k => ?_), trivial⟩
  · unfold kernelRun0_B.sl.r_64
    refine (pay1_apply _ _ r k).trans ?_
    rw [read_cols arg3 harg3 x2 11264 (by decide)]; rfl
  · refine (pay100_apply _ _ r k).trans ?_
    rw [read_cols arg3 harg3 x2 10240 (by decide)]; rfl
  · refine (pay99_apply _ _ r k).trans ?_
    rw [read_cols arg3 harg3 x2 9216 (by decide)]; rfl
  · refine (pay98_apply _ _ r k).trans ?_
    rw [read_cols arg3 harg3 x2 8192 (by decide)]; rfl
  · refine (pay97_apply _ _ r k).trans ?_
    rw [read_cols arg3 harg3 x2 7168 (by decide)]; rfl
  · refine (pay96_apply _ _ r k).trans ?_
    rw [read_cols arg3 harg3 x2 6144 (by decide)]; rfl
  · unfold kernelRun0_B.sl.r_63 kernelRun0_B.sl.r_62 kernelRun0_B.sl.r_61 kernelRun0_B.sl.r_60 kernelRun0_B.sl.r_59 kernelRun0_B.sl.r_58 kernelRun0_B.sl.r_57 kernelRun0_B.sl.r_56 kernelRun0_B.sl.r_55 kernelRun0_B.sl.r_54 kernelRun0_B.sl.r_53 kernelRun0_B.sl.r_52 kernelRun0_B.sl.r_51 kernelRun0_B.sl.r_50 kernelRun0_B.sl.r_49 kernelRun0_B.sl.r_48 kernelRun0_B.sl.r_47 kernelRun0_B.sl.r_46 kernelRun0_B.sl.r_45 kernelRun0_B.sl.r_44 kernelRun0_B.sl.r_43 kernelRun0_B.sl.r_42 kernelRun0_B.sl.r_41 kernelRun0_B.sl.r_40 kernelRun0_B.sl.r_18 kernelRun0_B.sl.r_17
    dsimp only
    rw [v325B c arg1 harg1 arg2 harg2 arg3 harg3 arg10 harg10 arg11 x0 x1 x2 xs0, v327B c arg1 harg1 arg2 harg2 arg3 harg3 arg10 harg10 arg11 x0 x1 x2 xs0, v329B c arg1 harg1 arg2 harg2 arg3 harg3 arg10 harg10 arg11 x0 x1 x2 xs0, v331B c arg1 harg1 arg2 harg2 arg3 harg3 arg10 harg10 arg11 x0 x1 x2 xs0, v333B c arg1 harg1 arg2 harg2 arg3 harg3 arg10 harg10 arg11 x0 x1 x2 xs0, v335B c arg1 harg1 arg2 harg2 arg3 harg3 arg10 harg10 arg11 x0 x1 x2 xs0, v337B c arg1 harg1 arg2 harg2 arg3 harg3 arg10 harg10 arg11 x0 x1 x2 xs0, v339B c arg1 harg1 arg2 harg2 arg3 harg3 arg10 harg10 arg11 x0 x1 x2 xs0, v345B c arg1 harg1 arg2 harg2 arg3 harg3 arg10 harg10 arg11 x0 x1 x2 xs0, v347B c arg1 harg1 arg2 harg2 arg3 harg3 arg10 harg10 arg11 x0 x1 x2 xs0, v349B c arg1 harg1 arg2 harg2 arg3 harg3 arg10 harg10 arg11 x0 x1 x2 xs0, v351B c arg1 harg1 arg2 harg2 arg3 harg3 arg10 harg10 arg11 x0 x1 x2 xs0, v353B c arg1 harg1 arg2 harg2 arg3 harg3 arg10 harg10 arg11 x0 x1 x2 xs0, v355B c arg1 harg1 arg2 harg2 arg3 harg3 arg10 harg10 arg11 x0 x1 x2 xs0, v357B c arg1 harg1 arg2 harg2 arg3 harg3 arg10 harg10 arg11 x0 x1 x2 xs0, v359B c arg1 harg1 arg2 harg2 arg3 harg3 arg10 harg10 arg11 x0 x1 x2 xs0, v366B c arg1 harg1 arg2 harg2 arg3 harg3 arg10 harg10 arg11 x0 x1 x2 xs0, v368B c arg1 harg1 arg2 harg2 arg3 harg3 arg10 harg10 arg11 x0 x1 x2 xs0, v370B c arg1 harg1 arg2 harg2 arg3 harg3 arg10 harg10 arg11 x0 x1 x2 xs0, v372B c arg1 harg1 arg2 harg2 arg3 harg3 arg10 harg10 arg11 x0 x1 x2 xs0, v374B c arg1 harg1 arg2 harg2 arg3 harg3 arg10 harg10 arg11 x0 x1 x2 xs0, v376B c arg1 harg1 arg2 harg2 arg3 harg3 arg10 harg10 arg11 x0 x1 x2 xs0, v378B c arg1 harg1 arg2 harg2 arg3 harg3 arg10 harg10 arg11 x0 x1 x2 xs0, v380B c arg1 harg1 arg2 harg2 arg3 harg3 arg10 harg10 arg11 x0 x1 x2 xs0, v387B c arg1 harg1 arg2 harg2 arg3 harg3 arg10 harg10 arg11 x0 x1 x2 xs0, v389B c arg1 harg1 arg2 harg2 arg3 harg3 arg10 harg10 arg11 x0 x1 x2 xs0, v391B c arg1 harg1 arg2 harg2 arg3 harg3 arg10 harg10 arg11 x0 x1 x2 xs0, v393B c arg1 harg1 arg2 harg2 arg3 harg3 arg10 harg10 arg11 x0 x1 x2 xs0, v395B c arg1 harg1 arg2 harg2 arg3 harg3 arg10 harg10 arg11 x0 x1 x2 xs0, v397B c arg1 harg1 arg2 harg2 arg3 harg3 arg10 harg10 arg11 x0 x1 x2 xs0, v399B c arg1 harg1 arg2 harg2 arg3 harg3 arg10 harg10 arg11 x0 x1 x2 xs0, v401B c arg1 harg1 arg2 harg2 arg3 harg3 arg10 harg10 arg11 x0 x1 x2 xs0, read_all arg6 harg6 x5 ![0, 0] (by decide), read_all arg7 harg7 x6 ![0, 0] (by decide)]
    refine (pay95_apply (rowsFrom (haloOf xs0) (Pslot (rowsB c arg1 harg1 arg2 harg2 arg11 x0 x1) x2) 2 7 (by decide)) (rowsFrom (haloOf xs0) (Pslot (rowsB c arg1 harg1 arg2 harg2 arg11 x0 x1) x2) 2 8 (by decide)) _ r k x5 x6).trans ?_
    rw [pay84_apply (rowsFrom (haloOf xs0) (Pslot (rowsB c arg1 harg1 arg2 harg2 arg11 x0 x1) x2) 2 6 (by decide)) _ r k x5, pay77_apply (rowsFrom (haloOf xs0) (Pslot (rowsB c arg1 harg1 arg2 harg2 arg11 x0 x1) x2) 2 5 (by decide)) r k x5]
    rfl
  · unfold kernelRun0_B.sl.r_38 kernelRun0_B.sl.r_37 kernelRun0_B.sl.r_36 kernelRun0_B.sl.r_35 kernelRun0_B.sl.r_34 kernelRun0_B.sl.r_33 kernelRun0_B.sl.r_32 kernelRun0_B.sl.r_31 kernelRun0_B.sl.r_30 kernelRun0_B.sl.r_29 kernelRun0_B.sl.r_28 kernelRun0_B.sl.r_27 kernelRun0_B.sl.r_26 kernelRun0_B.sl.r_25 kernelRun0_B.sl.r_24 kernelRun0_B.sl.r_23 kernelRun0_B.sl.r_22 kernelRun0_B.sl.r_20 kernelRun0_B.sl.r_18 kernelRun0_B.sl.r_17
    dsimp only
    rw [v196B c arg1 harg1 arg2 harg2 arg3 harg3 arg10 harg10 arg11 x0 x1 x2 xs0, v198B c arg1 harg1 arg2 harg2 arg3 harg3 arg10 harg10 arg11 x0 x1 x2 xs0, v200B c arg1 harg1 arg2 harg2 arg3 harg3 arg10 harg10 arg11 x0 x1 x2 xs0, v202B c arg1 harg1 arg2 harg2 arg3 harg3 arg10 harg10 arg11 x0 x1 x2 xs0, v204B c arg1 harg1 arg2 harg2 arg3 harg3 arg10 harg10 arg11 x0 x1 x2 xs0, v206B c arg1 harg1 arg2 harg2 arg3 harg3 arg10 harg10 arg11 x0 x1 x2 xs0, v208B c arg1 harg1 arg2 harg2 arg3 harg3 arg10 harg10 arg11 x0 x1 x2 xs0, v210B c arg1 harg1 arg2 harg2 arg3 harg3 arg10 harg10 arg11 x0 x1 x2 xs0, v216B c arg1 harg1 arg2 harg2 arg3 harg3 arg10 harg10 arg11 x0 x1 x2 xs0, v218B c arg1 harg1 arg2 harg2 arg3 harg3 arg10 harg10 arg11 x0 x1 x2 xs0, v220B c arg1 harg1 arg2 harg2 arg3 harg3 arg10 harg10 arg11 x0 x1 x2 xs0, v222B c arg1 harg1 arg2 harg2 arg3 harg3 arg10 harg10 arg11 x0 x1 x2 xs0, v224B c arg1 harg1 arg2 harg2 arg3 harg3 arg10 harg10 arg11 x0 x1 x2 xs0, v226B c arg1 harg1 arg2 harg2 arg3 harg3 arg10 harg10 arg11 x0 x1 x2 xs0, v228B c arg1 harg1 arg2 harg2 arg3 harg3 arg10 harg10 arg11 x0 x1 x2 xs0, v230B c arg1 harg1 arg2 harg2 arg3 harg3 arg10 harg10 arg11 x0 x1 x2 xs0, v237B c arg1 harg1 arg2 harg2 arg3 harg3 arg10 harg10 arg11 x0 x1 x2 xs0, v239B c arg1 harg1 arg2 harg2 arg3 harg3 arg10 harg10 arg11 x0 x1 x2 xs0, v241B c arg1 harg1 arg2 harg2 arg3 harg3 arg10 harg10 arg11 x0 x1 x2 xs0, v243B c arg1 harg1 arg2 harg2 arg3 harg3 arg10 harg10 arg11 x0 x1 x2 xs0, v245B c arg1 harg1 arg2 harg2 arg3 harg3 arg10 harg10 arg11 x0 x1 x2 xs0, v247B c arg1 harg1 arg2 harg2 arg3 harg3 arg10 harg10 arg11 x0 x1 x2 xs0, v249B c arg1 harg1 arg2 harg2 arg3 harg3 arg10 harg10 arg11 x0 x1 x2 xs0, v251B c arg1 harg1 arg2 harg2 arg3 harg3 arg10 harg10 arg11 x0 x1 x2 xs0, v258B c arg1 harg1 arg2 harg2 arg3 harg3 arg10 harg10 arg11 x0 x1 x2 xs0, v260B c arg1 harg1 arg2 harg2 arg3 harg3 arg10 harg10 arg11 x0 x1 x2 xs0, v262B c arg1 harg1 arg2 harg2 arg3 harg3 arg10 harg10 arg11 x0 x1 x2 xs0, v264B c arg1 harg1 arg2 harg2 arg3 harg3 arg10 harg10 arg11 x0 x1 x2 xs0, v266B c arg1 harg1 arg2 harg2 arg3 harg3 arg10 harg10 arg11 x0 x1 x2 xs0, v268B c arg1 harg1 arg2 harg2 arg3 harg3 arg10 harg10 arg11 x0 x1 x2 xs0, v270B c arg1 harg1 arg2 harg2 arg3 harg3 arg10 harg10 arg11 x0 x1 x2 xs0, v272B c arg1 harg1 arg2 harg2 arg3 harg3 arg10 harg10 arg11 x0 x1 x2 xs0, read_all arg6 harg6 x5 ![0, 0] (by decide), read_all arg7 harg7 x6 ![0, 0] (by decide)]
    refine (pay61_apply (rowsFrom (haloOf xs0) (Pslot (rowsB c arg1 harg1 arg2 harg2 arg11 x0 x1) x2) 1 8 (by decide)) _ r k x5 x6).trans ?_
    rw [pay58_apply (rowsFrom (haloOf xs0) (Pslot (rowsB c arg1 harg1 arg2 harg2 arg11 x0 x1) x2) 1 6 (by decide)) (rowsFrom (haloOf xs0) (Pslot (rowsB c arg1 harg1 arg2 harg2 arg11 x0 x1) x2) 1 7 (by decide)) _ r k x5, pay50_apply (rowsFrom (haloOf xs0) (Pslot (rowsB c arg1 harg1 arg2 harg2 arg11 x0 x1) x2) 1 5 (by decide)) r k x5]
    rfl
  · refine (pay31_apply _ _ r k).trans ?_
    rw [read_cols arg3 harg3 x2 3072 (by decide)]; rfl
  · unfold kernelRun0_B.sl.r_16 kernelRun0_B.sl.r_15 kernelRun0_B.sl.r_14 kernelRun0_B.sl.r_13 kernelRun0_B.sl.r_12 kernelRun0_B.sl.r_11 kernelRun0_B.sl.r_10 kernelRun0_B.sl.r_9 kernelRun0_B.sl.r_8 kernelRun0_B.sl.r_7 kernelRun0_B.sl.r_6 kernelRun0_B.sl.r_5 kernelRun0_B.sl.r_4 kernelRun0_B.sl.r_3 kernelRun0_B.sl.r_1
    dsimp only
    rw [v79B c arg1 harg1 arg2 harg2 arg3 harg3 arg10 harg10 arg11 x0 x1 x2 xs0, v81B c arg1 harg1 arg2 harg2 arg3 harg3 arg10 harg10 arg11 x0 x1 x2 xs0, v83B c arg1 harg1 arg2 harg2 arg3 harg3 arg10 harg10 arg11 x0 x1 x2 xs0, v85B c arg1 harg1 arg2 harg2 arg3 harg3 arg10 harg10 arg11 x0 x1 x2 xs0, v87B c arg1 harg1 arg2 harg2 arg3 harg3 arg10 harg10 arg11 x0 x1 x2 xs0, v89B c arg1 harg1 arg2 harg2 arg3 harg3 arg10 harg10 arg11 x0 x1 x2 xs0, v91B c arg1 harg1 arg2 harg2 arg3 harg3 arg10 harg10 arg11 x0 x1 x2 xs0, v93B c arg1 harg1 arg2 harg2 arg3 harg3 arg10 harg10 arg11 x0 x1 x2 xs0, v99B c arg1 harg1 arg2 harg2 arg3 harg3 arg10 harg10 arg11 x0 x1 x2 xs0, v101B c arg1 harg1 arg2 harg2 arg3 harg3 arg10 harg10 arg11 x0 x1 x2 xs0, v103B c arg1 harg1 arg2 harg2 arg3 harg3 arg10 harg10 arg11 x0 x1 x2 xs0, v105B c arg1 harg1 arg2 harg2 arg3 harg3 arg10 harg10 arg11 x0 x1 x2 xs0, v107B c arg1 harg1 arg2 harg2 arg3 harg3 arg10 harg10 arg11 x0 x1 x2 xs0, v109B c arg1 harg1 arg2 harg2 arg3 harg3 arg10 harg10 arg11 x0 x1 x2 xs0, v111B c arg1 harg1 arg2 harg2 arg3 harg3 arg10 harg10 arg11 x0 x1 x2 xs0, v113B c arg1 harg1 arg2 harg2 arg3 harg3 arg10 harg10 arg11 x0 x1 x2 xs0, v120B c arg1 harg1 arg2 harg2 arg3 harg3 arg10 harg10 arg11 x0 x1 x2 xs0, v122B c arg1 harg1 arg2 harg2 arg3 harg3 arg10 harg10 arg11 x0 x1 x2 xs0, v124B c arg1 harg1 arg2 harg2 arg3 harg3 arg10 harg10 arg11 x0 x1 x2 xs0, v126B c arg1 harg1 arg2 harg2 arg3 harg3 arg10 harg10 arg11 x0 x1 x2 xs0, v128B c arg1 harg1 arg2 harg2 arg3 harg3 arg10 harg10 arg11 x0 x1 x2 xs0, v130B c arg1 harg1 arg2 harg2 arg3 harg3 arg10 harg10 arg11 x0 x1 x2 xs0, v132B c arg1 harg1 arg2 harg2 arg3 harg3 arg10 harg10 arg11 x0 x1 x2 xs0, v134B c arg1 harg1 arg2 harg2 arg3 harg3 arg10 harg10 arg11 x0 x1 x2 xs0, read_all arg5 harg5 x4 ![0, 0] (by decide), read_cols arg3 harg3 x2 1024 (by decide)]
    refine (pay30_apply (rowsFrom (haloOf xs0) (Pslot (rowsB c arg1 harg1 arg2 harg2 arg11 x0 x1) x2) 0 8 (by decide)) _ r k x4 _ _).trans ?_
    rw [pay24_apply (rowsFrom (haloOf xs0) (Pslot (rowsB c arg1 harg1 arg2 harg2 arg11 x0 x1) x2) 0 7 (by decide)) _ r k x4, pay19_apply (rowsFrom (haloOf xs0) (Pslot (rowsB c arg1 harg1 arg2 harg2 arg11 x0 x1) x2) 0 6 (by decide)) r k x4]
    rfl

/-- The point's second result. -/
theorem out8B_apply (r : Fin 256) (k : Fin 128) : out0_B_8 c i arg1 harg1 arg2 harg2 arg3 harg3 arg4 harg4 arg5 harg5 arg6 harg6 arg7 harg7 arg8 harg8 arg9 harg9 arg10 harg10 arg11 harg11 hc0 hc1 x0 x1 x2 x3 x4 x5 x6 xs0 (ix2 r k)
    = ∑ j : Fin 1024, (rowsB c arg1 harg1 arg2 harg2 arg11 x0 x1) (ix2 r j) * x3 (ix2 j k) := by
  unfold out0_B_8
  rw [View.read_writes_junk_eq_canon]
  unfold kernelRun0_B
  dsimp only
  rw [View.canon_cons_unit_lit _ _ _ (by decide), read_all arg4 harg4 x3 ![0, 0] (by decide)]
  exact pay5_apply _ x3 r k

end Cert.Proof.Proj

end
-- ==== Proof.ProjVal.lean ====
/- Hand-written: each grid point of the projection call as rows of the whole arrays (`flushed7_eq`, `flushed8_eq`), and the two result
   arrays (`final7`, `final8`). Grid point `t` writes rows `256 t` to `256 t + 255`; 32 points in a row make one sequence. The scratch a
   point leaves ends with its own last eight rows, so the rows before a block are known without going further back than one point. -/
module

public import proofs.«01_k».proof.Proof.ProjRef
public import proofs.«01_k».proof.Proof.ProjCaseA
public import proofs.«01_k».proof.Proof.ProjCaseB
public import Idealize.ShloMosaic.Lib.StableHlo.Run

@[expose] public section

noncomputable section

namespace Cert.Proof.Proj

open Cert.Kernel3Ideal Cert.Kernel3Ideal.Gen Idealize.ShloMosaic Idealize.ShloMosaic.TcCoe Idealize.SL.Sem
open Cert.Kernel3Ideal.Value (flushed7_A flushed7_B flushed8_A flushed8_B)
open Cert.Proof.Mlp (rowRms row)
open Idealize.ShloMosaic.Pipeline (Dat)

/-- Row `r` of point `t`'s block, in the array. -/
def arow (t : Fin cfg0.N) (r : Fin 256) : Fin 32768 :=
  ⟨256 * t.val + r.val, by have := t.isLt; have hN : cfg0.N = 128 := N_0; omega⟩

/-- The sequence of point `t`. -/
def seq (t : Fin cfg0.N) : Fin 4 := ⟨t.val / 32, by have := t.isLt; have hN : cfg0.N = 128 := N_0; omega⟩

/-- The token of row `r` of point `t` in its sequence. -/
def tok (t : Fin cfg0.N) (r : Fin 256) : Fin 8192 := ⟨t.val % 32 * 256 + r.val, by omega⟩

theorem row_seq_tok (t : Fin cfg0.N) (r : Fin 256) : row (seq t) (tok t r) = arow t r :=
  Fin.ext (by show t.val / 32 * 8192 + (t.val % 32 * 256 + r.val) = 256 * t.val + r.val; omega)

section point
variable (X0 : S32768x1024.Idx → EReal) (X1 : Cert.Reference3Ideal.S1024.Idx → EReal) (X2 : S1024x12288.Idx → EReal) (X4 : S3x1024.Idx → EReal)
  (X5 : S4x2048.Idx → EReal) (X6 : Cert.Reference3Ideal.S2048.Idx → EReal) (t : Fin cfg0.N) (halo : Fin 3 → Fin 8 → Fin 1024 → EReal)
  (h : Vec Ideal S256x1024 .bf16) (x6 : Vec Ideal S1x2048 .f32)
  (hh : ∀ r j, h (ix2 r j) = nrm X0 X1 (arow t r) j)
  (h6 : ∀ k : Fin 2048, x6 (ix2 0 k) = X6 (ix1 k))
  (h0 : t.val % 32 = 0 → ∀ a r k, halo a r k = 0)
  (h1 : ¬ t.val % 32 = 0 → ∀ (a : Fin 3) (r : Fin 8) (k : Fin 1024) (R : Fin 32768), R.val + 8 = 256 * t.val + r.val → halo a r k = srcs X0 X1 X2 a R k)
include hh

theorem mm_eq (n : ℕ) (hn : n + 1024 ≤ 12288) (r : Fin 256) (k : Fin 1024) :
    mm h (cols X2 n hn) r k = pr X0 X1 X2 (arow t r) ⟨n + k.val, by omega⟩ := by
  unfold mm pr
  exact Finset.sum_congr rfl fun j _ => by rw [hh]; rfl

theorem Pslot_eq (a : Fin 3) (r : Fin 256) (k : Fin 1024) : Pslot h X2 a r k = srcs X0 X1 X2 a (arow t r) k := by
  match a with
  | 0 =>
    show mm h (cols X2 2048 _) r k * mm h (cols X2 0 _) r k = _
    rw [mm_eq X0 X1 X2 t h hh, mm_eq X0 X1 X2 t h hh]
    exact congrArg (fun n => pr X0 X1 X2 (arow t r) ⟨2048 + k.val, by omega⟩ * pr X0 X1 X2 (arow t r) n) (Fin.ext (Nat.zero_add _))
  | 1 => exact mm_eq X0 X1 X2 t h hh 4096 (by decide) r k
  | 2 => exact mm_eq X0 X1 X2 t h hh 5120 (by decide) r k

include h0 h1

theorem rowsFrom_eq (a : Fin 3) (off d : ℕ) (ho : off ≤ 8) (hd : off + d = 8) (r : Fin 256) (k : Fin 1024) :
    rowsFrom halo (Pslot h X2) a off ho r k = sh (seq t) (tok t r) d (fun R => srcs X0 X1 X2 a R k) := by
  have ht : (tok t r).val = t.val % 32 * 256 + r.val := rfl
  have hs : ∀ s : Fin 8192, (row (seq t) s).val = t.val / 32 * 8192 + s.val := fun _ => rfl
  unfold rowsFrom Fr sh
  by_cases hr : r.val + off < 8
  · rw [dif_pos hr]
    by_cases hz : t.val % 32 = 0
    · rw [h0 hz, dif_neg (by omega)]
    · rw [dif_pos (by omega)]
      exact h1 hz a _ k _ (by rw [hs]; show t.val / 32 * 8192 + ((tok t r).val - d) + 8 = 256 * t.val + (r.val + off); omega)
  · rw [dif_neg hr, dif_pos (by omega), Pslot_eq X0 X1 X2 t h hh]
    exact congrArg (fun R => srcs X0 X1 X2 a R k) (Fin.ext (by
      rw [hs]; show 256 * t.val + (r.val + off - 8) = t.val / 32 * 8192 + ((tok t r).val - d); omega))

include h6

/-- A point's block of the first result is its rows of the whole. -/
theorem Ublk_eq (n : Fin 10) (r : Fin 256) (k : Fin 1024) :
    Ublk halo h X2 X4 X5 x6 n r k = Rblk X0 X1 X2 X4 X5 X6 siluT sigT (seq t) (tok t r) n k := by
  have hm := mm_eq X0 X1 X2 t h hh
  have hf := rowsFrom_eq X0 X1 X2 t halo h hh h0 h1
  match n with
  | 0 =>
    show mm h (cols X2 1024 _) r k * conv3 _ _ _ X4 r k = pr X0 X1 X2 (row (seq t) (tok t r)) _ * cv3 X4 _ _ _ k
    rw [hm, row_seq_tok]
    unfold conv3 cv3
    rw [hf 0 6 2 _ rfl, hf 0 7 1 _ rfl, hf 0 8 0 _ rfl]
  | 2 =>
    show siluT (conv4 _ _ _ _ X5 x6 r k _) = siluT (cv4 X5 X6 _ _ _ _)
    unfold conv4 cv4
    rw [hf 1 5 3 _ rfl, hf 1 6 2 _ rfl, hf 1 7 1 _ rfl, hf 1 8 0 _ rfl, h6]
  | 3 =>
    show siluT (conv4 _ _ _ _ X5 x6 r k _) = siluT (cv4 X5 X6 _ _ _ _)
    unfold conv4 cv4
    rw [hf 2 5 3 _ rfl, hf 2 6 2 _ rfl, hf 2 7 1 _ rfl, hf 2 8 0 _ rfl, h6]
  | 1 =>
    show siluT (mm h (cols X2 3072 (by decide)) r k) = siluT (pr X0 X1 X2 (row (seq t) (tok t r)) ⟨3072 + k.val, by omega⟩)
    rw [hm, row_seq_tok]
  | 4 =>
    show mm h (cols X2 6144 (by decide)) r k = pr X0 X1 X2 (row (seq t) (tok t r)) ⟨6144 + k.val, by omega⟩
    rw [hm, row_seq_tok]
  | 5 =>
    show mm h (cols X2 7168 (by decide)) r k = pr X0 X1 X2 (row (seq t) (tok t r)) ⟨7168 + k.val, by omega⟩
    rw [hm, row_seq_tok]
  | 6 =>
    show siluT (mm h (cols X2 8192 (by decide)) r k) = siluT (pr X0 X1 X2 (row (seq t) (tok t r)) ⟨8192 + k.val, by omega⟩)
    rw [hm, row_seq_tok]
  | 7 =>
    show sigT (mm h (cols X2 9216 (by decide)) r k) = sigT (pr X0 X1 X2 (row (seq t) (tok t r)) ⟨9216 + k.val, by omega⟩)
    rw [hm, row_seq_tok]
  | 8 =>
    show sigT (mm h (cols X2 10240 (by decide)) r k) = sigT (pr X0 X1 X2 (row (seq t) (tok t r)) ⟨10240 + k.val, by omega⟩)
    rw [hm, row_seq_tok]
  | 9 =>
    show sigT (mm h (cols X2 11264 (by decide)) r k) = sigT (pr X0 X1 X2 (row (seq t) (tok t r)) ⟨11264 + k.val, by omega⟩)
    rw [hm, row_seq_tok]

end point

section arrays
variable (m : (ℓ : Loc nD τ sig) → Buf (Elt Ideal) ℓ)

theorem V_v0 (c : Dev nD) (k : Fin 1024) : V m c main_v0 (ix2 0 k) = m ((c : Thread nD τ).loc main_arg1) (ix1 k) := by
  have h : V m c main_v0 = broadcastInDim S1x1024 ![1] bcast_S1024_S1x1024_1 (m ((c : Thread nD τ).loc main_arg1)) := by
    show StableHlo.after hostOps0 _ (Proc.devRef .tc main_v0) = _
    after_results
  rw [h]
  pointwise

theorem V_v1 (c : Dev nD) (k : Fin 2048) : V m c main_v1 (ix2 0 k) = m ((c : Thread nD τ).loc main_arg6) (ix1 k) := by
  have h : V m c main_v1 = broadcastInDim S1x2048 ![1] bcast_S2048_S1x2048_1 (m ((c : Thread nD τ).loc main_arg6)) := by
    show StableHlo.after hostOps0 _ (Proc.devRef .tc main_v1) = _
    after_results
  rw [h]
  pointwise

theorem idx0 : ∀ t : Fin cfg0.N, win0_0.index t 0 = t.val ∧ win0_0.index t 1 = 0 := (by decide +kernel : ∀ t : Fin grid0.N, _)
theorem idx7 : ∀ t : Fin cfg0.N, win0_7.index t 0 = t.val ∧ win0_7.index t 1 = 0 := (by decide +kernel : ∀ t : Fin grid0.N, _)
theorem idx8 : ∀ t : Fin cfg0.N, win0_8.index t 0 = t.val ∧ win0_8.index t 1 = 0 := (by decide +kernel : ∀ t : Fin grid0.N, _)
theorem idx1 : ∀ t : Fin cfg0.N, win0_1.index t 0 = 0 ∧ win0_1.index t 1 = 0 := (by decide +kernel : ∀ t : Fin grid0.N, _)
theorem idx2 : ∀ t : Fin cfg0.N, win0_2.index t 0 = 0 ∧ win0_2.index t 1 = 0 := (by decide +kernel : ∀ t : Fin grid0.N, _)
theorem idx3 : ∀ t : Fin cfg0.N, win0_3.index t 0 = 0 ∧ win0_3.index t 1 = 0 := (by decide +kernel : ∀ t : Fin grid0.N, _)
theorem idx4 : ∀ t : Fin cfg0.N, win0_4.index t 0 = 0 ∧ win0_4.index t 1 = 0 := (by decide +kernel : ∀ t : Fin grid0.N, _)
theorem idx5 : ∀ t : Fin cfg0.N, win0_5.index t 0 = 0 ∧ win0_5.index t 1 = 0 := (by decide +kernel : ∀ t : Fin grid0.N, _)
theorem idx6 : ∀ t : Fin cfg0.N, win0_6.index t 0 = 0 ∧ win0_6.index t 1 = 0 := (by decide +kernel : ∀ t : Fin grid0.N, _)

theorem emb0 (t : Fin cfg0.N) (r : Fin 256) (k : Fin 1024) : ((cfg0.win 0).blk t).view.emb (ix2 r k) = ix2 (arow t r) k := by
  obtain ⟨e0, e1⟩ := idx0 t
  funext a; apply Fin.ext
  match a with
  | ⟨0, _⟩ => show win0_0.index t 0 * 256 + 1 * r.val = 256 * t.val + r.val; omega
  | ⟨1, _⟩ => show win0_0.index t 1 * 1024 + 1 * k.val = k.val; omega

theorem emb7 (t : Fin cfg0.N) (r : Fin 256) (k : Fin 10240) : ((cfg0.win 7).blk t).view.emb (ix2 r k) = ix2 (arow t r) k := by
  obtain ⟨e0, e1⟩ := idx7 t
  funext a; apply Fin.ext
  match a with
  | ⟨0, _⟩ => show win0_7.index t 0 * 256 + 1 * r.val = 256 * t.val + r.val; omega
  | ⟨1, _⟩ => show win0_7.index t 1 * 10240 + 1 * k.val = k.val; omega

theorem emb8 (t : Fin cfg0.N) (r : Fin 256) (k : Fin 128) : ((cfg0.win 8).blk t).view.emb (ix2 r k) = ix2 (arow t r) k := by
  obtain ⟨e0, e1⟩ := idx8 t
  funext a; apply Fin.ext
  match a with
  | ⟨0, _⟩ => show win0_8.index t 0 * 256 + 1 * r.val = 256 * t.val + r.val; omega
  | ⟨1, _⟩ => show win0_8.index t 1 * 128 + 1 * k.val = k.val; omega

theorem iblk0 (c : Dev nD) (t : Fin cfg0.N) (r : Fin 256) (k : Fin 1024) :
    iblk m c 0 t (ix2 r k) = m ((c : Thread nD τ).loc main_arg0) (ix2 (arow t r) k) := by
  show V m c main_arg0 (((cfg0.win 0).blk t).view.emb (ix2 r k)) = _
  rw [emb0, V_main_arg0]

theorem iblk1 (c : Dev nD) (t : Fin cfg0.N) (k : Fin 1024) :
    iblk m c 1 t (ix2 0 k) = m ((c : Thread nD τ).loc main_arg1) (ix1 k) := by
  show V m c main_v0 (((cfg0.win 1).blk t).view.emb (ix2 0 k)) = _
  rw [show ((cfg0.win 1).blk t).view.emb (ix2 0 k) = ix2 0 k from by
    obtain ⟨e0, e1⟩ := idx1 t
    funext a; apply Fin.ext
    match a with
    | ⟨0, _⟩ => show win0_1.index t 0 * 1 + 1 * 0 = 0; omega
    | ⟨1, _⟩ => show win0_1.index t 1 * 1024 + 1 * k.val = k.val; omega]
  exact V_v0 m c k

theorem iblk6 (c : Dev nD) (t : Fin cfg0.N) (k : Fin 2048) :
    iblk m c 6 t (ix2 0 k) = m ((c : Thread nD τ).loc main_arg6) (ix1 k) := by
  show V m c main_v1 (((cfg0.win 6).blk t).view.emb (ix2 0 k)) = _
  rw [show ((cfg0.win 6).blk t).view.emb (ix2 0 k) = ix2 0 k from by
    obtain ⟨e0, e1⟩ := idx6 t
    funext a; apply Fin.ext
    match a with
    | ⟨0, _⟩ => show win0_6.index t 0 * 1 + 1 * 0 = 0; omega
    | ⟨1, _⟩ => show win0_6.index t 1 * 2048 + 1 * k.val = k.val; omega]
  exact V_v1 m c k

theorem iblk2 (c : Dev nD) (t : Fin cfg0.N) : iblk m c 2 t = m ((c : Thread nD τ).loc main_arg2) := by
  funext y
  show V m c main_arg2 (((cfg0.win 2).blk t).view.emb y) = _
  rw [show ((cfg0.win 2).blk t).view.emb y = y from by
    obtain ⟨e0, e1⟩ := idx2 t
    funext a; apply Fin.ext
    match a with
    | ⟨0, _⟩ => show win0_2.index t 0 * 1024 + 1 * (y 0).val = (y 0).val; omega
    | ⟨1, _⟩ => show win0_2.index t 1 * 12288 + 1 * (y 1).val = (y 1).val; omega, V_main_arg2]

theorem iblk3 (c : Dev nD) (t : Fin cfg0.N) : iblk m c 3 t = m ((c : Thread nD τ).loc main_arg3) := by
  funext y
  show V m c main_arg3 (((cfg0.win 3).blk t).view.emb y) = _
  rw [show ((cfg0.win 3).blk t).view.emb y = y from by
    obtain ⟨e0, e1⟩ := idx3 t
    funext a; apply Fin.ext
    match a with
    | ⟨0, _⟩ => show win0_3.index t 0 * 1024 + 1 * (y 0).val = (y 0).val; omega
    | ⟨1, _⟩ => show win0_3.index t 1 * 128 + 1 * (y 1).val = (y 1).val; omega, V_main_arg3]

theorem iblk4 (c : Dev nD) (t : Fin cfg0.N) : iblk m c 4 t = m ((c : Thread nD τ).loc main_arg4) := by
  funext y
  show V m c main_arg4 (((cfg0.win 4).blk t).view.emb y) = _
  rw [show ((cfg0.win 4).blk t).view.emb y = y from by
    obtain ⟨e0, e1⟩ := idx4 t
    funext a; apply Fin.ext
    match a with
    | ⟨0, _⟩ => show win0_4.index t 0 * 3 + 1 * (y 0).val = (y 0).val; omega
    | ⟨1, _⟩ => show win0_4.index t 1 * 1024 + 1 * (y 1).val = (y 1).val; omega, V_main_arg4]

theorem iblk5 (c : Dev nD) (t : Fin cfg0.N) : iblk m c 5 t = m ((c : Thread nD τ).loc main_arg5) := by
  funext y
  show V m c main_arg5 (((cfg0.win 5).blk t).view.emb y) = _
  rw [show ((cfg0.win 5).blk t).view.emb y = y from by
    obtain ⟨e0, e1⟩ := idx5 t
    funext a; apply Fin.ext
    match a with
    | ⟨0, _⟩ => show win0_5.index t 0 * 4 + 1 * (y 0).val = (y 0).val; omega
    | ⟨1, _⟩ => show win0_5.index t 1 * 2048 + 1 * (y 1).val = (y 1).val; omega, V_main_arg5]

/-- What the convolutions run over, of the argument arrays. -/
abbrev src (c : Dev nD) : Fin 3 → Fin 32768 → Fin 1024 → EReal :=
  srcs (m ((c : Thread nD τ).loc main_arg0)) (m ((c : Thread nD τ).loc main_arg1)) (m ((c : Thread nD τ).loc main_arg2))

/-- A normalised row of the argument arrays. -/
abbrev nr (c : Dev nD) : Fin 32768 → Fin 1024 → EReal := nrm (m ((c : Thread nD τ).loc main_arg0)) (m ((c : Thread nD τ).loc main_arg1))

theorem rowsA_nr (c : Dev nD) (t : Fin cfg0.N) (arg1 : Memref sig .tc .vmem S256x1024 .f32) (harg1 : arg1.IsWhole)
    (arg2 : Memref sig .tc .vmem S1x1024 .f32) (harg2 : arg2.IsWhole) (arg11 : Memref sig .tc .vmem S256x1024 .bf16) (r : Fin 256) (j : Fin 1024) :
    rowsA c arg1 harg1 arg2 harg2 arg11 (iblk m c 0 t) (iblk m c 1 t) (ix2 r j) = nr m c (arow t r) j := by
  rw [rowsA_apply]
  simp only [iblk0, iblk1]
  rfl

theorem rowsB_nr (c : Dev nD) (t : Fin cfg0.N) (arg1 : Memref sig .tc .vmem S256x1024 .f32) (harg1 : arg1.IsWhole)
    (arg2 : Memref sig .tc .vmem S1x1024 .f32) (harg2 : arg2.IsWhole) (arg11 : Memref sig .tc .vmem S256x1024 .bf16) (r : Fin 256) (j : Fin 1024) :
    rowsB c arg1 harg1 arg2 harg2 arg11 (iblk m c 0 t) (iblk m c 1 t) (ix2 r j) = nr m c (arow t r) j := by
  rw [rowsB_apply]
  simp only [iblk0, iblk1]
  rfl

/-- From row 8 on the scratch a point leaves is its own rows of what the convolutions run over. -/
theorem scratch_eq (c : Dev nD) (t : Fin cfg0.N) (a : Fin 3) (s : Fin 8) (l : Fin 128) (w : Fin 264) (r : Fin 256) (hw : w.val = r.val + 8) :
    (outsAt0 m c t.val t.isLt).2.2 (ix4 a s w l) = src m c a (arow t r) (lane s l) := by
  have key : ∀ (halo : Fin 3 → Fin 8 → Fin 1024 → EReal) (h : Vec Ideal S256x1024 .bf16), (∀ r j, h (ix2 r j) = nr m c (arow t r) j) →
      Gs halo (Pslot h (iblk m c 2 t)) (ix4 a s w l) = src m c a (arow t r) (lane s l) := by
    intro halo h hh
    show Fr halo (Pslot h (iblk m c 2 t)) a w (lane s l) = _
    unfold Fr
    rw [dif_neg (by omega), iblk2, Pslot_eq _ _ _ t h hh]
    exact congrArg (fun R => src m c a (arow t R) (lane s l)) (Fin.ext (by show w.val - 8 = r.val; omega))
  by_cases h0 : t.val % 32 = 0
  · rw [outsAt0_A m c t h0 (not_not.mpr h0)]
    dsimp only
    exact (soutA_apply ..).trans (key _ _ (rowsA_nr m c t _ _ _ _ _))
  · rw [outsAt0_B m c t h0 h0]
    dsimp only
    exact (soutB_apply ..).trans (key _ _ (rowsB_nr m c t _ _ _ _ _))

/-- The rows a point finds before its own. -/
theorem halo_eq (c : Dev nD) (t : Fin cfg0.N) (h0 : ¬ t.val % 32 = 0) (hlt : t.val - 1 < cfg0.N) (a : Fin 3) (r : Fin 8) (k : Fin 1024) (R : Fin 32768)
    (hR : R.val + 8 = 256 * t.val + r.val) : haloOf (outsAt0 m c (t.val - 1) hlt).2.2 a r k = src m c a R k := by
  refine (scratch_eq m c ⟨t.val - 1, hlt⟩ a _ _ _ ⟨248 + r.val, by omega⟩ (by show 256 + r.val = 248 + r.val + 8; omega)).trans ?_
  have e1 : arow ⟨t.val - 1, hlt⟩ ⟨248 + r.val, by omega⟩ = R := Fin.ext (by show 256 * (t.val - 1) + (248 + r.val) = R.val; omega)
  have e2 : lane (⟨k.val / 128, by omega⟩ : Fin 8) (⟨k.val % 128, Nat.mod_lt _ (by decide)⟩ : Fin 128) = k :=
    Fin.ext (by show 128 * (k.val / 128) + k.val % 128 = k.val; omega)
  rw [e1, e2]

/-- The first result array, with the gates as the body spells them. -/
abbrev res7 (c : Dev nD) : S32768x10240.Idx → EReal :=
  G7 (m ((c : Thread nD τ).loc main_arg0)) (m ((c : Thread nD τ).loc main_arg1)) (m ((c : Thread nD τ).loc main_arg2))
    (m ((c : Thread nD τ).loc main_arg4)) (m ((c : Thread nD τ).loc main_arg5)) (m ((c : Thread nD τ).loc main_arg6)) siluT sigT

/-- The second result array. -/
abbrev res8 (c : Dev nD) : S32768x128.Idx → EReal :=
  G8 (m ((c : Thread nD τ).loc main_arg0)) (m ((c : Thread nD τ).loc main_arg1)) (m ((c : Thread nD τ).loc main_arg3))

theorem Uout_eq (c : Dev nD) (t : Fin cfg0.N) (halo : Fin 3 → Fin 8 → Fin 1024 → EReal) (h : Vec Ideal S256x1024 .bf16)
    (hh : ∀ r j, h (ix2 r j) = nr m c (arow t r) j) (h0 : t.val % 32 = 0 → ∀ a r k, halo a r k = 0)
    (h1 : ¬ t.val % 32 = 0 → ∀ (a : Fin 3) (r : Fin 8) (k : Fin 1024) (R : Fin 32768), R.val + 8 = 256 * t.val + r.val → halo a r k = src m c a R k)
    (r : Fin 256) (k : Fin 10240) :
    Uout halo h (iblk m c 2 t) (iblk m c 4 t) (iblk m c 5 t) (iblk m c 6 t) (ix2 r k) = res7 m c (ix2 (arow t r) k) := by
  rw [iblk2, iblk4, iblk5]
  refine (Ublk_eq _ _ _ _ _ _ t halo h (iblk m c 6 t) hh (iblk6 m c t) h0 h1 _ r _).trans ?_
  have hb : seq t = ⟨(arow t r).val / 8192, by omega⟩ := Fin.ext (by show t.val / 32 = (256 * t.val + r.val) / 8192; omega)
  have hs : tok t r = ⟨(arow t r).val % 8192, Nat.mod_lt _ (by decide)⟩ := Fin.ext (by
    show t.val % 32 * 256 + r.val = (256 * t.val + r.val) % 8192; omega)
  rw [hb, hs]
  rfl

theorem flushed7_eq (c : Dev nD) (t : Fin cfg0.N) :
    (dats m 0 c).flushed 7 t = ((cfg0.win 7).blk t).view.read (Elt Ideal) (res7 m c) := by
  have hlt : t.val - 1 < cfg0.N := Nat.lt_of_le_of_lt (Nat.sub_le _ _) t.isLt
  have hR : ∀ (r : Fin 256) (k : Fin 10240), ((cfg0.win 7).blk t).view.read (Elt Ideal) (res7 m c) (ix2 r k) = res7 m c (ix2 (arow t r) k) := by
    intro r k
    show res7 m c (((cfg0.win 7).blk t).view.emb (ix2 r k)) = _
    rw [emb7]
  by_cases h0 : t.val % 32 = 0
  · rw [flushed7_A m c t h0 (not_not.mpr h0)]
    funext j
    obtain ⟨r, k, rfl⟩ : ∃ (r : Fin 256) (k : Fin 10240), j = ix2 r k := ⟨j 0, j 1, (ix2_eta j).symm⟩
    rw [hR]
    exact (out7A_apply ..).trans (Uout_eq m c t _ _ (rowsA_nr m c t _ _ _ _ _) (fun _ _ _ _ => rfl) (fun h => absurd h0 h) r k)
  · rw [flushed7_B m c t h0 h0]
    funext j
    obtain ⟨r, k, rfl⟩ : ∃ (r : Fin 256) (k : Fin 10240), j = ix2 r k := ⟨j 0, j 1, (ix2_eta j).symm⟩
    rw [hR]
    exact (out7B_apply ..).trans (Uout_eq m c t _ _ (rowsB_nr m c t _ _ _ _ _) (fun h => absurd h h0) (fun _ => halo_eq m c t h0 hlt) r k)

theorem flushed8_eq (c : Dev nD) (t : Fin cfg0.N) :
    (dats m 0 c).flushed 8 t = ((cfg0.win 8).blk t).view.read (Elt Ideal) (res8 m c) := by
  have hR : ∀ (h : Vec Ideal S256x1024 .bf16), (∀ r j, h (ix2 r j) = nr m c (arow t r) j) → ∀ (r : Fin 256) (k : Fin 128),
      ∑ j : Fin 1024, h (ix2 r j) * (iblk m c 3 t : Vec Ideal S1024x128 .bf16) (ix2 j k) = ((cfg0.win 8).blk t).view.read (Elt Ideal) (res8 m c) (ix2 r k) := by
    intro h hh r k
    show _ = res8 m c (((cfg0.win 8).blk t).view.emb (ix2 r k))
    rw [emb8, iblk3]
    simp only [hh]
    rfl
  by_cases h0 : t.val % 32 = 0
  · rw [flushed8_A m c t h0 (not_not.mpr h0)]
    funext j
    obtain ⟨r, k, rfl⟩ : ∃ (r : Fin 256) (k : Fin 128), j = ix2 r k := ⟨j 0, j 1, (ix2_eta j).symm⟩
    exact (out8A_apply ..).trans (hR _ (rowsA_nr m c t _ _ _ _ _) r k)
  · rw [flushed8_B m c t h0 h0]
    funext j
    obtain ⟨r, k, rfl⟩ : ∃ (r : Fin 256) (k : Fin 128), j = ix2 r k := ⟨j 0, j 1, (ix2_eta j).symm⟩
    exact (out8B_apply ..).trans (hR _ (rowsB_nr m c t _ _ _ _ _) r k)

theorem covered7 (i : S32768x10240.Idx) :
    ∃ t : Fin cfg0.N, (cfg0.win 7).flush t = true ∧ i ∈ ((cfg0.win 7).blk t).view.set := by
  have h0 : (i 0).val < 32768 := (i 0).isLt
  have hN : cfg0.N = 128 := N_0
  let t : Fin cfg0.N := ⟨(i 0).val / 256, by omega⟩
  refine ⟨t, flush0_7 t, ?_⟩
  have h : ix2 (arow t ⟨(i 0).val % 256, by omega⟩) (i 1) ∈ ((cfg0.win 7).blk t).view.set :=
    emb7 t ⟨(i 0).val % 256, by omega⟩ (i 1) ▸ ((cfg0.win 7).blk t).view.emb_mem_set (ix2 ⟨(i 0).val % 256, by omega⟩ (i 1))
  have e : ix2 (arow t ⟨(i 0).val % 256, by omega⟩) (i 1) = i := by
    conv_rhs => rw [← ix2_eta i]
    rw [show arow t ⟨(i 0).val % 256, by omega⟩ = i 0 from Fin.ext (by
      show 256 * ((i 0).val / 256) + (i 0).val % 256 = (i 0).val; omega)]
    rfl
  rwa [e] at h

theorem final7 (c : Dev nD) : (dats m 0 c).arrAt 7 cfg0.N = res7 m c :=
  (dats m 0 c).arrAt_eq_of_cover 7 (res7 m c) (fun t _ => flushed7_eq m c t) covered7

theorem covered8 (i : S32768x128.Idx) :
    ∃ t : Fin cfg0.N, (cfg0.win 8).flush t = true ∧ i ∈ ((cfg0.win 8).blk t).view.set := by
  have h0 : (i 0).val < 32768 := (i 0).isLt
  have hN : cfg0.N = 128 := N_0
  let t : Fin cfg0.N := ⟨(i 0).val / 256, by omega⟩
  refine ⟨t, flush0_8 t, ?_⟩
  have h : ix2 (arow t ⟨(i 0).val % 256, by omega⟩) (i 1) ∈ ((cfg0.win 8).blk t).view.set :=
    emb8 t ⟨(i 0).val % 256, by omega⟩ (i 1) ▸ ((cfg0.win 8).blk t).view.emb_mem_set (ix2 ⟨(i 0).val % 256, by omega⟩ (i 1))
  have e : ix2 (arow t ⟨(i 0).val % 256, by omega⟩) (i 1) = i := by
    conv_rhs => rw [← ix2_eta i]
    rw [show arow t ⟨(i 0).val % 256, by omega⟩ = i 0 from Fin.ext (by
      show 256 * ((i 0).val / 256) + (i 0).val % 256 = (i 0).val; omega)]
    rfl
  rwa [e] at h

theorem final8 (c : Dev nD) : (dats m 0 c).arrAt 8 cfg0.N = res8 m c :=
  (dats m 0 c).arrAt_eq_of_cover 8 (res8 m c) (fun t _ => flushed8_eq m c t) covered8

end arrays

end Cert.Proof.Proj

end
-- ==== Proof.Proj.lean ====
/- Hand-written: the projection call and its reference end with the same two arrays where the weights that reach a gate are finite
   (`algebraic`), and the frames stated beside that claim. -/
module

public import proofs.«01_k».proof.Defs
public import proofs.«01_k».proof.Proof.ProjFin
public import proofs.«01_k».proof.Proof.ProjVal
public import proofs.«01_k».proof.Proof.Gen.Reference3Ideal.Run
public import Idealize.ShloMosaic.Lib.Quiescent

@[expose] public section

noncomputable section

namespace Cert.Proof.Proj

open Idealize.ShloMosaic Idealize.ShloMosaic.TcCoe Idealize.SL.Sem

/-- The side conditions of the precondition's operations. -/
instance preFacts : Cert.Pre_finite_weights.Facts where
  bcast_S_S1024 := by decide
  bitsLt_bf16_f32 := by decide
  bcast_S_S1024x12288 := by decide
  bcast_S_S4x2048 := by decide
  bcast_S_S2048 := by decide

/-- A value whose magnitude is below infinity is a real number. -/
theorem Re.of_lt {v : EReal} (h : Ideal.cmp .olt (max v (-v)) ⊤ = 1#1) : Re v := by
  induction v using EReal.rec with
  | bot => simp [Ideal.cmp] at h
  | top => simp [Ideal.cmp] at h
  | coe r => exact ⟨r, rfl⟩

/-- What the precondition says of one device's arguments. -/
theorem pre_re (m : (ℓ : Loc Cert.Kernel3Ideal.nD Cert.Kernel3Ideal.τ Cert.Kernel3Ideal.sig) → Buf (Elt Ideal) ℓ)
    (h : Cert.Pre_Kernel3Ideal_finite_weights m) (c : Dev Cert.Kernel3Ideal.nD) :
    (∀ i, Re (m ((c.tc : Thread Cert.Kernel3Ideal.nD Cert.Kernel3Ideal.τ).loc Cert.Kernel3Ideal.main_arg1) i)) ∧ (∀ i, Re (m ((c.tc : Thread Cert.Kernel3Ideal.nD Cert.Kernel3Ideal.τ).loc Cert.Kernel3Ideal.main_arg2) i))
      ∧ (∀ i, Re (m ((c.tc : Thread Cert.Kernel3Ideal.nD Cert.Kernel3Ideal.τ).loc Cert.Kernel3Ideal.main_arg5) i)) ∧ ∀ i, Re (m ((c.tc : Thread Cert.Kernel3Ideal.nD Cert.Kernel3Ideal.τ).loc Cert.Kernel3Ideal.main_arg6) i) :=
  ⟨fun i => Re.of_lt (congrFun (h c).1 i), fun i => Re.of_lt (congrFun (h c).2.1 i), fun i => Re.of_lt (congrFun (h c).2.2.1 i),
    fun i => Re.of_lt (congrFun (h c).2.2.2 i)⟩

/-- With those weights the first result is also the reference's. -/
theorem res7_eq (m : (ℓ : Loc Cert.Kernel3Ideal.nD Cert.Kernel3Ideal.τ Cert.Kernel3Ideal.sig) → Buf (Elt Ideal) ℓ)
    (h : Cert.Pre_Kernel3Ideal_finite_weights m) (c : Dev Cert.Kernel3Ideal.nD) :
    res7 m c = G7 (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg4))
      (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) siluL sigL := by
  obtain ⟨f1, f2, f5, f6⟩ := pre_re m h c
  funext i
  exact Rblk_eq _ _ _ _ _ _ f1 f2 f5 f6 _ _ _ _

/-- The reference's frame: its arguments end as launched, and it has no semaphore. -/
theorem ref_frame : Cert.quiescent_Reference3Ideal := fun m ρ _ =>
  (θ_run _ _ _).mono (fun r h => ⟨fun c => (h c).2.2, Idealize.ShloMosaic.sem_eq_zero_of_no_sems (by decide) r.2⟩)
    (Cert.Reference3Ideal.Value.run m ρ)

/-- The kernel and the reference end with the same two arrays, at the extended reals. -/
theorem algebraic : Cert.algebraic_Kernel3Ideal_Reference3Ideal_pre_finite_weights := fun m ρ m' ρ' hpre hagree =>
  ⟨fun c => res7 m c, fun c => res8 m c,
    (θ_run _ _ _).mono (fun _ h c => ⟨(h c).1.trans (final7 m c), (h c).2.1.trans (final8 m c), (h c).2.2⟩)
      (Cert.Kernel3Ideal.Value.run_blocks m ρ),
    (θ_run _ _ _).mono (fun _ h c => ⟨(h c).1.trans (by
        obtain ⟨h0, h1, h2, h3, h4, h5, h6⟩ := hagree c
        rw [Cert.Reference3Ideal.Read.val_main_v92_eq, h0, h1, h2, h4, h5, h6]
        exact (ref0_eq _ _ _ _ _ _).trans (res7_eq m hpre c).symm), (h c).2.1.trans (by
        obtain ⟨h0, h1, h2, h3, h4, h5, h6⟩ := hagree c
        rw [Cert.Reference3Ideal.Read.val_main_v93_eq, h0, h1, h3]
        exact ref1_eq _ _ _), (h c).2.2⟩) (Cert.Reference3Ideal.Value.run m' ρ')⟩

end Cert.Proof.Proj

end
-- ==== Proof.lean ====
module

public import proofs.«01_k».proof.Defs
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.MixFrame
public import proofs.«01_k».proof.Proof.MixFrameIdeal
public import proofs.«01_k».proof.Proof.Mlp
public import proofs.«01_k».proof.Proof.First
public import proofs.«01_k».proof.Proof.Proj
public import Idealize.ShloMosaic.Adequacy
public import Idealize.ShloMosaic.Init

@[expose] public section

noncomputable section

-- The frames also say that every semaphore counter ends at zero.

namespace Cert.Proof

open Idealize.ShloMosaic Idealize.SL.Sem Cert.Kernel2

theorem claim : Cert.Claim := ⟨Cert.Kernel2.Gen.facts, Cert.Kernel2Ideal.Gen.facts, Cert.Reference2Ideal.Gen.facts, Cert.Kernel3.Gen.facts,
  Cert.Kernel3Ideal.Gen.facts, Cert.Reference3Ideal.Gen.facts, Cert.Kernel4.Gen.facts, Cert.Kernel4Ideal.Gen.facts,
  Cert.Reference4Ideal.Gen.facts, Cert.Kernel5.Gen.facts, Cert.Kernel5Ideal.Gen.facts, Proj.preFacts,
  fun m ρ _ => Cert.Kernel2.Gen.frame m ρ, fun m ρ _ => Cert.Kernel2Ideal.Gen.frame m ρ, Mlp.ref_frame,
  fun m ρ _ => Cert.Kernel3.Gen.frame m ρ, fun m ρ _ => Cert.Kernel3Ideal.Gen.frame m ρ, fun m ρ _ => Cert.Kernel3Ideal.Gen.frame m ρ,
  Proj.ref_frame, fun m ρ _ => Proj.ref_frame m ρ trivial,
  fun m ρ _ => Cert.Kernel4.Gen.frame m ρ, fun m ρ _ => Cert.Kernel4Ideal.Gen.frame m ρ, First.ref_frame,
  fun m ρ _ => Cert.Kernel5.Mix.frame_holds m ρ, fun m ρ _ => Cert.Kernel5Ideal.Mix.frame_holds m ρ, trivial, Mlp.algebraic, trivial, Proj.algebraic,
  trivial, First.algebraic, trivial⟩

end Cert.Proof

end
